-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_KernelIdeal [hPre_real_KernelIdeal : Cert.Pre_real_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_real_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_real_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_real_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_real_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_real_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_real_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_ReferenceIdeal [hPre_real_ReferenceIdeal : Cert.Pre_real_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_real_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_real_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_real_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_real_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_real_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_real_KernelIdeal [hKernelIdeal : Cert.KernelIdeal.Facts] [hPre_real_KernelIdeal : Cert.Pre_real_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_real_ReferenceIdeal [hReferenceIdeal : Cert.ReferenceIdeal.Facts] [hPre_real_ReferenceIdeal : Cert.Pre_real_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_real_KernelIdeal [hKernelIdeal : Cert.KernelIdeal.Facts] [hReferenceIdeal : Cert.ReferenceIdeal.Facts] [hPre_real_KernelIdeal : Cert.Pre_real_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 512]⟩ (Layout.meshBlock [2, 4, 4] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![512, 2048]⟩ (Layout.meshBlock [2, 4, 4] ![[2], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![512, 2048]⟩ (Layout.meshBlock [2, 4, 4] ![[2], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_real_KernelIdeal : Cert.Pre_real_KernelIdeal.Facts) (hPre_real_ReferenceIdeal : Cert.Pre_real_ReferenceIdeal.Facts),
    quiescent_Kernel (hKernel := hKernel)
    ∧ quiescent_KernelIdeal (hKernelIdeal := hKernelIdeal)
    ∧ quiescent_KernelIdeal_pre_real_KernelIdeal (hKernelIdeal := hKernelIdeal) (hPre_real_KernelIdeal := hPre_real_KernelIdeal)
    ∧ quiescent_ReferenceIdeal (hReferenceIdeal := hReferenceIdeal)
    ∧ quiescent_ReferenceIdeal_pre_real_ReferenceIdeal (hReferenceIdeal := hReferenceIdeal) (hPre_real_ReferenceIdeal := hPre_real_ReferenceIdeal)
    ∧ preserves_Kernel_KernelIdeal
    ∧ algebraic_KernelIdeal_ReferenceIdeal_pre_real_KernelIdeal (hKernelIdeal := hKernelIdeal) (hReferenceIdeal := hReferenceIdeal) (hPre_real_KernelIdeal := hPre_real_KernelIdeal)
-- ==== Pre_real_KernelIdeal.lean ====
abbrev S1x1024x2048 : Shape := ⟨3, ![1, 1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S1x1024x2048 : S_.BroadcastsInDim S1x1024x2048 (![] : Fin 0 → Fin S1x1024x2048.rank)
  bcast_S_S2048x128 : S_.BroadcastsInDim S2048x128 (![] : Fin 0 → Fin S2048x128.rank)
  bcast_S_S128x2048 : S_.BroadcastsInDim S128x2048 (![] : Fin 0 → Fin S128x2048.rank)
  bcast_S_S2048x2048 : S_.BroadcastsInDim S2048x2048 (![] : Fin 0 → Fin S2048x2048.rank)
  bcast_S_S2048x512 : S_.BroadcastsInDim S2048x512 (![] : Fin 0 → Fin S2048x512.rank)
  bcast_S_S2048x32 : S_.BroadcastsInDim S2048x32 (![] : Fin 0 → Fin S2048x32.rank)

variable [Facts]

def fn {F : FTy → Type} [FloatOps F] (main_arg0 : FVec F S1x1024x2048 .bf16) (main_arg1 : FVec F S2048x128 .bf16) (main_arg2 : FVec F S128x2048 .bf16) (main_arg3 : FVec F S128x2048 .bf16) (main_arg4 : FVec F S2048x2048 .bf16) (main_arg5 : FVec F S2048x512 .bf16) (main_arg6 : FVec F S2048x32 .bf16) (main_arg7 : FVec F S2048x2048 .bf16) : IVec S1x1024x2048 1 × IVec S2048x128 1 × IVec S128x2048 1 × IVec S2048x2048 1 × IVec S2048x512 1 × IVec S2048x32 1 :=
  let main_v0 : FVec F S1x1024x2048 .bf16 := Host.absf main_arg0
  let main_cst : FVec F S_ .bf16 := constant S_ .bf16 0x7F80#16
  let main_v1 : FVec F S1x1024x2048 .bf16 := broadcastInDim S1x1024x2048 ![] bcast_S_S1x1024x2048 main_cst
  let main_v2 : IVec S1x1024x2048 1 := cmpf .olt main_v0 main_v1
  let main_v3 : FVec F S2048x128 .bf16 := Host.absf main_arg1
  let main_cst_0 : FVec F S_ .bf16 := constant S_ .bf16 0x7F80#16
  let main_v4 : FVec F S2048x128 .bf16 := broadcastInDim S2048x128 ![] bcast_S_S2048x128 main_cst_0
  let main_v5 : IVec S2048x128 1 := cmpf .olt main_v3 main_v4
  let main_v6 : FVec F S128x2048 .bf16 := Host.absf main_arg2
  let main_cst_1 : FVec F S_ .bf16 := constant S_ .bf16 0x7F80#16
  let main_v7 : FVec F S128x2048 .bf16 := broadcastInDim S128x2048 ![] bcast_S_S128x2048 main_cst_1
  let main_v8 : IVec S128x2048 1 := cmpf .olt main_v6 main_v7
  let main_v9 : FVec F S2048x2048 .bf16 := Host.absf main_arg4
  let main_cst_2 : FVec F S_ .bf16 := constant S_ .bf16 0x7F80#16
  let main_v10 : FVec F S2048x2048 .bf16 := broadcastInDim S2048x2048 ![] bcast_S_S2048x2048 main_cst_2
  let main_v11 : IVec S2048x2048 1 := cmpf .olt main_v9 main_v10
  let main_v12 : FVec F S2048x512 .bf16 := Host.absf main_arg5
  let main_cst_3 : FVec F S_ .bf16 := constant S_ .bf16 0x7F80#16
  let main_v13 : FVec F S2048x512 .bf16 := broadcastInDim S2048x512 ![] bcast_S_S2048x512 main_cst_3
  let main_v14 : IVec S2048x512 1 := cmpf .olt main_v12 main_v13
  let main_v15 : FVec F S2048x32 .bf16 := Host.absf main_arg6
  let main_cst_4 : FVec F S_ .bf16 := constant S_ .bf16 0x7F80#16
  let main_v16 : FVec F S2048x32 .bf16 := broadcastInDim S2048x32 ![] bcast_S_S2048x32 main_cst_4
  let main_v17 : IVec S2048x32 1 := cmpf .olt main_v15 main_v16
  (main_v2, main_v5, main_v8, main_v11, main_v14, main_v17)
-- ==== Pre_real_ReferenceIdeal.lean ====
abbrev S1x1024x2048 : Shape := ⟨3, ![1, 1024, 2048]⟩
abbrev S2048x512 : Shape := ⟨2, ![2048, 512]⟩
abbrev S512x2048 : Shape := ⟨2, ![512, 2048]⟩
abbrev S2048x2048 : Shape := ⟨2, ![2048, 2048]⟩
abbrev S2048x32 : Shape := ⟨2, ![2048, 32]⟩
abbrev S_ : Shape := ⟨0, ![]⟩

class Facts : Prop where
  bcast_S_S1x1024x2048 : S_.BroadcastsInDim S1x1024x2048 (![] : Fin 0 → Fin S1x1024x2048.rank)
  bcast_S_S2048x512 : S_.BroadcastsInDim S2048x512 (![] : Fin 0 → Fin S2048x512.rank)
  bcast_S_S512x2048 : S_.BroadcastsInDim S512x2048 (![] : Fin 0 → Fin S512x2048.rank)
  bcast_S_S2048x2048 : S_.BroadcastsInDim S2048x2048 (![] : Fin 0 → Fin S2048x2048.rank)
  bcast_S_S2048x32 : S_.BroadcastsInDim S2048x32 (![] : Fin 0 → Fin S2048x32.rank)

variable [Facts]

def fn {F : FTy → Type} [FloatOps F] (main_arg0 : FVec F S1x1024x2048 .bf16) (main_arg1 : FVec F S2048x512 .bf16) (main_arg2 : FVec F S512x2048 .bf16) (main_arg3 : FVec F S512x2048 .bf16) (main_arg4 : FVec F S2048x2048 .bf16) (main_arg5 : FVec F S2048x512 .bf16) (main_arg6 : FVec F S2048x32 .bf16) (main_arg7 : FVec F S2048x2048 .bf16) : IVec S1x1024x2048 1 × IVec S2048x512 1 × IVec S512x2048 1 × IVec S2048x2048 1 × IVec S2048x512 1 × IVec S2048x32 1 :=
  let main_v0 : FVec F S1x1024x2048 .bf16 := Host.absf main_arg0
  let main_cst : FVec F S_ .bf16 := constant S_ .bf16 0x7F80#16
  let main_v1 : FVec F S1x1024x2048 .bf16 := broadcastInDim S1x1024x2048 ![] bcast_S_S1x1024x2048 main_cst
  let main_v2 : IVec S1x1024x2048 1 := cmpf .olt main_v0 main_v1
  let main_v3 : FVec F S2048x512 .bf16 := Host.absf main_arg1
  let main_cst_0 : FVec F S_ .bf16 := constant S_ .bf16 0x7F80#16
  let main_v4 : FVec F S2048x512 .bf16 := broadcastInDim S2048x512 ![] bcast_S_S2048x512 main_cst_0
  let main_v5 : IVec S2048x512 1 := cmpf .olt main_v3 main_v4
  let main_v6 : FVec F S512x2048 .bf16 := Host.absf main_arg2
  let main_cst_1 : FVec F S_ .bf16 := constant S_ .bf16 0x7F80#16
  let main_v7 : FVec F S512x2048 .bf16 := broadcastInDim S512x2048 ![] bcast_S_S512x2048 main_cst_1
  let main_v8 : IVec S512x2048 1 := cmpf .olt main_v6 main_v7
  let main_v9 : FVec F S2048x2048 .bf16 := Host.absf main_arg4
  let main_cst_2 : FVec F S_ .bf16 := constant S_ .bf16 0x7F80#16
  let main_v10 : FVec F S2048x2048 .bf16 := broadcastInDim S2048x2048 ![] bcast_S_S2048x2048 main_cst_2
  let main_v11 : IVec S2048x2048 1 := cmpf .olt main_v9 main_v10
  let main_v12 : FVec F S2048x512 .bf16 := Host.absf main_arg5
  let main_cst_3 : FVec F S_ .bf16 := constant S_ .bf16 0x7F80#16
  let main_v13 : FVec F S2048x512 .bf16 := broadcastInDim S2048x512 ![] bcast_S_S2048x512 main_cst_3
  let main_v14 : IVec S2048x512 1 := cmpf .olt main_v12 main_v13
  let main_v15 : FVec F S2048x32 .bf16 := Host.absf main_arg6
  let main_cst_4 : FVec F S_ .bf16 := constant S_ .bf16 0x7F80#16
  let main_v16 : FVec F S2048x32 .bf16 := broadcastInDim S2048x32 ![] bcast_S_S2048x32 main_cst_4
  let main_v17 : IVec S2048x32 1 := cmpf .olt main_v15 main_v16
  (main_v2, main_v5, main_v8, main_v11, main_v14, main_v17)
-- ==== Kernel.lean ====
abbrev S1x1024x2048 : Shape := ⟨3, ![1, 1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S1024x2048 : Shape := ⟨2, ![1024, 2048]⟩
abbrev S4x1024x64 : Shape := ⟨3, ![4, 1024, 64]⟩
abbrev S4x64x2048 : Shape := ⟨3, ![4, 64, 2048]⟩
abbrev S3x3 : Shape := ⟨2, ![3, 3]⟩
abbrev S_ : Shape := ⟨0, ![]⟩
abbrev S1024x128 : Shape := ⟨2, ![1024, 128]⟩
abbrev S1024x64 : Shape := ⟨2, ![1024, 64]⟩
abbrev S1x1024x64 : Shape := ⟨3, ![1, 1024, 64]⟩
abbrev S64x2048 : Shape := ⟨2, ![64, 2048]⟩
abbrev S1x64x2048 : Shape := ⟨3, ![1, 64, 2048]⟩
abbrev S1x1 : Shape := ⟨2, ![1, 1]⟩
abbrev S512x2048 : Shape := ⟨2, ![512, 2048]⟩
abbrev S1024x512 : Shape := ⟨2, ![1024, 512]⟩
abbrev S1024x32 : Shape := ⟨2, ![1024, 32]⟩
abbrev S1024x160 : Shape := ⟨2, ![1024, 160]⟩
abbrev S1024x1024 : Shape := ⟨2, ![1024, 1024]⟩
abbrev S1024x1 : Shape := ⟨2, ![1024, 1]⟩
abbrev S1024x129 : Shape := ⟨2, ![1024, 129]⟩

abbrev nBuf : Space → Nat
  | .hbm => 14
  | .vmem => 28
  | .smem => 0
  | _ => 0

abbrev bufTy : (tb : Table) → Fin (tcTables nBuf tb) → BufTy
  | .hbm, ⟨0, _⟩ => ⟨S1x1024x2048, .bf16⟩
  | .hbm, ⟨1, _⟩ => ⟨S2048x128, .bf16⟩
  | .hbm, ⟨2, _⟩ => ⟨S128x2048, .bf16⟩
  | .hbm, ⟨3, _⟩ => ⟨S128x2048, .bf16⟩
  | .hbm, ⟨4, _⟩ => ⟨S2048x2048, .bf16⟩
  | .hbm, ⟨5, _⟩ => ⟨S2048x512, .bf16⟩
  | .hbm, ⟨6, _⟩ => ⟨S2048x32, .bf16⟩
  | .hbm, ⟨7, _⟩ => ⟨S2048x2048, .bf16⟩
  | .hbm, ⟨8, _⟩ => ⟨S1024x2048, .bf16⟩
  | .hbm, ⟨9, _⟩ => ⟨S1024x2048, .bf16⟩
  | .hbm, ⟨10, _⟩ => ⟨S1024x2048, .bf16⟩
  | .hbm, ⟨11, _⟩ => ⟨S1024x2048, .bf16⟩
  | .hbm, ⟨12, _⟩ => ⟨S1024x2048, .f32⟩
  | .hbm, ⟨13, _⟩ => ⟨S1x1024x2048, .f32⟩
  | .local _ .vmem, ⟨0, _⟩ => ⟨S1024x2048, .bf16⟩
  | .local _ .vmem, ⟨1, _⟩ => ⟨S2048x128, .bf16⟩
  | .local _ .vmem, ⟨2, _⟩ => ⟨S128x2048, .bf16⟩
  | .local _ .vmem, ⟨3, _⟩ => ⟨S128x2048, .bf16⟩
  | .local _ .vmem, ⟨4, _⟩ => ⟨S1024x2048, .bf16⟩
  | .local _ .vmem, ⟨5, _⟩ => ⟨S1024x2048, .bf16⟩
  | .local _ .vmem, ⟨6, _⟩ => ⟨S4x1024x64, .bf16⟩
  | .local _ .vmem, ⟨7, _⟩ => ⟨S4x64x2048, .bf16⟩
  | .local _ .vmem, ⟨8, _⟩ => ⟨S4x64x2048, .bf16⟩
  | .local _ .vmem, ⟨9, _⟩ => ⟨S4x1024x64, .bf16⟩
  | .local _ .vmem, ⟨10, _⟩ => ⟨S4x64x2048, .bf16⟩
  | .local _ .vmem, ⟨11, _⟩ => ⟨S4x64x2048, .bf16⟩
  | .local _ .vmem, ⟨12, _⟩ => ⟨S1024x2048, .f32⟩
  | .local _ .vmem, ⟨13, _⟩ => ⟨S1024x2048, .f32⟩
  | .local _ .vmem, ⟨14, _⟩ => ⟨S1024x2048, .bf16⟩
  | .local _ .vmem, ⟨15, _⟩ => ⟨S2048x512, .bf16⟩
  | .local _ .vmem, ⟨16, _⟩ => ⟨S2048x512, .bf16⟩
  | .local _ .vmem, ⟨17, _⟩ => ⟨S2048x128, .bf16⟩
  | .local _ .vmem, ⟨18, _⟩ => ⟨S2048x128, .bf16⟩
  | .local _ .vmem, ⟨19, _⟩ => ⟨S2048x32, .bf16⟩
  | .local _ .vmem, ⟨20, _⟩ => ⟨S512x2048, .bf16⟩
  | .local _ .vmem, ⟨21, _⟩ => ⟨S512x2048, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S1024x2048, .f32⟩
  | .local _ .vmem, ⟨27, _⟩ => ⟨S1024x32, .bf16⟩
  | _, _ => ⟨S1x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 1 → Bool
  | ⟨0, _⟩ => false
  | _ => false

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  (ofTc nBuf bufTy 1 55 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_scratch0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 42
abbrev cc1_sem1_0 : DmaSem sig := 43
abbrev cc1_sem1_1 : DmaSem sig := 44
abbrev cc1_sem2_0 : DmaSem sig := 45
abbrev cc1_sem2_1 : DmaSem sig := 46
abbrev cc1_sem3_0 : DmaSem sig := 47
abbrev cc1_sem4_0 : DmaSem sig := 48
abbrev cc1_sem4_1 : DmaSem sig := 49
abbrev cc1_sem5_0 : DmaSem sig := 50
abbrev cc1_sem5_1 : DmaSem sig := 51
abbrev cc1_sem6_0 : DmaSem sig := 52
abbrev cc1_sem6_1 : DmaSem sig := 53
abbrev cc1_sem7_0 : DmaSem sig := 54
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_11 : BitVec 32 := 16#32
  let v19 : BitVec 32 := Scalar.muli v2 c16_i32_11
  let v20 : BitVec 32 := Scalar.addi c0_i32 v19
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_12 : BitVec 32 := 4#32
  let v21 : BitVec 32 := Scalar.muli v5 c4_i32_12
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_4 : BitVec 32 := 4#32
  let v11 : BitVec 32 := Scalar.addi v8 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c1_i32_13 : BitVec 32 := 1#32
  let v23 : BitVec 32 := Scalar.muli v13 c1_i32_13
  let v24 : BitVec 32 := Scalar.addi v22 v23
  v24.toNat
def k0_dev2 (d0 : Dev nD) : Nat :=
  let c0_i32_16 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_15 : BitVec 32 := 16#32
  let v25 : BitVec 32 := Scalar.muli v2 c16_i32_15
  let v26 : BitVec 32 := Scalar.addi c0_i32_16 v25
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_17 : BitVec 32 := 4#32
  let v27 : BitVec 32 := Scalar.muli v5 c4_i32_17
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_18 : BitVec 32 := 1#32
  let v29 : BitVec 32 := Scalar.muli v10 c1_i32_18
  let v30 : BitVec 32 := Scalar.addi v28 v29
  v30.toNat
def k0_dev3 (d0 : Dev nD) : Nat :=
  let c0_i32_21 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_20 : BitVec 32 := 16#32
  let v31 : BitVec 32 := Scalar.muli v2 c16_i32_20
  let v32 : BitVec 32 := Scalar.addi c0_i32_21 v31
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.addi v5 c1_i32_8
  let c2_i32_9 : BitVec 32 := 2#32
  let c2_i32_7 : BitVec 32 := 2#32
  let v14 : BitVec 32 := Scalar.remsi v5 c2_i32_7
  let v16 : BitVec 32 := Scalar.muli c2_i32_9 v14
  let v17 : BitVec 32 := Scalar.subi v15 v16
  let c4_i32_22 : BitVec 32 := 4#32
  let v33 : BitVec 32 := Scalar.muli v17 c4_i32_22
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v35 : BitVec 32 := Scalar.muli v8 c1_i32_23
  let v36 : BitVec 32 := Scalar.addi v34 v35
  v36.toNat
def k0_dev4 (d0 : Dev nD) : Nat :=
  let c0_i32_42 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_41 : BitVec 32 := 16#32
  let v53 : BitVec 32 := Scalar.muli v2 c16_i32_41
  let v54 : BitVec 32 := Scalar.addi c0_i32_42 v53
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_43 : BitVec 32 := 4#32
  let v55 : BitVec 32 := Scalar.muli v5 c4_i32_43
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_44 : BitVec 32 := 1#32
  let v57 : BitVec 32 := Scalar.muli v10 c1_i32_44
  let v58 : BitVec 32 := Scalar.addi v56 v57
  v58.toNat
def k0_dev5 (d0 : Dev nD) : Nat :=
  let c0_i32_56 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_55 : BitVec 32 := 16#32
  let v67 : BitVec 32 := Scalar.muli v2 c16_i32_55
  let v68 : BitVec 32 := Scalar.addi c0_i32_56 v67
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_57 : BitVec 32 := 4#32
  let v69 : BitVec 32 := Scalar.muli v5 c4_i32_57
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_58 : BitVec 32 := 1#32
  let v71 : BitVec 32 := Scalar.muli v10 c1_i32_58
  let v72 : BitVec 32 := Scalar.addi v70 v71
  v72.toNat
def k0_dev6 (d0 : Dev nD) : Nat :=
  let c0_i32_70 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_69 : BitVec 32 := 16#32
  let v81 : BitVec 32 := Scalar.muli v2 c16_i32_69
  let v82 : BitVec 32 := Scalar.addi c0_i32_70 v81
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_71 : BitVec 32 := 4#32
  let v83 : BitVec 32 := Scalar.muli v5 c4_i32_71
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_72 : BitVec 32 := 1#32
  let v85 : BitVec 32 := Scalar.muli v10 c1_i32_72
  let v86 : BitVec 32 := Scalar.addi v84 v85
  v86.toNat
def k0_dev7 (d0 : Dev nD) : Nat :=
  let c0_i32_132 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_131 : BitVec 32 := 16#32
  let v139 : BitVec 32 := Scalar.muli v2 c16_i32_131
  let v140 : BitVec 32 := Scalar.addi c0_i32_132 v139
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.addi v5 c1_i32_8
  let c2_i32_9 : BitVec 32 := 2#32
  let c2_i32_7 : BitVec 32 := 2#32
  let v14 : BitVec 32 := Scalar.remsi v5 c2_i32_7
  let v16 : BitVec 32 := Scalar.muli c2_i32_9 v14
  let v17 : BitVec 32 := Scalar.subi v15 v16
  let c4_i32_133 : BitVec 32 := 4#32
  let v141 : BitVec 32 := Scalar.muli v17 c4_i32_133
  let v142 : BitVec 32 := Scalar.addi v140 v141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v143 : BitVec 32 := Scalar.muli v8 c1_i32_134
  let v144 : BitVec 32 := Scalar.addi v142 v143
  v144.toNat
def k0_dev8 (d0 : Dev nD) : Nat :=
  let c0_i32_146 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_145 : BitVec 32 := 16#32
  let v153 : BitVec 32 := Scalar.muli v2 c16_i32_145
  let v154 : BitVec 32 := Scalar.addi c0_i32_146 v153
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.addi v5 c1_i32_8
  let c2_i32_9 : BitVec 32 := 2#32
  let c2_i32_7 : BitVec 32 := 2#32
  let v14 : BitVec 32 := Scalar.remsi v5 c2_i32_7
  let v16 : BitVec 32 := Scalar.muli c2_i32_9 v14
  let v17 : BitVec 32 := Scalar.subi v15 v16
  let c4_i32_147 : BitVec 32 := 4#32
  let v155 : BitVec 32 := Scalar.muli v17 c4_i32_147
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_148 : BitVec 32 := 1#32
  let v157 : BitVec 32 := Scalar.muli v8 c1_i32_148
  let v158 : BitVec 32 := Scalar.addi v156 v157
  v158.toNat
def k0_dev9 (d0 : Dev nD) : Nat :=
  let c0_i32_160 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_159 : BitVec 32 := 16#32
  let v167 : BitVec 32 := Scalar.muli v2 c16_i32_159
  let v168 : BitVec 32 := Scalar.addi c0_i32_160 v167
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.addi v5 c1_i32_8
  let c2_i32_9 : BitVec 32 := 2#32
  let c2_i32_7 : BitVec 32 := 2#32
  let v14 : BitVec 32 := Scalar.remsi v5 c2_i32_7
  let v16 : BitVec 32 := Scalar.muli c2_i32_9 v14
  let v17 : BitVec 32 := Scalar.subi v15 v16
  let c4_i32_161 : BitVec 32 := 4#32
  let v169 : BitVec 32 := Scalar.muli v17 c4_i32_161
  let v170 : BitVec 32 := Scalar.addi v168 v169
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162 : BitVec 32 := 1#32
  let v171 : BitVec 32 := Scalar.muli v8 c1_i32_162
  let v172 : BitVec 32 := Scalar.addi v170 v171
  v172.toNat
def k0_dev10 (d0 : Dev nD) : Nat :=
  let c0_i32_174 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_173 : BitVec 32 := 16#32
  let v181 : BitVec 32 := Scalar.muli v2 c16_i32_173
  let v182 : BitVec 32 := Scalar.addi c0_i32_174 v181
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_175 : BitVec 32 := 4#32
  let v183 : BitVec 32 := Scalar.muli v5 c4_i32_175
  let v184 : BitVec 32 := Scalar.addi v182 v183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_176 : BitVec 32 := 1#32
  let v185 : BitVec 32 := Scalar.muli v10 c1_i32_176
  let v186 : BitVec 32 := Scalar.addi v184 v185
  v186.toNat
def k0_dev11 (d0 : Dev nD) : Nat :=
  let c0_i32_188 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_187 : BitVec 32 := 16#32
  let v195 : BitVec 32 := Scalar.muli v2 c16_i32_187
  let v196 : BitVec 32 := Scalar.addi c0_i32_188 v195
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_189 : BitVec 32 := 4#32
  let v197 : BitVec 32 := Scalar.muli v5 c4_i32_189
  let v198 : BitVec 32 := Scalar.addi v196 v197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_190 : BitVec 32 := 1#32
  let v199 : BitVec 32 := Scalar.muli v10 c1_i32_190
  let v200 : BitVec 32 := Scalar.addi v198 v199
  v200.toNat
def k0_dev12 (d0 : Dev nD) : Nat :=
  let c0_i32_202 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_201 : BitVec 32 := 16#32
  let v209 : BitVec 32 := Scalar.muli v2 c16_i32_201
  let v210 : BitVec 32 := Scalar.addi c0_i32_202 v209
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_203 : BitVec 32 := 4#32
  let v211 : BitVec 32 := Scalar.muli v5 c4_i32_203
  let v212 : BitVec 32 := Scalar.addi v210 v211
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_204 : BitVec 32 := 1#32
  let v213 : BitVec 32 := Scalar.muli v10 c1_i32_204
  let v214 : BitVec 32 := Scalar.addi v212 v213
  v214.toNat
def k0_dev13 (d0 : Dev nD) : Nat :=
  let c0_i32_279 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_278 : BitVec 32 := 16#32
  let v279 : BitVec 32 := Scalar.muli v2 c16_i32_278
  let v280 : BitVec 32 := Scalar.addi c0_i32_279 v279
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.addi v5 c1_i32_8
  let c2_i32_9 : BitVec 32 := 2#32
  let c2_i32_7 : BitVec 32 := 2#32
  let v14 : BitVec 32 := Scalar.remsi v5 c2_i32_7
  let v16 : BitVec 32 := Scalar.muli c2_i32_9 v14
  let v17 : BitVec 32 := Scalar.subi v15 v16
  let c4_i32_280 : BitVec 32 := 4#32
  let v281 : BitVec 32 := Scalar.muli v17 c4_i32_280
  let v282 : BitVec 32 := Scalar.addi v280 v281
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v283 : BitVec 32 := Scalar.muli v8 c1_i32_281
  let v284 : BitVec 32 := Scalar.addi v282 v283
  v284.toNat
def k0_dev14 (d0 : Dev nD) : Nat :=
  let c0_i32_293 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_292 : BitVec 32 := 16#32
  let v293 : BitVec 32 := Scalar.muli v2 c16_i32_292
  let v294 : BitVec 32 := Scalar.addi c0_i32_293 v293
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.addi v5 c1_i32_8
  let c2_i32_9 : BitVec 32 := 2#32
  let c2_i32_7 : BitVec 32 := 2#32
  let v14 : BitVec 32 := Scalar.remsi v5 c2_i32_7
  let v16 : BitVec 32 := Scalar.muli c2_i32_9 v14
  let v17 : BitVec 32 := Scalar.subi v15 v16
  let c4_i32_294 : BitVec 32 := 4#32
  let v295 : BitVec 32 := Scalar.muli v17 c4_i32_294
  let v296 : BitVec 32 := Scalar.addi v294 v295
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_295 : BitVec 32 := 1#32
  let v297 : BitVec 32 := Scalar.muli v8 c1_i32_295
  let v298 : BitVec 32 := Scalar.addi v296 v297
  v298.toNat
def k0_dev15 (d0 : Dev nD) : Nat :=
  let c0_i32_307 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_306 : BitVec 32 := 16#32
  let v307 : BitVec 32 := Scalar.muli v2 c16_i32_306
  let v308 : BitVec 32 := Scalar.addi c0_i32_307 v307
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.addi v5 c1_i32_8
  let c2_i32_9 : BitVec 32 := 2#32
  let c2_i32_7 : BitVec 32 := 2#32
  let v14 : BitVec 32 := Scalar.remsi v5 c2_i32_7
  let v16 : BitVec 32 := Scalar.muli c2_i32_9 v14
  let v17 : BitVec 32 := Scalar.subi v15 v16
  let c4_i32_308 : BitVec 32 := 4#32
  let v309 : BitVec 32 := Scalar.muli v17 c4_i32_308
  let v310 : BitVec 32 := Scalar.addi v308 v309
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_309 : BitVec 32 := 1#32
  let v311 : BitVec 32 := Scalar.muli v8 c1_i32_309
  let v312 : BitVec 32 := Scalar.addi v310 v311
  v312.toNat
def k0_dev16 (d0 : Dev nD) : Nat :=
  let c0_i32_321 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_320 : BitVec 32 := 16#32
  let v321 : BitVec 32 := Scalar.muli v2 c16_i32_320
  let v322 : BitVec 32 := Scalar.addi c0_i32_321 v321
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_322 : BitVec 32 := 4#32
  let v323 : BitVec 32 := Scalar.muli v5 c4_i32_322
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_323 : BitVec 32 := 1#32
  let v325 : BitVec 32 := Scalar.muli v10 c1_i32_323
  let v326 : BitVec 32 := Scalar.addi v324 v325
  v326.toNat
def k0_dev17 (d0 : Dev nD) : Nat :=
  let c0_i32_335 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_334 : BitVec 32 := 16#32
  let v335 : BitVec 32 := Scalar.muli v2 c16_i32_334
  let v336 : BitVec 32 := Scalar.addi c0_i32_335 v335
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_336 : BitVec 32 := 4#32
  let v337 : BitVec 32 := Scalar.muli v5 c4_i32_336
  let v338 : BitVec 32 := Scalar.addi v336 v337
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_337 : BitVec 32 := 1#32
  let v339 : BitVec 32 := Scalar.muli v10 c1_i32_337
  let v340 : BitVec 32 := Scalar.addi v338 v339
  v340.toNat
def k0_dev18 (d0 : Dev nD) : Nat :=
  let c0_i32_349 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_348 : BitVec 32 := 16#32
  let v349 : BitVec 32 := Scalar.muli v2 c16_i32_348
  let v350 : BitVec 32 := Scalar.addi c0_i32_349 v349
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_350 : BitVec 32 := 4#32
  let v351 : BitVec 32 := Scalar.muli v5 c4_i32_350
  let v352 : BitVec 32 := Scalar.addi v350 v351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let v10 : BitVec 32 := Scalar.remsi v9 c4_i32_3
  let c1_i32_351 : BitVec 32 := 1#32
  let v353 : BitVec 32 := Scalar.muli v10 c1_i32_351
  let v354 : BitVec 32 := Scalar.addi v352 v353
  v354.toNat
def k0_dev19 (d0 : Dev nD) : Nat :=
  let c0_i32_426 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_425 : BitVec 32 := 16#32
  let v419 : BitVec 32 := Scalar.muli v2 c16_i32_425
  let v420 : BitVec 32 := Scalar.addi c0_i32_426 v419
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.addi v5 c1_i32_8
  let c2_i32_9 : BitVec 32 := 2#32
  let c2_i32_7 : BitVec 32 := 2#32
  let v14 : BitVec 32 := Scalar.remsi v5 c2_i32_7
  let v16 : BitVec 32 := Scalar.muli c2_i32_9 v14
  let v17 : BitVec 32 := Scalar.subi v15 v16
  let c4_i32_427 : BitVec 32 := 4#32
  let v421 : BitVec 32 := Scalar.muli v17 c4_i32_427
  let v422 : BitVec 32 := Scalar.addi v420 v421
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_428 : BitVec 32 := 1#32
  let v423 : BitVec 32 := Scalar.muli v8 c1_i32_428
  let v424 : BitVec 32 := Scalar.addi v422 v423
  v424.toNat
def k0_dev20 (d0 : Dev nD) : Nat :=
  let c0_i32_440 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_439 : BitVec 32 := 16#32
  let v433 : BitVec 32 := Scalar.muli v2 c16_i32_439
  let v434 : BitVec 32 := Scalar.addi c0_i32_440 v433
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.addi v5 c1_i32_8
  let c2_i32_9 : BitVec 32 := 2#32
  let c2_i32_7 : BitVec 32 := 2#32
  let v14 : BitVec 32 := Scalar.remsi v5 c2_i32_7
  let v16 : BitVec 32 := Scalar.muli c2_i32_9 v14
  let v17 : BitVec 32 := Scalar.subi v15 v16
  let c4_i32_441 : BitVec 32 := 4#32
  let v435 : BitVec 32 := Scalar.muli v17 c4_i32_441
  let v436 : BitVec 32 := Scalar.addi v434 v435
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_442 : BitVec 32 := 1#32
  let v437 : BitVec 32 := Scalar.muli v8 c1_i32_442
  let v438 : BitVec 32 := Scalar.addi v436 v437
  v438.toNat
def k0_dev21 (d0 : Dev nD) : Nat :=
  let c0_i32_454 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_453 : BitVec 32 := 16#32
  let v447 : BitVec 32 := Scalar.muli v2 c16_i32_453
  let v448 : BitVec 32 := Scalar.addi c0_i32_454 v447
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v15 : BitVec 32 := Scalar.addi v5 c1_i32_8
  let c2_i32_9 : BitVec 32 := 2#32
  let c2_i32_7 : BitVec 32 := 2#32
  let v14 : BitVec 32 := Scalar.remsi v5 c2_i32_7
  let v16 : BitVec 32 := Scalar.muli c2_i32_9 v14
  let v17 : BitVec 32 := Scalar.subi v15 v16
  let c4_i32_455 : BitVec 32 := 4#32
  let v449 : BitVec 32 := Scalar.muli v17 c4_i32_455
  let v450 : BitVec 32 := Scalar.addi v448 v449
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_456 : BitVec 32 := 1#32
  let v451 : BitVec 32 := Scalar.muli v8 c1_i32_456
  let v452 : BitVec 32 := Scalar.addi v450 v451
  v452.toNat
abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![4], ![false]⟩

def k1_cond2 (i : grid1.Coords) : BitVec 1 :=
  let arg0 : BitVec 32 := BitVec.ofNat 32 (i 0).val
  let c0_i32_34 : BitVec 32 := 0#32
  let v102 : BitVec 1 := Scalar.cmpi .eq arg0 c0_i32_34
  let v103 : BitVec 32 := Scalar.extui v102
  let c0_i32_35 : BitVec 32 := 0#32
  let v104 : BitVec 1 := Scalar.cmpi .ne v103 c0_i32_35
  v104

def k1_cond3 (i : grid1.Coords) : BitVec 1 :=
  let arg0 : BitVec 32 := BitVec.ofNat 32 (i 0).val
  let c0_i32_36 : BitVec 32 := 0#32
  let v105 : BitVec 1 := Scalar.cmpi .ne arg0 c0_i32_36
  let v106 : BitVec 32 := Scalar.extui v105
  let c0_i32_37 : BitVec 32 := 0#32
  let v107 : BitVec 1 := Scalar.cmpi .ne v106 c0_i32_37
  v107

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2048x32 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1024x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== ReferenceIdeal.lean ====
abbrev S1x1024x2048 : Shape := ⟨3, ![1, 1024, 2048]⟩
abbrev S2048x512 : Shape := ⟨2, ![2048, 512]⟩
abbrev S512x2048 : Shape := ⟨2, ![512, 2048]⟩
abbrev S2048x2048 : Shape := ⟨2, ![2048, 2048]⟩
abbrev S2048x32 : Shape := ⟨2, ![2048, 32]⟩
abbrev S1x1024x512 : Shape := ⟨3, ![1, 1024, 512]⟩
abbrev S1x1024x16x128 : Shape := ⟨4, ![1, 1024, 16, 128]⟩
abbrev S1x1024x16x32 : Shape := ⟨4, ![1, 1024, 16, 32]⟩
abbrev S1x1024x32 : Shape := ⟨3, ![1, 1024, 32]⟩
abbrev S1x1024x1x32 : Shape := ⟨4, ![1, 1024, 1, 32]⟩
abbrev S1x16x1024x1024 : Shape := ⟨4, ![1, 16, 1024, 1024]⟩
abbrev S_ : Shape := ⟨0, ![]⟩
abbrev S1x16x1024 : Shape := ⟨3, ![1, 16, 1024]⟩
abbrev S1x16x1024x1 : Shape := ⟨4, ![1, 16, 1024, 1]⟩
abbrev S1x16x128x1024 : Shape := ⟨4, ![1, 16, 128, 1024]⟩

abbrev nBuf : Space → Nat
  | .hbm => 54
  | .vmem => 0
  | .smem => 0
  | _ => 0

abbrev bufTy : (tb : Table) → Fin (tcTables nBuf tb) → BufTy
  | .hbm, ⟨0, _⟩ => ⟨S1x1024x2048, .bf16⟩
  | .hbm, ⟨1, _⟩ => ⟨S2048x512, .bf16⟩
  | .hbm, ⟨2, _⟩ => ⟨S512x2048, .bf16⟩
  | .hbm, ⟨3, _⟩ => ⟨S512x2048, .bf16⟩
  | .hbm, ⟨4, _⟩ => ⟨S2048x2048, .bf16⟩
  | .hbm, ⟨5, _⟩ => ⟨S2048x512, .bf16⟩
  | .hbm, ⟨6, _⟩ => ⟨S2048x32, .bf16⟩
  | .hbm, ⟨7, _⟩ => ⟨S2048x2048, .bf16⟩
  | .hbm, ⟨8, _⟩ => ⟨S1x1024x512, .f32⟩
  | .hbm, ⟨9, _⟩ => ⟨S1x1024x512, .bf16⟩
  | .hbm, ⟨10, _⟩ => ⟨S1x1024x2048, .f32⟩
  | .hbm, ⟨11, _⟩ => ⟨S1x1024x2048, .bf16⟩
  | .hbm, ⟨12, _⟩ => ⟨S1x1024x16x128, .bf16⟩
  | .hbm, ⟨13, _⟩ => ⟨S1x1024x2048, .f32⟩
  | .hbm, ⟨14, _⟩ => ⟨S1x1024x2048, .bf16⟩
  | .hbm, ⟨15, _⟩ => ⟨S1x1024x16x128, .bf16⟩
  | .hbm, ⟨16, _⟩ => ⟨S1x1024x2048, .f32⟩
  | .hbm, ⟨17, _⟩ => ⟨S1x1024x2048, .bf16⟩
  | .hbm, ⟨18, _⟩ => ⟨S1x1024x16x128, .bf16⟩
  | .hbm, ⟨19, _⟩ => ⟨S1x1024x512, .f32⟩
  | .hbm, ⟨20, _⟩ => ⟨S1x1024x512, .bf16⟩
  | .hbm, ⟨21, _⟩ => ⟨S1x1024x16x32, .bf16⟩
  | .hbm, ⟨22, _⟩ => ⟨S1x1024x32, .f32⟩
  | .hbm, ⟨23, _⟩ => ⟨S1x1024x32, .bf16⟩
  | .hbm, ⟨24, _⟩ => ⟨S1x1024x1x32, .bf16⟩
  | .hbm, ⟨25, _⟩ => ⟨S1x16x1024x1024, .f32⟩
  | .hbm, ⟨26, _⟩ => ⟨S1x16x1024x1024, .bf16⟩
  | .hbm, ⟨27, _⟩ => ⟨S1x1024x16x32, .bf16⟩
  | .hbm, ⟨28, _⟩ => ⟨S1x16x1024x1024, .f32⟩
  | .hbm, ⟨29, _⟩ => ⟨S1x16x1024x1024, .bf16⟩
  | .hbm, ⟨30, _⟩ => ⟨S1x16x1024x1024, .bf16⟩
  | .hbm, ⟨31, _⟩ => ⟨S_, .bf16⟩
  | .hbm, ⟨32, _⟩ => ⟨S1x16x1024x1024, .bf16⟩
  | .hbm, ⟨33, _⟩ => ⟨S1x16x1024x1024, .bf16⟩
  | .hbm, ⟨34, _⟩ => ⟨S_, .bf16⟩
  | .hbm, ⟨35, _⟩ => ⟨S1x16x1024, .bf16⟩
  | .hbm, ⟨36, _⟩ => ⟨S1x16x1024x1, .bf16⟩
  | .hbm, ⟨37, _⟩ => ⟨S1x16x1024x1024, .bf16⟩
  | .hbm, ⟨38, _⟩ => ⟨S1x16x1024x1024, .bf16⟩
  | .hbm, ⟨39, _⟩ => ⟨S1x16x1024x1024, .bf16⟩
  | .hbm, ⟨40, _⟩ => ⟨S1x16x1024x1024, .f32⟩
  | .hbm, ⟨41, _⟩ => ⟨S_, .f32⟩
  | .hbm, ⟨42, _⟩ => ⟨S1x16x1024, .f32⟩
  | .hbm, ⟨43, _⟩ => ⟨S1x16x1024x1, .f32⟩
  | .hbm, ⟨44, _⟩ => ⟨S1x16x1024x1, .bf16⟩
  | .hbm, ⟨45, _⟩ => ⟨S1x16x1024x1024, .bf16⟩
  | .hbm, ⟨46, _⟩ => ⟨S1x16x1024x1024, .bf16⟩
  | .hbm, ⟨47, _⟩ => ⟨S1x16x128x1024, .f32⟩
  | .hbm, ⟨48, _⟩ => ⟨S1x1024x16x128, .f32⟩
  | .hbm, ⟨49, _⟩ => ⟨S1x1024x16x128, .bf16⟩
  | .hbm, ⟨50, _⟩ => ⟨S1x1024x2048, .bf16⟩
  | .hbm, ⟨51, _⟩ => ⟨S1x1024x2048, .f32⟩
  | .hbm, ⟨52, _⟩ => ⟨S1x1024x2048, .bf16⟩
  | .hbm, ⟨53, _⟩ => ⟨S1x1024x2048, .f32⟩
  | _, _ => ⟨S1x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Proof.Slots.lean ====
module

public import proofs.«01_k».proof.KernelIdeal
public import proofs.«01_k».proof.Proof.Gen.KernelIdeal.Skeleton
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.ViewIndex

/-! Slots of the gather scratch buffers: four equal blocks along the leading axis. A block is reached by a transfer as a
    squeezed slice and by a load or store as a rectangle of the whole buffer; both touch the elements whose leading
    coordinate is the block's number. -/

@[expose] public section

set_option maxRecDepth 16384

noncomputable section

namespace KProof

open Idealize.ShloMosaic Idealize.ShloMosaic.TcCoe
open Idealize.SL Idealize.SL.RA Idealize.SL.BI

variable {sig : RefSig} {κ : Kind} {sp : Space} {e : EltTy} {a b : ℕ}

abbrev Sh4 (a b : ℕ) : Shape := ⟨3, ![4, a, b]⟩
abbrev Sh1 (a b : ℕ) : Shape := ⟨3, ![1, a, b]⟩
abbrev Sh2 (a b : ℕ) : Shape := ⟨2, ![a, b]⟩

/-- The elements of block h. -/
@[irreducible] def slotSet (a b : ℕ) (h : ℕ) : Finset (Sh4 a b).Idx := Finset.univ.filter fun i => (i 0).val = h

theorem mem_slotSet (h : ℕ) (i : (Sh4 a b).Idx) : i ∈ slotSet a b h ↔ (i 0).val = h := by
  unfold slotSet; simp only [Finset.mem_filter, Finset.mem_univ, true_and]

theorem slotSet_disjoint {h h' : ℕ} (hne : h ≠ h') : Disjoint (slotSet a b h) (slotSet a b h') :=
  Finset.disjoint_left.mpr fun i hi hi' => hne (((mem_slotSet h i).mp hi).symm.trans ((mem_slotSet h' i).mp hi'))

/-- The four blocks are the whole buffer. -/
theorem slotSet_all : slotSet a b 0 ∪ (slotSet a b 1 ∪ (slotSet a b 2 ∪ slotSet a b 3)) = Finset.univ := by
  ext i
  have h : (i 0).val < 4 := (i 0).isLt
  simp only [Finset.mem_union, mem_slotSet, Finset.mem_univ, iff_true]
  omega

/-- The rectangle of block h. -/
theorem rect_set {off : Fin 3 → ℕ} (h : ℕ) (hoff : off = ![h, 0, 0]) (hr : ∀ x, off x + (Sh1 a b).size x ≤ (Sh4 a b).size x) :
    (Rect.unit (s := Sh4 a b) off (Sh1 a b).size hr).set = slotSet a b h := by
  subst hoff
  ext i
  rw [Rect.mem_set_unit, mem_slotSet]
  have h1 : (i 1).val < a := (i 1).isLt
  have h2 : (i 2).val < b := (i 2).isLt
  constructor
  · intro H
    have := H 0
    change h ≤ (i 0).val ∧ (i 0).val < h + 1 at this
    omega
  · intro H x
    match x with
    | 0 => show h ≤ (i 0).val ∧ (i 0).val < h + 1; omega
    | 1 => show 0 ≤ (i 1).val ∧ (i 1).val < 0 + a; omega
    | 2 => show 0 ≤ (i 2).val ∧ (i 2).val < 0 + b; omega

/-- Contents of a whole buffer from its four blocks. -/
def stack {α : Type} (blk : ℕ → (Sh1 a b).Idx → α) (i : (Sh4 a b).Idx) : α :=
  blk (i 0).val fun x => match x with | 0 => (⟨0, Nat.one_pos⟩ : Fin 1) | 1 => i 1 | 2 => i 2

/-- A block read back. -/
theorem stack_rect {α : Type} (blk : ℕ → (Sh1 a b).Idx → α) {off : Fin 3 → ℕ} (h : ℕ) (hoff : off = ![h, 0, 0])
    (hr : ∀ x, off x + (Sh1 a b).size x ≤ (Sh4 a b).size x) (y : (Sh1 a b).Idx) :
    stack blk ((Rect.unit (s := Sh4 a b) off (Sh1 a b).size hr).emb y) = blk h y := by
  subst hoff
  have h0 : (y 0).val = 0 := by have : (y 0).val < 1 := (y 0).isLt; omega
  unfold stack
  have e0 : (((Rect.unit (s := Sh4 a b) ![h, 0, 0] (Sh1 a b).size hr).emb y) 0).val = h := by
    show h + 1 * (y 0).val = h
    omega
  rw [e0]
  congr 1
  funext x
  match x with
  | 0 => exact Fin.ext h0.symm
  | 1 => exact Fin.ext (show 0 + 1 * (y 1).val = (y 1).val by omega)
  | 2 => exact Fin.ext (show 0 + 1 * (y 2).val = (y 2).val by omega)

/-- What a transfer of one block leaves: if the source's block is the block wanted at the target, the elements written are those wanted. -/
theorem landing {Val : EltTy → Type} {κ' : Kind} {sp' : Space} (v : View sig κ sp (Sh4 a b) e) (v' : View sig κ' sp' (Sh4 a b) e)
    {r r' : Rect (Sh4 a b)} {s : Shape} (hs : r.shape = r'.shape) (hn : s.numel = r.shape.numel) (hn' : s.numel = r'.shape.numel)
    (fs : v.ty.Contents Val) (fd g : v'.ty.Contents Val)
    (hg : ∀ y : s.Idx, ((v.slice r).reshape s hn).read Val fs y = ((v'.slice r').reshape s hn').read Val g y) :
    ∀ i ∈ ((v'.slice r').reshape s hn').set,
      ((v'.slice r').reshape s hn').write Val fd (((v.slice r).reshape s hn).read Val fs) Finset.univ i = g i := by
  intro i hi
  obtain ⟨x, -, rfl⟩ := Finset.mem_map.mp hi
  apply View.eq_of_read_eq
  rw [← hg x]
  exact congrFun (View.read_write_univ ..) x

/-- What a write of one block leaves. -/
theorem written {Val : EltTy → Type} {s : Shape} (v : View sig κ sp s e) (f g : v.ty.Contents Val) (w : s.Idx → Val e)
    (hg : ∀ y, w y = v.read Val g y) : ∀ i ∈ v.set, v.write Val f w Finset.univ i = g i := by
  intro i hi
  obtain ⟨x, -, rfl⟩ := Finset.mem_map.mp hi
  apply View.eq_of_read_eq
  rw [← hg x]
  exact congrFun (View.read_write_univ ..) x

end KProof
-- ==== Proof.Proto.lean ====
module

public import proofs.«01_k».proof.Proof.Slots
public import proofs.«01_k».proof.Proof.Gen.KernelIdeal.Launch

/-! The gather's protocol: its neighbours, what its scratch buffers come to hold, its semaphore cells and what each is
    credited and paid, what each device owes at launch, and in what order a device may wait. -/

@[expose] public section

set_option maxRecDepth 16384

noncomputable section

namespace KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Neighbours -/

/-- The next device along z. -/
def rgt (c : Dev nD) : Dev nD := ⟨4 * (c.val / 4) + (c.val % 4 + 1) % 4, by have := c.isLt; show _ < 32; change c.val < 32 at this; omega⟩
/-- The previous device along z. -/
def lft (c : Dev nD) : Dev nD := ⟨4 * (c.val / 4) + (c.val % 4 + 3) % 4, by have := c.isLt; show _ < 32; change c.val < 32 at this; omega⟩
/-- The other device of the pair along y. -/
def par (c : Dev nD) : Dev nD := ⟨8 * (c.val / 8) + (c.val % 8 + 4) % 8, by have := c.isLt; show _ < 32; change c.val < 32 at this; omega⟩

theorem lft_rgt (c : Dev nD) : lft (rgt c) = c := by revert c; decide
theorem rgt_lft (c : Dev nD) : rgt (lft c) = c := by revert c; decide
theorem par_par (c : Dev nD) : par (par c) = c := by revert c; decide

/-- The ring along z, and the pairing along y, as permutations. -/
def ringE : Dev nD ≃ Dev nD := ⟨rgt, lft, lft_rgt, rgt_lft⟩
def parE : Dev nD ≃ Dev nD := ⟨par, par, par_par, par_par⟩

/-! ## Contents -/

/-- Each device's four input blocks. -/
structure Ins (F : FTy → Type) where
  x : Dev nD → Vec F S1024x2048 .bf16
  wd : Dev nD → Vec F S2048x128 .bf16
  wk : Dev nD → Vec F S128x2048 .bf16
  wv : Dev nD → Vec F S128x2048 .bf16

variable (I : Ins F)

/-- The half of its latent block, and of its two weight blocks, a device passes along. -/
def halfC (c : Dev nD) : Vec F S1x1024x64 .bf16 := if (c.val / 4) % 2 = 0 then k0_pay4 (I.x c) (I.wd c) else k0_pay7 (I.x c) (I.wd c)
@[inherit_doc halfC] def halfK (c : Dev nD) : Vec F S1x64x2048 .bf16 := if (c.val / 4) % 2 = 0 then k0_pay5 (I.wk c) else k0_pay8 (I.wk c)
@[inherit_doc halfC] def halfV (c : Dev nD) : Vec F S1x64x2048 .bf16 := if (c.val / 4) % 2 = 0 then k0_pay6 (I.wv c) else k0_pay9 (I.wv c)

/-- What a device's own buffer holds at the end: in block h the half of the device h places back along z. -/
def ownC (c : Dev nD) : (Sh4 1024 64).Idx → Elt F .bf16 := stack fun h => halfC I (lft^[h] c)
@[inherit_doc ownC] def ownK (c : Dev nD) : (Sh4 64 2048).Idx → Elt F .bf16 := stack fun h => halfK I (lft^[h] c)
@[inherit_doc ownC] def ownV (c : Dev nD) : (Sh4 64 2048).Idx → Elt F .bf16 := stack fun h => halfV I (lft^[h] c)

abbrev B0 : Memref sig .tc .vmem S4x1024x64 .bf16 := Memref.whole cc0_scratch0
abbrev B1 : Memref sig .tc .vmem S4x64x2048 .bf16 := Memref.whole cc0_scratch1
abbrev B2 : Memref sig .tc .vmem S4x64x2048 .bf16 := Memref.whole cc0_scratch2
abbrev B3 : Memref sig .tc .vmem S4x1024x64 .bf16 := Memref.whole cc0_scratch3
abbrev B4 : Memref sig .tc .vmem S4x64x2048 .bf16 := Memref.whole cc0_scratch4
abbrev B5 : Memref sig .tc .vmem S4x64x2048 .bf16 := Memref.whole cc0_scratch5

/-- Block h of a buffer, as a transfer names it. -/
abbrev slC (B : Memref sig .tc .vmem S4x1024x64 .bf16) (h : ℕ) (hh : ∀ a, (![h, 0, 0] : Fin 3 → ℕ) a + S1x1024x64.size a ≤ S4x1024x64.size a) : Memref sig .tc .vmem S1024x64 .bf16 :=
  (B.slice (Rect.unit (s := S4x1024x64) ![h, 0, 0] S1x1024x64.size hh) (fun _ => rfl)).squeeze S1024x64 squeezes_S1x1024x64_S1024x64
@[inherit_doc slC]
abbrev slK (B : Memref sig .tc .vmem S4x64x2048 .bf16) (h : ℕ) (hh : ∀ a, (![h, 0, 0] : Fin 3 → ℕ) a + S1x64x2048.size a ≤ S4x64x2048.size a) : Memref sig .tc .vmem S64x2048 .bf16 :=
  (B.slice (Rect.unit (s := S4x64x2048) ![h, 0, 0] S1x64x2048.size hh) (fun _ => rfl)).squeeze S64x2048 squeezes_S1x64x2048_S64x2048

/-- The elements of block h, through a transfer's view. -/
theorem set_B0 (h : ℕ) (hh : ∀ a, (![h, 0, 0] : Fin 3 → ℕ) a + S1x1024x64.size a ≤ S4x1024x64.size a) : (slC B0 h hh).view.set = slotSet 1024 64 h := by
  show ((View.slice _ _).reshape _ _).set = _
  rw [View.set_reshape]
  exact (View.set_slice_whole _ _).trans (rect_set h rfl _)
theorem set_B1 (h : ℕ) (hh : ∀ a, (![h, 0, 0] : Fin 3 → ℕ) a + S1x64x2048.size a ≤ S4x64x2048.size a) : (slK B1 h hh).view.set = slotSet 64 2048 h := by
  show ((View.slice _ _).reshape _ _).set = _
  rw [View.set_reshape]
  exact (View.set_slice_whole _ _).trans (rect_set h rfl _)
theorem set_B2 (h : ℕ) (hh : ∀ a, (![h, 0, 0] : Fin 3 → ℕ) a + S1x64x2048.size a ≤ S4x64x2048.size a) : (slK B2 h hh).view.set = slotSet 64 2048 h := by
  show ((View.slice _ _).reshape _ _).set = _
  rw [View.set_reshape]
  exact (View.set_slice_whole _ _).trans (rect_set h rfl _)
theorem set_B3 (h : ℕ) (hh : ∀ a, (![h, 0, 0] : Fin 3 → ℕ) a + S1x1024x64.size a ≤ S4x1024x64.size a) : (slC B3 h hh).view.set = slotSet 1024 64 h := by
  show ((View.slice _ _).reshape _ _).set = _
  rw [View.set_reshape]
  exact (View.set_slice_whole _ _).trans (rect_set h rfl _)
theorem set_B4 (h : ℕ) (hh : ∀ a, (![h, 0, 0] : Fin 3 → ℕ) a + S1x64x2048.size a ≤ S4x64x2048.size a) : (slK B4 h hh).view.set = slotSet 64 2048 h := by
  show ((View.slice _ _).reshape _ _).set = _
  rw [View.set_reshape]
  exact (View.set_slice_whole _ _).trans (rect_set h rfl _)
theorem set_B5 (h : ℕ) (hh : ∀ a, (![h, 0, 0] : Fin 3 → ℕ) a + S1x64x2048.size a ≤ S4x64x2048.size a) : (slK B5 h hh).view.set = slotSet 64 2048 h := by
  show ((View.slice _ _).reshape _ _).set = _
  rw [View.set_reshape]
  exact (View.set_slice_whole _ _).trans (rect_set h rfl _)

/-! ## Cells -/

/-- The semaphore of kind k (sent along z, received along z, sent along y, received along y), buffer t, step h. -/
def qn (k : Fin 4) (t h : Fin 3) : DmaSem sig := ⟨6 + (9 * k.val + 3 * t.val + h.val), by
  have := k.isLt; have := t.isLt; have := h.isLt; show _ < 55; omega⟩
def dec (n : DmaSem sig) : Fin 4 × Fin 3 × Fin 3 := (Fin.ofNat 4 ((n.val - 6) / 9), Fin.ofNat 3 ((n.val - 6) / 3), Fin.ofNat 3 (n.val - 6))
theorem dec_qn (k : Fin 4) (t h : Fin 3) : dec (qn k t h) = (k, t, h) := by revert k t h; decide

abbrev barCell (c : Dev nD) : GSem nD τ sig := ((c : Thread nD τ), .reg barrier0)
abbrev qCell (c : Dev nD) (k : Fin 4) (t h : Fin 3) : GSem nD τ sig := ((c : Thread nD τ), .dma (qn k t h))

/-- What a transfer of one block credits. -/
abbrev N : ℕ := 8192
theorem credC (B : Memref sig .tc .vmem S4x1024x64 .bf16) (h : ℕ) (hh) : (slC B h hh).view.dmaCredit = N :=
  (show RefSig.tileCredit S1024x64 .bf16 = 8192 by decide)
theorem credK (B : Memref sig .tc .vmem S4x64x2048 .bf16) (h : ℕ) (hh) : (slK B h hh).view.dmaCredit = N :=
  (show RefSig.tileCredit S64x2048 .bf16 = 8192 by decide)

/-! ## The resource algebra -/

abbrev D : Type := Fin 3
abbrev UU : Type := UR sig nD τ × URounds (GSem nD τ sig) D
local notation "𝕄" => MT nD τ sig Unit (Elt F) ℕ UU ℕ
abbrev EP : Emb (UR sig nD τ) (MT nD τ sig Unit (Elt F) ℕ UU ℕ) := embL
abbrev ER : Emb (URounds (GSem nD τ sig) D) (MT nD τ sig Unit (Elt F) ℕ UU ℕ) := embR

/-! ## Blocks of the buffers -/

/-- A whole buffer of device c. -/
abbrev pt (c : Dev nD) (b : Ref sig .tc) (f : b.ty.Contents (Elt F)) : sProp 𝕄 := ((c : Thread nD τ).loc b) ↦{fullShare} f

/-- Block h of device c's own buffer t, at what it comes to hold. -/
def ownP (c : Dev nD) (t : Fin 3) (h : ℕ) (q : PosShare TreeShare) : sProp 𝕄 :=
  match t with
  | 0 => ((c : Thread nD τ).loc cc0_scratch0) ↦[slotSet 1024 64 h]{q} ownC I c
  | 1 => ((c : Thread nD τ).loc cc0_scratch1) ↦[slotSet 64 2048 h]{q} ownK I c
  | 2 => ((c : Thread nD τ).loc cc0_scratch2) ↦[slotSet 64 2048 h]{q} ownV I c
/-- Block h of device c's second buffer t: its pair's own block h. -/
def othP (c : Dev nD) (t : Fin 3) (h : ℕ) (q : PosShare TreeShare) : sProp 𝕄 :=
  match t with
  | 0 => ((c : Thread nD τ).loc cc0_scratch3) ↦[slotSet 1024 64 h]{q} ownC I (par c)
  | 1 => ((c : Thread nD τ).loc cc0_scratch4) ↦[slotSet 64 2048 h]{q} ownK I (par c)
  | 2 => ((c : Thread nD τ).loc cc0_scratch5) ↦[slotSet 64 2048 h]{q} ownV I (par c)
/-- The same blocks at contents not chosen. -/
def ownAny (c : Dev nD) (t : Fin 3) (h : ℕ) : sProp 𝕄 :=
  match t with
  | 0 => iprop(∃ f : (Sh4 1024 64).Idx → Elt F .bf16, ((c : Thread nD τ).loc cc0_scratch0) ↦[slotSet 1024 64 h]{fullShare} f)
  | 1 => iprop(∃ f : (Sh4 64 2048).Idx → Elt F .bf16, ((c : Thread nD τ).loc cc0_scratch1) ↦[slotSet 64 2048 h]{fullShare} f)
  | 2 => iprop(∃ f : (Sh4 64 2048).Idx → Elt F .bf16, ((c : Thread nD τ).loc cc0_scratch2) ↦[slotSet 64 2048 h]{fullShare} f)
@[inherit_doc ownAny] def othAny (c : Dev nD) (t : Fin 3) (h : ℕ) : sProp 𝕄 :=
  match t with
  | 0 => iprop(∃ f : (Sh4 1024 64).Idx → Elt F .bf16, ((c : Thread nD τ).loc cc0_scratch3) ↦[slotSet 1024 64 h]{fullShare} f)
  | 1 => iprop(∃ f : (Sh4 64 2048).Idx → Elt F .bf16, ((c : Thread nD τ).loc cc0_scratch4) ↦[slotSet 64 2048 h]{fullShare} f)
  | 2 => iprop(∃ f : (Sh4 64 2048).Idx → Elt F .bf16, ((c : Thread nD τ).loc cc0_scratch5) ↦[slotSet 64 2048 h]{fullShare} f)

instance (c : Dev nD) (t : Fin 3) (h : ℕ) (q) : BI.Storable (upEmb : UEmb _ 𝕄) (ownP I c t h q) := by
  unfold ownP; split <;> infer_instance
instance (c : Dev nD) (t : Fin 3) (h : ℕ) (q) : BI.Storable (upEmb : UEmb _ 𝕄) (othP I c t h q) := by
  unfold othP; split <;> infer_instance
instance (c : Dev nD) (t : Fin 3) (h : ℕ) : BI.Storable (upEmb : UEmb _ 𝕄) (ownAny (F := F) c t h) := by
  unfold ownAny; split <;> infer_instance
instance (c : Dev nD) (t : Fin 3) (h : ℕ) : BI.Storable (upEmb : UEmb _ 𝕄) (othAny (F := F) c t h) := by
  unfold othAny; split <;> infer_instance

/-- The shares of an own block: for the transfer along z, for the one along y, kept to read. -/
abbrev qZ : PosShare TreeShare := fullShare.left.left
@[inherit_doc qZ] abbrev qY : PosShare TreeShare := fullShare.left.right
@[inherit_doc qZ] abbrev qL : PosShare TreeShare := fullShare.right

theorem pts_three (ℓ : Loc nD τ sig) (S : Finset (Idx ℓ)) (f : Buf (Elt F) ℓ) :
    (ℓ ↦[S]{fullShare} f : sProp 𝕄) ⊢ iprop((ℓ ↦[S]{qZ} f) ∗ (ℓ ↦[S]{qY} f) ∗ (ℓ ↦[S]{qL} f)) :=
  ((pointsTo_share (PosShare.mem_left_op_right fullShare)).1.trans
    (sep_mono_left (pointsTo_share (PosShare.mem_left_op_right fullShare.left)).1)).trans sep_assoc
theorem pts_three_join (ℓ : Loc nD τ sig) (S : Finset (Idx ℓ)) (f : Buf (Elt F) ℓ) :
    iprop((ℓ ↦[S]{qZ} f) ∗ (ℓ ↦[S]{qY} f) ∗ (ℓ ↦[S]{qL} f)) ⊢ (ℓ ↦[S]{fullShare} f : sProp 𝕄) := by
  iintro ⟨H1, H2, H3⟩
  iapply (pointsTo_share (PosShare.mem_left_op_right fullShare)).2
  isplitl [H1 H2]
  · iapply (pointsTo_share (PosShare.mem_left_op_right fullShare.left)).2
    isplitl [H1]; · iexact H1
    iexact H2
  iexact H3

theorem ownP_three (c : Dev nD) (t : Fin 3) (h : ℕ) : ownP I c t h fullShare ⊢ iprop(ownP I c t h qZ ∗ ownP I c t h qY ∗ ownP I c t h qL) := by
  match t with
  | 0 => exact pts_three _ _ _
  | 1 => exact pts_three _ _ _
  | 2 => exact pts_three _ _ _
theorem ownP_join (c : Dev nD) (t : Fin 3) (h : ℕ) : iprop(ownP I c t h qZ ∗ ownP I c t h qY ∗ ownP I c t h qL) ⊢ ownP I c t h fullShare := by
  match t with
  | 0 => exact pts_three_join _ _ _
  | 1 => exact pts_three_join _ _ _
  | 2 => exact pts_three_join _ _ _

/-! ## The schedule -/

/-- The nine semaphores of kind k have reached round 0. -/
def reachedAll (c : Dev nD) (k : Fin 4) : sProp 𝕄 := bigSep Finset.univ fun p : Fin 3 × Fin 3 => reached ER (qCell c k p.1 p.2) 0

/-- Paid with the start signal: the blocks the receiver of the signal is to fill, and that their semaphores are live. -/
def barPay (c : Dev nD) (d : D) : sProp 𝕄 :=
  match d with
  | 0 => iprop(reachedAll (F := F) (rgt c) 1
      ∗ ownAny (F := F) (rgt c) 0 1 ∗ ownAny (F := F) (rgt c) 1 1 ∗ ownAny (F := F) (rgt c) 2 1
      ∗ ownAny (F := F) (rgt c) 0 2 ∗ ownAny (F := F) (rgt c) 1 2 ∗ ownAny (F := F) (rgt c) 2 2
      ∗ ownAny (F := F) (rgt c) 0 3 ∗ ownAny (F := F) (rgt c) 1 3 ∗ ownAny (F := F) (rgt c) 2 3)
  | 1 => iprop(emp)
  | 2 => iprop(reachedAll (F := F) (par c) 3
      ∗ othAny (F := F) (par c) 0 1 ∗ othAny (F := F) (par c) 1 1 ∗ othAny (F := F) (par c) 2 1
      ∗ othAny (F := F) (par c) 0 2 ∗ othAny (F := F) (par c) 1 2 ∗ othAny (F := F) (par c) 2 2
      ∗ othAny (F := F) (par c) 0 3 ∗ othAny (F := F) (par c) 1 3 ∗ othAny (F := F) (par c) 2 3)

/-- Paid with a transfer: to its sender the source back, to its receiver the block it fills. -/
def dmaPay (c : Dev nD) (k : Fin 4) (t h : Fin 3) : sProp 𝕄 :=
  match k with
  | 0 => ownP I c t h.val (if h = 0 then fullShare else qZ)
  | 1 => ownP I c t (h.val + 1) fullShare
  | 2 => ownP I c t (h.val + 1) qY
  | 3 => othP I c t (h.val + 1) fullShare

instance (c : Dev nD) (d : D) : BI.Storable (upEmb : UEmb _ 𝕄) (barPay (F := F) c d) := by
  unfold barPay reachedAll; split <;> infer_instance
instance (c : Dev nD) (k : Fin 4) (t h : Fin 3) : BI.Storable (upEmb : UEmb _ 𝕄) (dmaPay I c k t h) := by
  unfold dmaPay; split <;> infer_instance

def gatherRd : Rounds.Schedule (GSem nD τ sig) D 𝕄 where
  duties g r := if r = 0 ∧ g.1.2 = .tc then (match g.2 with | .reg n => (if n = barrier0 then {0, 1, 2} else ∅) | .dma n => (if 6 ≤ n.val ∧ n.val < 42 then {0} else ∅)) else ∅
  unitless _ := False
  amount g _ _ := match g.2 with | .reg _ => 1 | .dma _ => N
  payload g _ d := match g.2 with | .reg _ => barPay g.1.1 d | .dma n => dmaPay I g.1.1 (dec n).1 (dec n).2.1 (dec n).2.2
  amount_pos g _ _ _ := by
    rcases g with ⟨_, n | n⟩
    · exact Nat.one_pos
    · show 0 < N; decide

instance gatherRd_payload_storable (g : GSem nD τ sig) (r : ℕ) (d : D) : BI.Storable (upEmb : UEmb _ 𝕄) ((gatherRd I).payload g r d) := by
  rcases g with ⟨_, n | n⟩
  · show BI.Storable upEmb (barPay _ d); infer_instance
  · show BI.Storable upEmb (dmaPay I _ _ _ _); infer_instance

section Sched
variable (c : Dev nD) (k : Fin 4) (t h : Fin 3)

theorem qn_range : 6 ≤ (qn k t h).val ∧ (qn k t h).val < 42 := by revert k t h; decide
theorem duties_bar : (gatherRd I).duties (barCell c) 0 = {0, 1, 2} := by
  dsimp only [gatherRd]; rw [if_pos ⟨rfl, rfl⟩]; exact if_pos rfl
theorem duties_q : (gatherRd I).duties (qCell c k t h) 0 = {0} := by
  dsimp only [gatherRd]; rw [if_pos ⟨rfl, rfl⟩]; exact if_pos (qn_range k t h)
theorem duties_later (g : GSem nD τ sig) : ∀ r, 1 ≤ r → (gatherRd I).duties g r = ∅ := fun r hr => if_neg fun hh => by omega
theorem amount_bar (d : D) : (gatherRd I).amount (barCell c) 0 d = 1 := rfl
theorem amount_q (d : D) : (gatherRd I).amount (qCell c k t h) 0 d = N := rfl
theorem payload_bar (d : D) : (gatherRd I).payload (barCell c) 0 d = barPay c d := rfl
theorem payload_q (d : D) : (gatherRd I).payload (qCell c k t h) 0 d = dmaPay I c k t h := by
  show dmaPay I c (dec (qn k t h)).1 (dec (qn k t h)).2.1 (dec (qn k t h)).2.2 = _
  rw [dec_qn]
theorem expect_bar : (gatherRd I).expect (barCell c) 0 = 3 := by
  unfold Schedule.expect Schedule.amountOf; rw [duties_bar]; rfl
theorem expect_q : (gatherRd I).expect (qCell c k t h) 0 = N := by
  unfold Schedule.expect Schedule.amountOf; rw [duties_q, Finset.sum_singleton, amount_q]
theorem rest_q : bigSep ((gatherRd I).duties (qCell c k t h) 0 \ ∅) (fun d => (gatherRd I).payload (qCell c k t h) 0 d) = dmaPay I c k t h := by
  rw [Finset.sdiff_empty, duties_q, bigSep_singleton, payload_q]
theorem rest_bar : bigSep ((gatherRd I).duties (barCell c) 0 \ ∅) (fun d => (gatherRd I).payload (barCell c) 0 d)
    = iprop(barPay (F := F) c 0 ∗ barPay (F := F) c 1 ∗ barPay (F := F) c 2) := by
  rw [Finset.sdiff_empty, duties_bar, bigSep_eq_bigSepL_of_eq [0, 1, 2] (by decide) (by decide)]
  rfl
end Sched

/-! ## What each device owes, in the order it pays -/

def owed (l : List (GSem nD τ sig × ℕ)) : CellTallies nD τ sig Unit := l.foldr (fun p O => O + tallyAt p.1 () p.2) 0
def pays (c : Dev nD) : List (GSem nD τ sig × ℕ) :=
  [(barCell (lft c), 1), (barCell (rgt c), 1), (barCell (par c), 1),
   (qCell (rgt c) 1 0 0, N), (qCell (rgt c) 1 1 0, N), (qCell (rgt c) 1 2 0, N),
   (qCell (par c) 3 0 0, N), (qCell (par c) 3 1 0, N), (qCell (par c) 3 2 0, N),
   (qCell (rgt c) 1 0 1, N), (qCell (rgt c) 1 1 1, N), (qCell (rgt c) 1 2 1, N),
   (qCell (par c) 3 0 1, N), (qCell (par c) 3 1 1, N), (qCell (par c) 3 2 1, N),
   (qCell (rgt c) 1 0 2, N), (qCell (rgt c) 1 1 2, N), (qCell (rgt c) 1 2 2, N),
   (qCell (par c) 3 0 2, N), (qCell (par c) 3 1 2, N), (qCell (par c) 3 2 2, N)]
/-- What is left to pay after n payments. -/
def Ow (c : Dev nD) (n : ℕ) : CellTallies nD τ sig Unit := owed ((pays c).drop n)

def L (g : GSem nD τ sig) : Finset Unit := if g.1.2 = .tc then {()} else ∅
/-- The start signal first, then the receipts along z step by step, then those along y; own sends before all. -/
def lv (g : GSem nD τ sig) (_ : Unit) : ℕ :=
  match g.2 with
  | .reg _ => 1
  | .dma n => if (dec n).1 = 1 then 2 + (dec n).2.2.val else if (dec n).1 = 3 then 9 else 0

theorem L_of_ne (g : GSem nD τ sig) (h : g.1.2 ≠ .tc) : L g = ∅ := if_neg h
theorem L_tc (c : Dev nD) (sm : SemLoc sig) : L ((c : Thread nD τ), sm) = {()} := if_pos rfl

theorem owed_mem (l : List (GSem nD τ sig × ℕ)) (g : GSem nD τ sig) (u : Unit) (hg : 0 < owed l g u) : ∃ p ∈ l, p.1 = g := by
  induction l with
  | nil => exact absurd hg (Nat.lt_irrefl 0)
  | cons p l ih =>
    by_cases hp : p.1 = g
    · exact ⟨p, List.mem_cons_self, hp⟩
    · have : owed (p :: l) g u = owed l g u + tallyAt p.1 () p.2 g u := rfl
      rw [this, tallyAt_apply, if_neg (fun h => hp h.1.symm), Nat.add_zero] at hg
      obtain ⟨q, hq, hqg⟩ := ih hg
      exact ⟨q, List.mem_cons_of_mem _ hq, hqg⟩

theorem mayWait_of (c : Dev nD) (sm : SemLoc sig) (n m : ℕ) (hs : lv ((c : Thread nD τ), sm) () ≤ m)
    (hl : ∀ p ∈ (pays c).drop n, p.1.1.2 = .tc ∧ m < lv p.1 ()) :
    (levAts L lv : sProp 𝕄) ⊢ MayWait (c : Thread nD τ) sm () (Ow c n) :=
  MayOwe.of_cut (L := L) (lev := lv) m (fun p hp => by rw [Finset.mem_singleton.mp hp, L_tc]; exact Finset.mem_singleton_self _)
    (fun g u hg => by
      obtain ⟨p, hp, rfl⟩ := owed_mem _ g u hg
      rw [L, if_pos (hl p hp).1]; exact Finset.mem_singleton_self _)
    (fun p hp => by rw [Finset.mem_singleton.mp hp]; exact hs)
    (fun g u hg => by
      obtain ⟨p, hp, rfl⟩ := owed_mem _ g u hg
      exact (hl p hp).2)

theorem lv_q (c : Dev nD) (k : Fin 4) (t h : Fin 3) : lv (qCell c k t h) () = if k = 1 then 2 + h.val else if k = 3 then 9 else 0 := by
  show (if (dec (qn k t h)).1 = 1 then _ else _) = _
  rw [dec_qn]

theorem mw_bar (c : Dev nD) : (levAts L lv : sProp 𝕄) ⊢ MayWait (c : Thread nD τ) (.reg barrier0) () (Ow c 3) :=
  mayWait_of c _ 3 1 (le_refl _) (by
    intro p hp
    simp only [pays, List.drop_succ_cons, List.drop_zero, List.mem_cons, List.not_mem_nil, or_false] at hp
    rcases hp with rfl | rfl | rfl | rfl | rfl | rfl | rfl | rfl | rfl | rfl | rfl | rfl | rfl | rfl | rfl | rfl | rfl | rfl <;>
      exact ⟨rfl, by rw [lv_q]; decide⟩)
theorem mw_z0 (c : Dev nD) (t : Fin 3) : (levAts L lv : sProp 𝕄) ⊢ MayWait (c : Thread nD τ) (.dma (qn 1 t 0)) () (Ow c 6) :=
  mayWait_of c _ 6 2 ((lv_q c 1 t 0).le) (by
    intro p hp
    simp only [pays, List.drop_succ_cons, List.drop_zero, List.mem_cons, List.not_mem_nil, or_false] at hp
    rcases hp with rfl | rfl | rfl | rfl | rfl | rfl | rfl | rfl | rfl | rfl | rfl | rfl | rfl | rfl | rfl <;>
      exact ⟨rfl, by rw [lv_q]; decide⟩)
theorem mw_z1 (c : Dev nD) (t : Fin 3) : (levAts L lv : sProp 𝕄) ⊢ MayWait (c : Thread nD τ) (.dma (qn 1 t 1)) () (Ow c 12) :=
  mayWait_of c _ 12 3 ((lv_q c 1 t 1).le) (by
    intro p hp
    simp only [pays, List.drop_succ_cons, List.drop_zero, List.mem_cons, List.not_mem_nil, or_false] at hp
    rcases hp with rfl | rfl | rfl | rfl | rfl | rfl | rfl | rfl | rfl <;>
      exact ⟨rfl, by rw [lv_q]; decide⟩)
theorem mw_z2 (c : Dev nD) (t : Fin 3) : (levAts L lv : sProp 𝕄) ⊢ MayWait (c : Thread nD τ) (.dma (qn 1 t 2)) () (Ow c 18) :=
  mayWait_of c _ 18 4 ((lv_q c 1 t 2).le) (by
    intro p hp
    simp only [pays, List.drop_succ_cons, List.drop_zero, List.mem_cons, List.not_mem_nil, or_false] at hp
    rcases hp with rfl | rfl | rfl <;> exact ⟨rfl, by rw [lv_q]; decide⟩)

end KProof
-- ==== Proof.Steps.lean ====
module

public import proofs.«01_k».proof.Proof.Proto

/-! One operation of the gather at a time: what it takes from the protocol and what it gives back. -/

@[expose] public section

set_option maxRecDepth 16384

noncomputable section

namespace KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

variable (I : Ins F) (κ : GSem nD τ sig → ℕ) (c : Dev nD)

abbrev 𝒱₀ : Variants := Variants.none

/-- The weakest precondition of a program of the gather on device c. -/
abbrev wpc {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every step may use -/

@[irreducible] def barS : Finset (GSem nD τ sig) := Finset.univ.image barCell
@[irreducible] def qS : Finset (GSem nD τ sig) := Finset.univ.image fun p : Dev nD × Fin 4 × Fin 3 × Fin 3 => qCell p.1 p.2.1 p.2.2.1 p.2.2.2
theorem bar_mem (d : Dev nD) : barCell d ∈ barS := by
  unfold barS; exact Finset.mem_image_of_mem _ (Finset.mem_univ d)
theorem q_mem (d : Dev nD) (k : Fin 4) (t h : Fin 3) : qCell d k t h ∈ qS := by
  unfold qS
  exact Finset.mem_image_of_mem (fun p : Dev nD × Fin 4 × Fin 3 × Fin 3 => qCell p.1 p.2.1 p.2.2.1 p.2.2.2) (Finset.mem_univ (d, k, t, h))

@[irreducible] def allS : Finset (GSem nD τ sig) := barS ∪ qS
theorem bar_mem_all (d : Dev nD) : barCell d ∈ allS := by unfold allS; exact Finset.mem_union_left _ (bar_mem d)
theorem q_mem_all (d : Dev nD) (k : Fin 4) (t h : Fin 3) : qCell d k t h ∈ allS := by unfold allS; exact Finset.mem_union_right _ (q_mem d k t h)

def invAll : sProp 𝕄 := bigSep allS (fun g => cellInv ER (gatherRd I) (κ g) g)
def reachedBar : sProp 𝕄 := bigSep barS (fun g => reached ER g 0)
instance : BI.Persistent (invAll I κ) := by unfold invAll; infer_instance
instance : BI.Persistent (reachedBar (F := F)) := by unfold reachedBar; infer_instance
theorem invAll_elim (g : GSem nD τ sig) (hg : g ∈ allS) : invAll I κ ⊢ cellInv ER (gatherRd I) (κ g) g :=
  bigSep_elim (Φ := fun g => (cellInv ER (gatherRd I) (κ g) g : sProp 𝕄)) hg
theorem reachedBar_elim (d : Dev nD) : reachedBar (F := F) ⊢ reached ER (barCell d) 0 :=
  bigSep_elim (Φ := fun g => (reached ER g 0 : sProp 𝕄)) (bar_mem d)

def Ctx : sProp 𝕄 := iprop(invAll I κ ∗ reachedBar (F := F) ∗ levAts L lv)
instance : BI.Persistent (Ctx I κ) := by unfold Ctx; infer_instance

theorem Ctx_bar (d : Dev nD) : Ctx I κ ⊢ iprop(cellInv ER (gatherRd I) (κ (barCell d)) (barCell d) ∗ reached ER (barCell d) 0) := by
  unfold Ctx
  iintro ⟨#H, #Hr, -⟩
  isplitr
  · iapply (invAll_elim I κ _ (bar_mem_all d)); iexact H
  · iapply (reachedBar_elim d); iexact Hr
theorem Ctx_q (d : Dev nD) (k : Fin 4) (t h : Fin 3) : Ctx I κ ⊢ cellInv ER (gatherRd I) (κ (qCell d k t h)) (qCell d k t h) := by
  unfold Ctx
  iintro ⟨#H, #Hr, -⟩
  iapply (invAll_elim I κ _ (q_mem_all d k t h)); iexact H
theorem Ctx_lev : Ctx I κ ⊢ (levAts L lv : sProp 𝕄) := by
  unfold Ctx
  iintro ⟨-, -, #H⟩
  iexact H

/-- Owing, whatever has been waited for. -/
def owesE (O : CellTallies nD τ sig Unit) : sProp 𝕄 := iprop(∃ W, owes (c : Thread nD τ) O W)

instance reachedAll_persistent (k : Fin 4) : BI.Persistent (reachedAll (F := F) c k) := by unfold reachedAll; infer_instance
theorem reachedAll_elim (k : Fin 4) (t h : Fin 3) : reachedAll (F := F) c k ⊢ reached ER (qCell c k t h) 0 := by
  unfold reachedAll
  exact bigSep_elim (Φ := fun p : Fin 3 × Fin 3 => (reached ER (qCell c k p.1 p.2) 0 : sProp 𝕄)) (Finset.mem_univ (t, h))

/-- What a transfer along z, or along y, of buffer t at step h is started with. -/
def tokZ (t h : Fin 3) : sProp 𝕄 :=
  iprop(dutyTok ER (qCell c 0 t h) 0 0 ∗ reached ER (qCell c 0 t h) 0 ∗ dutyTok ER (qCell (rgt c) 1 t h) 0 0 ∗ atPos ER (qCell c 0 t h) 0 ∅ 0)
@[inherit_doc tokZ] def tokY (t h : Fin 3) : sProp 𝕄 :=
  iprop(dutyTok ER (qCell c 2 t h) 0 0 ∗ reached ER (qCell c 2 t h) 0 ∗ dutyTok ER (qCell (par c) 3 t h) 0 0 ∗ atPos ER (qCell c 2 t h) 0 ∅ 0)
/-- A semaphore still to be waited for, and one waited for. -/
def pend (k : Fin 4) (t h : Fin 3) : sProp 𝕄 := iprop(cred (tallyAt (qCell c k t h) () N) ∗ atPos ER (qCell c k t h) 0 ∅ 0)
@[inherit_doc pend] def fin (k : Fin 4) (t h : Fin 3) : sProp 𝕄 := atPos ER (qCell c k t h) (0 + 1) ∅ 0

/-! ## Signals and waits -/

theorem step_sig0 {α : Type} (Q : α → sProp 𝕄) {dst : Dev nD} {sem : Sem sig} {n : ℤ} {k : PUnit → Prog (TpuEff nD τ sig (Elt F) Λ₀ .tc) α}
    (hd : dst = lft c) (hs : sem = barrier0) (hn : n = 1) :
    iprop(Ctx I κ ∗ owesE c (Ow c 0) ∗ dutyTok ER (barCell (lft c)) 0 (0 : D) ∗ barPay (F := F) (lft c) 0)
      ⊢ iprop((owesE c (Ow c 1) -∗ wpc c (k ⟨⟩) Q) -∗ wpc c (.op (.semSignal (Dev.tc dst) sem n) k) Q) := by
  subst hd; subst hs; subst hn
  iintro ⟨#HC, HO, Ht, HP⟩ Hk
  unfold owesE
  icases HO with ⟨%W, HO⟩
  ihave Hb := (Ctx_bar I κ (lft c)) $$ HC
  icases Hb with ⟨#HI, #Hr⟩
  iapply (Rounds.wp_signal 𝒱₀ ER (gatherRd I) (c : Thread nD τ) none (dst := (lft c : Thread nD τ)) (sem := barrier0) (r := 0) (d := (0 : D)) (κ := κ (barCell (lft c)))
      (by rw [duties_bar]; decide) (amount_bar I (lft c) 0) () (Ow c 1) rfl) $$ [HO Ht HP]
  · isplitr; · iexact HI
    isplitl [HO]; · iexact HO
    isplitl [Ht]; · iexact Ht
    isplitl [HP]; · rw [payload_bar]; iexact HP
    iexact Hr
  iintro HO
  iapply Hk
  iexists W; iexact HO

theorem step_sig1 {α : Type} (Q : α → sProp 𝕄) {dst : Dev nD} {sem : Sem sig} {n : ℤ} {k : PUnit → Prog (TpuEff nD τ sig (Elt F) Λ₀ .tc) α}
    (hd : dst = rgt c) (hs : sem = barrier0) (hn : n = 1) :
    iprop(Ctx I κ ∗ owesE c (Ow c 1) ∗ dutyTok ER (barCell (rgt c)) 0 (1 : D) ∗ barPay (F := F) (rgt c) 1)
      ⊢ iprop((owesE c (Ow c 2) -∗ wpc c (k ⟨⟩) Q) -∗ wpc c (.op (.semSignal (Dev.tc dst) sem n) k) Q) := by
  subst hd; subst hs; subst hn
  iintro ⟨#HC, HO, Ht, HP⟩ Hk
  unfold owesE
  icases HO with ⟨%W, HO⟩
  ihave Hb := (Ctx_bar I κ (rgt c)) $$ HC
  icases Hb with ⟨#HI, #Hr⟩
  iapply (Rounds.wp_signal 𝒱₀ ER (gatherRd I) (c : Thread nD τ) none (dst := (rgt c : Thread nD τ)) (sem := barrier0) (r := 0) (d := (1 : D)) (κ := κ (barCell (rgt c)))
      (by rw [duties_bar]; decide) (amount_bar I (rgt c) 1) () (Ow c 2) rfl) $$ [HO Ht HP]
  · isplitr; · iexact HI
    isplitl [HO]; · iexact HO
    isplitl [Ht]; · iexact Ht
    isplitl [HP]; · rw [payload_bar]; iexact HP
    iexact Hr
  iintro HO
  iapply Hk
  iexists W; iexact HO

theorem step_sig2 {α : Type} (Q : α → sProp 𝕄) {dst : Dev nD} {sem : Sem sig} {n : ℤ} {k : PUnit → Prog (TpuEff nD τ sig (Elt F) Λ₀ .tc) α}
    (hd : dst = par c) (hs : sem = barrier0) (hn : n = 1) :
    iprop(Ctx I κ ∗ owesE c (Ow c 2) ∗ dutyTok ER (barCell (par c)) 0 (2 : D) ∗ barPay (F := F) (par c) 2)
      ⊢ iprop((owesE c (Ow c 3) -∗ wpc c (k ⟨⟩) Q) -∗ wpc c (.op (.semSignal (Dev.tc dst) sem n) k) Q) := by
  subst hd; subst hs; subst hn
  iintro ⟨#HC, HO, Ht, HP⟩ Hk
  unfold owesE
  icases HO with ⟨%W, HO⟩
  ihave Hb := (Ctx_bar I κ (par c)) $$ HC
  icases Hb with ⟨#HI, #Hr⟩
  iapply (Rounds.wp_signal 𝒱₀ ER (gatherRd I) (c : Thread nD τ) none (dst := (par c : Thread nD τ)) (sem := barrier0) (r := 0) (d := (2 : D)) (κ := κ (barCell (par c)))
      (by rw [duties_bar]; decide) (amount_bar I (par c) 2) () (Ow c 3) rfl) $$ [HO Ht HP]
  · isplitr; · iexact HI
    isplitl [HO]; · iexact HO
    isplitl [Ht]; · iexact Ht
    isplitl [HP]; · rw [payload_bar]; iexact HP
    iexact Hr
  iintro HO
  iapply Hk
  iexists W; iexact HO

theorem step_bar {α : Type} (Q : α → sProp 𝕄) {sem : Sem sig} {n : ℤ} {k : PUnit → Prog (TpuEff nD τ sig (Elt F) Λ₀ .tc) α} (hs : sem = barrier0) (hn : n = 3) :
    iprop(Ctx I κ ∗ owesE c (Ow c 3) ∗ cred (tallyAt (barCell c) () 3) ∗ atPos ER (barCell c) 0 ∅ 0)
      ⊢ iprop((owesE c (Ow c 3) ∗ atPos ER (barCell c) (0 + 1) ∅ 0 ∗ barPay (F := F) c 0 ∗ barPay (F := F) c 2 -∗ wpc c (k ⟨⟩) Q)
          -∗ wpc c (.op (.semWait sem n) k) Q) := by
  subst hs; subst hn
  iintro ⟨#HC, HO, Hc, Ha⟩ Hk
  unfold owesE
  icases HO with ⟨%W, HO⟩
  ihave Hb := (Ctx_bar I κ c) $$ HC
  icases Hb with ⟨#HI, #Hr⟩
  iapply (Rounds.wp_wait_rest_token 𝒱₀ ER (gatherRd I) (c : Thread nD τ) none (κ := κ (barCell c))
      (wpE_semWait_eq 𝒱₀ (c : Thread nD τ) none Set.univ) (Set.mem_univ _) () (O := Ow c 3) (W := W) (R := 0) (m := 0) (T := ∅)
      ((Nat.zero_add 3).trans (expect_bar I c).symm)) $$ [HO Hc Ha]
  · isplitr; · iexact HI
    isplitl [Hc]; · iexact Hc
    isplitl [HO]; · iexact HO
    isplitr; · iapply (mw_bar (F := F) c); iapply (Ctx_lev I κ); iexact HC
    iexact Ha
  iintro ⟨HO, Ha, -, HP⟩
  ihave HP := (Entails.of_eq (rest_bar I c)) $$ HP
  icases HP with ⟨H0, -, H2⟩
  iapply Hk
  isplitl [HO]; · iexists _; iexact HO
  isplitl [Ha]; · iexact Ha
  isplitl [H0]; · iexact H0
  iexact H2

theorem step_wait {α : Type} (Q : α → sProp 𝕄) {sp : Space} {s : Shape} {e : EltTy} {sp' : Space} {s' : Shape} {e' : EltTy}
    {src : Memref sig .tc sp s e} {dst : Memref sig .tc sp' s' e'} {sem : DmaSem sig} {hsrc : src.view.WordExact} {hdst : dst.view.WordExact}
    {k : PUnit → Prog (TpuEff nD τ sig (Elt F) Λ₀ .tc) α} (O : CellTallies nD τ sig Unit) (kd : Fin 4) (t h : Fin 3)
    (hs : sem = qn kd t h) (hN : dst.view.dmaCredit = N) (R : sProp 𝕄) (hR : dmaPay I c kd t h ⊢ R)
    (hO : (levAts L lv : sProp 𝕄) ⊢ MayWait (c : Thread nD τ) (.dma (qn kd t h)) () O) :
    iprop(Ctx I κ ∗ owesE c O ∗ pend (F := F) c kd t h)
      ⊢ iprop((owesE c O ∗ fin (F := F) c kd t h ∗ R -∗ wpc c (k ⟨⟩) Q) -∗ wpc c (.op (.waitDma2 sem src dst hsrc hdst) k) Q) := by
  subst hs
  iintro ⟨#HC, HO, Hp⟩ Hk
  unfold owesE pend fin
  icases HO with ⟨%W, HO⟩
  icases Hp with ⟨Hc, Ha⟩
  ihave HI := (Ctx_q I κ c kd t h) $$ HC
  rw [← hN]
  iapply (Rounds.wp_wait_rest_token 𝒱₀ ER (gatherRd I) (c : Thread nD τ) none (κ := κ (qCell c kd t h))
      (wpE_waitDma2_eq 𝒱₀ (c : Thread nD τ) none Set.univ) (Set.mem_univ _) () (O := O) (W := W) (R := 0) (m := 0) (T := ∅)
      ((Nat.zero_add _).trans (hN.trans (expect_q I c kd t h).symm))) $$ [HO Hc Ha HI]
  · isplitl [HI]; · iexact HI
    isplitl [Hc]; · iexact Hc
    isplitl [HO]; · iexact HO
    isplitr; · iapply hO; iapply (Ctx_lev I κ); iexact HC
    iexact Ha
  iintro ⟨HO, Ha, -, HP⟩
  ihave HP := (Entails.of_eq (rest_q I c kd t h)) $$ HP
  iapply Hk
  isplitl [HO]; · iexists _; iexact HO
  isplitl [Ha]; · iexact Ha
  iapply hR; iexact HP

end KProof
-- ==== Proof.Mem.lean ====
module

public import proofs.«01_k».proof.Proof.Steps

/-! The gather's loads and stores. -/

@[expose] public section

set_option maxRecDepth 16384

noncomputable section

namespace KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

variable (I : Ins F) (κ : GSem nD τ sig → ℕ) (c : Dev nD)

theorem zero2 : (![0, 0] : Fin 2 → ℕ) = fun _ => 0 := by funext a; fin_cases a <;> rfl

theorem loadOwn0 {α : Type} (Q : α → sProp 𝕄) (h : ℕ) (q : PosShare TreeShare) {hh} {hl} {k : (S1x1024x64.Idx → Elt F .bf16) → Prog (TpuEff nD τ sig (Elt F) Λ₀ .tc) α} :
    ownP I c 0 h q ⊢ iprop((ownP I c 0 h q -∗ wpc c (k (halfC I (lft^[h] c))) Q)
      -∗ wpc c (.op (.load B0 (Rect.unit (s := S4x1024x64) ![h, 0, 0] S1x1024x64.size hh).toLoadRect hl) k) Q) := by
  dsimp only [ownP]
  have e : (B0.access (Rect.unit (s := S4x1024x64) ![h, 0, 0] S1x1024x64.size hh)).read (Elt F) (ownC I c) = halfC I (lft^[h] c) :=
    funext fun y => stack_rect (fun h => halfC I (lft^[h] c)) h rfl hh y
  rw [← e]
  exact wp_load_rect (m := B0) (r := Rect.unit (s := S4x1024x64) ![h, 0, 0] S1x1024x64.size hh) 𝒱₀ (c : Thread nD τ) none Set.univ
    ((View.set_slice_whole _ _).trans (rect_set h rfl hh)).le

theorem loadOth0 {α : Type} (Q : α → sProp 𝕄) (h : ℕ) (q : PosShare TreeShare) {hh} {hl} {k : (S1x1024x64.Idx → Elt F .bf16) → Prog (TpuEff nD τ sig (Elt F) Λ₀ .tc) α} :
    othP I c 0 h q ⊢ iprop((othP I c 0 h q -∗ wpc c (k (halfC I (lft^[h] (par c)))) Q)
      -∗ wpc c (.op (.load B3 (Rect.unit (s := S4x1024x64) ![h, 0, 0] S1x1024x64.size hh).toLoadRect hl) k) Q) := by
  dsimp only [othP]
  have e : (B3.access (Rect.unit (s := S4x1024x64) ![h, 0, 0] S1x1024x64.size hh)).read (Elt F) (ownC I (par c)) = halfC I (lft^[h] (par c)) :=
    funext fun y => stack_rect (fun h => halfC I (lft^[h] (par c))) h rfl hh y
  rw [← e]
  exact wp_load_rect (m := B3) (r := Rect.unit (s := S4x1024x64) ![h, 0, 0] S1x1024x64.size hh) 𝒱₀ (c : Thread nD τ) none Set.univ
    ((View.set_slice_whole _ _).trans (rect_set h rfl hh)).le

theorem loadOwn1 {α : Type} (Q : α → sProp 𝕄) (h : ℕ) (q : PosShare TreeShare) {hh} {hl} {k : (S1x64x2048.Idx → Elt F .bf16) → Prog (TpuEff nD τ sig (Elt F) Λ₀ .tc) α} :
    ownP I c 1 h q ⊢ iprop((ownP I c 1 h q -∗ wpc c (k (halfK I (lft^[h] c))) Q)
      -∗ wpc c (.op (.load B1 (Rect.unit (s := S4x64x2048) ![h, 0, 0] S1x64x2048.size hh).toLoadRect hl) k) Q) := by
  dsimp only [ownP]
  have e : (B1.access (Rect.unit (s := S4x64x2048) ![h, 0, 0] S1x64x2048.size hh)).read (Elt F) (ownK I c) = halfK I (lft^[h] c) :=
    funext fun y => stack_rect (fun h => halfK I (lft^[h] c)) h rfl hh y
  rw [← e]
  exact wp_load_rect (m := B1) (r := Rect.unit (s := S4x64x2048) ![h, 0, 0] S1x64x2048.size hh) 𝒱₀ (c : Thread nD τ) none Set.univ
    ((View.set_slice_whole _ _).trans (rect_set h rfl hh)).le

theorem loadOth1 {α : Type} (Q : α → sProp 𝕄) (h : ℕ) (q : PosShare TreeShare) {hh} {hl} {k : (S1x64x2048.Idx → Elt F .bf16) → Prog (TpuEff nD τ sig (Elt F) Λ₀ .tc) α} :
    othP I c 1 h q ⊢ iprop((othP I c 1 h q -∗ wpc c (k (halfK I (lft^[h] (par c)))) Q)
      -∗ wpc c (.op (.load B4 (Rect.unit (s := S4x64x2048) ![h, 0, 0] S1x64x2048.size hh).toLoadRect hl) k) Q) := by
  dsimp only [othP]
  have e : (B4.access (Rect.unit (s := S4x64x2048) ![h, 0, 0] S1x64x2048.size hh)).read (Elt F) (ownK I (par c)) = halfK I (lft^[h] (par c)) :=
    funext fun y => stack_rect (fun h => halfK I (lft^[h] (par c))) h rfl hh y
  rw [← e]
  exact wp_load_rect (m := B4) (r := Rect.unit (s := S4x64x2048) ![h, 0, 0] S1x64x2048.size hh) 𝒱₀ (c : Thread nD τ) none Set.univ
    ((View.set_slice_whole _ _).trans (rect_set h rfl hh)).le

theorem loadOwn2 {α : Type} (Q : α → sProp 𝕄) (h : ℕ) (q : PosShare TreeShare) {hh} {hl} {k : (S1x64x2048.Idx → Elt F .bf16) → Prog (TpuEff nD τ sig (Elt F) Λ₀ .tc) α} :
    ownP I c 2 h q ⊢ iprop((ownP I c 2 h q -∗ wpc c (k (halfV I (lft^[h] c))) Q)
      -∗ wpc c (.op (.load B2 (Rect.unit (s := S4x64x2048) ![h, 0, 0] S1x64x2048.size hh).toLoadRect hl) k) Q) := by
  dsimp only [ownP]
  have e : (B2.access (Rect.unit (s := S4x64x2048) ![h, 0, 0] S1x64x2048.size hh)).read (Elt F) (ownV I c) = halfV I (lft^[h] c) :=
    funext fun y => stack_rect (fun h => halfV I (lft^[h] c)) h rfl hh y
  rw [← e]
  exact wp_load_rect (m := B2) (r := Rect.unit (s := S4x64x2048) ![h, 0, 0] S1x64x2048.size hh) 𝒱₀ (c : Thread nD τ) none Set.univ
    ((View.set_slice_whole _ _).trans (rect_set h rfl hh)).le

theorem loadOth2 {α : Type} (Q : α → sProp 𝕄) (h : ℕ) (q : PosShare TreeShare) {hh} {hl} {k : (S1x64x2048.Idx → Elt F .bf16) → Prog (TpuEff nD τ sig (Elt F) Λ₀ .tc) α} :
    othP I c 2 h q ⊢ iprop((othP I c 2 h q -∗ wpc c (k (halfV I (lft^[h] (par c)))) Q)
      -∗ wpc c (.op (.load B5 (Rect.unit (s := S4x64x2048) ![h, 0, 0] S1x64x2048.size hh).toLoadRect hl) k) Q) := by
  dsimp only [othP]
  have e : (B5.access (Rect.unit (s := S4x64x2048) ![h, 0, 0] S1x64x2048.size hh)).read (Elt F) (ownV I (par c)) = halfV I (lft^[h] (par c)) :=
    funext fun y => stack_rect (fun h => halfV I (lft^[h] (par c))) h rfl hh y
  rw [← e]
  exact wp_load_rect (m := B5) (r := Rect.unit (s := S4x64x2048) ![h, 0, 0] S1x64x2048.size hh) 𝒱₀ (c : Thread nD τ) none Set.univ
    ((View.set_slice_whole _ _).trans (rect_set h rfl hh)).le

theorem peek0 {α : Type} (Q : α → sProp 𝕄) (h : ℕ) {hh} {hl} {k : (S1x1024x64.Idx → Elt F .bf16) → Prog (TpuEff nD τ sig (Elt F) Λ₀ .tc) α} :
    ownAny (F := F) c 0 h ⊢ iprop((∀ v, ownAny (F := F) c 0 h -∗ wpc c (k v) Q)
      -∗ wpc c (.op (.load B0 (Rect.unit (s := S4x1024x64) ![h, 0, 0] S1x1024x64.size hh).toLoadRect hl) k) Q) := by
  dsimp only [ownAny]
  iintro ⟨%f, Hf⟩ Hk
  iapply (wp_load_rect (m := B0) (r := Rect.unit (s := S4x1024x64) ![h, 0, 0] S1x1024x64.size hh) 𝒱₀ (c : Thread nD τ) none Set.univ
    ((View.set_slice_whole _ _).trans (rect_set h rfl hh)).le) $$ [Hf]
  · iexact Hf
  iintro Hf
  iapply Hk
  iexists f; iexact Hf

theorem fillEq0 {hh} (f) (i) (hi : i ∈ slotSet 1024 64 0) :
    (B0.access (Rect.unit (s := S4x1024x64) ![0, 0, 0] S1x1024x64.size hh)).write (Elt F) f (halfC I c) Finset.univ i = ownC I c i := by
  have e : (B0.access (Rect.unit (s := S4x1024x64) ![0, 0, 0] S1x1024x64.size hh)).read (Elt F) (ownC I c) = halfC I c :=
    funext fun y => stack_rect (fun h => halfC I (lft^[h] c)) 0 rfl hh y
  have hs : (B0.access (Rect.unit (s := S4x1024x64) ![0, 0, 0] S1x1024x64.size hh)).set = slotSet 1024 64 0 := (View.set_slice_whole _ _).trans (rect_set 0 rfl hh)
  exact written _ f (ownC I c) (halfC I c) (fun y => (congrFun e y).symm) i (hs ▸ hi)

theorem fill0 {α : Type} (Q : α → sProp 𝕄) {w} {hh} {hx hm} {k : PUnit → Prog (TpuEff nD τ sig (Elt F) Λ₀ .tc) α} (hw : w = halfC I c) :
    ownAny (F := F) c 0 0 ⊢ iprop((ownP I c 0 0 fullShare -∗ wpc c (k ⟨⟩) Q)
      -∗ wpc c (.op (.store B0 (Rect.unit (s := S4x1024x64) ![0, 0, 0] S1x1024x64.size hh) w Finset.univ hx hm) k) Q) := by
  subst hw
  dsimp only [ownAny, ownP]
  iintro ⟨%f, Hf⟩ Hk
  have hs : (B0.access (Rect.unit (s := S4x1024x64) ![0, 0, 0] S1x1024x64.size hh)).set = slotSet 1024 64 0 := (View.set_slice_whole _ _).trans (rect_set 0 rfl hh)
  iapply (wp_store (m := B0) (r := Rect.unit (s := S4x1024x64) ![0, 0, 0] S1x1024x64.size hh) 𝒱₀ (c : Thread nD τ) none Set.univ (S := slotSet 1024 64 0) ((View.setOn_univ _).le.trans hs.le)) $$ [Hf]
  · iexact Hf
  iintro Hf
  iapply Hk
  have hc : ((B0.access (Rect.unit (s := S4x1024x64) ![0, 0, 0] S1x1024x64.size hh)).loc (c : Thread nD τ) ↦[slotSet 1024 64 0]{fullShare} (B0.access (Rect.unit (s := S4x1024x64) ![0, 0, 0] S1x1024x64.size hh)).write (Elt F) f (halfC I c) Finset.univ : sProp 𝕄)
      ⊢ (B0.access (Rect.unit (s := S4x1024x64) ![0, 0, 0] S1x1024x64.size hh)).loc (c : Thread nD τ) ↦[slotSet 1024 64 0]{fullShare} ownC I c :=
    Entails.of_eq (pointsTo_congr (fillEq0 I c (hh := hh) f))
  iapply hc
  iexact Hf

theorem peek1 {α : Type} (Q : α → sProp 𝕄) (h : ℕ) {hh} {hl} {k : (S1x64x2048.Idx → Elt F .bf16) → Prog (TpuEff nD τ sig (Elt F) Λ₀ .tc) α} :
    ownAny (F := F) c 1 h ⊢ iprop((∀ v, ownAny (F := F) c 1 h -∗ wpc c (k v) Q)
      -∗ wpc c (.op (.load B1 (Rect.unit (s := S4x64x2048) ![h, 0, 0] S1x64x2048.size hh).toLoadRect hl) k) Q) := by
  dsimp only [ownAny]
  iintro ⟨%f, Hf⟩ Hk
  iapply (wp_load_rect (m := B1) (r := Rect.unit (s := S4x64x2048) ![h, 0, 0] S1x64x2048.size hh) 𝒱₀ (c : Thread nD τ) none Set.univ
    ((View.set_slice_whole _ _).trans (rect_set h rfl hh)).le) $$ [Hf]
  · iexact Hf
  iintro Hf
  iapply Hk
  iexists f; iexact Hf

theorem fillEq1 {hh} (f) (i) (hi : i ∈ slotSet 64 2048 0) :
    (B1.access (Rect.unit (s := S4x64x2048) ![0, 0, 0] S1x64x2048.size hh)).write (Elt F) f (halfK I c) Finset.univ i = ownK I c i := by
  have e : (B1.access (Rect.unit (s := S4x64x2048) ![0, 0, 0] S1x64x2048.size hh)).read (Elt F) (ownK I c) = halfK I c :=
    funext fun y => stack_rect (fun h => halfK I (lft^[h] c)) 0 rfl hh y
  have hs : (B1.access (Rect.unit (s := S4x64x2048) ![0, 0, 0] S1x64x2048.size hh)).set = slotSet 64 2048 0 := (View.set_slice_whole _ _).trans (rect_set 0 rfl hh)
  exact written _ f (ownK I c) (halfK I c) (fun y => (congrFun e y).symm) i (hs ▸ hi)

theorem fill1 {α : Type} (Q : α → sProp 𝕄) {w} {hh} {hx hm} {k : PUnit → Prog (TpuEff nD τ sig (Elt F) Λ₀ .tc) α} (hw : w = halfK I c) :
    ownAny (F := F) c 1 0 ⊢ iprop((ownP I c 1 0 fullShare -∗ wpc c (k ⟨⟩) Q)
      -∗ wpc c (.op (.store B1 (Rect.unit (s := S4x64x2048) ![0, 0, 0] S1x64x2048.size hh) w Finset.univ hx hm) k) Q) := by
  subst hw
  dsimp only [ownAny, ownP]
  iintro ⟨%f, Hf⟩ Hk
  have hs : (B1.access (Rect.unit (s := S4x64x2048) ![0, 0, 0] S1x64x2048.size hh)).set = slotSet 64 2048 0 := (View.set_slice_whole _ _).trans (rect_set 0 rfl hh)
  iapply (wp_store (m := B1) (r := Rect.unit (s := S4x64x2048) ![0, 0, 0] S1x64x2048.size hh) 𝒱₀ (c : Thread nD τ) none Set.univ (S := slotSet 64 2048 0) ((View.setOn_univ _).le.trans hs.le)) $$ [Hf]
  · iexact Hf
  iintro Hf
  iapply Hk
  have hc : ((B1.access (Rect.unit (s := S4x64x2048) ![0, 0, 0] S1x64x2048.size hh)).loc (c : Thread nD τ) ↦[slotSet 64 2048 0]{fullShare} (B1.access (Rect.unit (s := S4x64x2048) ![0, 0, 0] S1x64x2048.size hh)).write (Elt F) f (halfK I c) Finset.univ : sProp 𝕄)
      ⊢ (B1.access (Rect.unit (s := S4x64x2048) ![0, 0, 0] S1x64x2048.size hh)).loc (c : Thread nD τ) ↦[slotSet 64 2048 0]{fullShare} ownK I c :=
    Entails.of_eq (pointsTo_congr (fillEq1 I c (hh := hh) f))
  iapply hc
  iexact Hf

theorem peek2 {α : Type} (Q : α → sProp 𝕄) (h : ℕ) {hh} {hl} {k : (S1x64x2048.Idx → Elt F .bf16) → Prog (TpuEff nD τ sig (Elt F) Λ₀ .tc) α} :
    ownAny (F := F) c 2 h ⊢ iprop((∀ v, ownAny (F := F) c 2 h -∗ wpc c (k v) Q)
      -∗ wpc c (.op (.load B2 (Rect.unit (s := S4x64x2048) ![h, 0, 0] S1x64x2048.size hh).toLoadRect hl) k) Q) := by
  dsimp only [ownAny]
  iintro ⟨%f, Hf⟩ Hk
  iapply (wp_load_rect (m := B2) (r := Rect.unit (s := S4x64x2048) ![h, 0, 0] S1x64x2048.size hh) 𝒱₀ (c : Thread nD τ) none Set.univ
    ((View.set_slice_whole _ _).trans (rect_set h rfl hh)).le) $$ [Hf]
  · iexact Hf
  iintro Hf
  iapply Hk
  iexists f; iexact Hf

theorem fillEq2 {hh} (f) (i) (hi : i ∈ slotSet 64 2048 0) :
    (B2.access (Rect.unit (s := S4x64x2048) ![0, 0, 0] S1x64x2048.size hh)).write (Elt F) f (halfV I c) Finset.univ i = ownV I c i := by
  have e : (B2.access (Rect.unit (s := S4x64x2048) ![0, 0, 0] S1x64x2048.size hh)).read (Elt F) (ownV I c) = halfV I c :=
    funext fun y => stack_rect (fun h => halfV I (lft^[h] c)) 0 rfl hh y
  have hs : (B2.access (Rect.unit (s := S4x64x2048) ![0, 0, 0] S1x64x2048.size hh)).set = slotSet 64 2048 0 := (View.set_slice_whole _ _).trans (rect_set 0 rfl hh)
  exact written _ f (ownV I c) (halfV I c) (fun y => (congrFun e y).symm) i (hs ▸ hi)

theorem fill2 {α : Type} (Q : α → sProp 𝕄) {w} {hh} {hx hm} {k : PUnit → Prog (TpuEff nD τ sig (Elt F) Λ₀ .tc) α} (hw : w = halfV I c) :
    ownAny (F := F) c 2 0 ⊢ iprop((ownP I c 2 0 fullShare -∗ wpc c (k ⟨⟩) Q)
      -∗ wpc c (.op (.store B2 (Rect.unit (s := S4x64x2048) ![0, 0, 0] S1x64x2048.size hh) w Finset.univ hx hm) k) Q) := by
  subst hw
  dsimp only [ownAny, ownP]
  iintro ⟨%f, Hf⟩ Hk
  have hs : (B2.access (Rect.unit (s := S4x64x2048) ![0, 0, 0] S1x64x2048.size hh)).set = slotSet 64 2048 0 := (View.set_slice_whole _ _).trans (rect_set 0 rfl hh)
  iapply (wp_store (m := B2) (r := Rect.unit (s := S4x64x2048) ![0, 0, 0] S1x64x2048.size hh) 𝒱₀ (c : Thread nD τ) none Set.univ (S := slotSet 64 2048 0) ((View.setOn_univ _).le.trans hs.le)) $$ [Hf]
  · iexact Hf
  iintro Hf
  iapply Hk
  have hc : ((B2.access (Rect.unit (s := S4x64x2048) ![0, 0, 0] S1x64x2048.size hh)).loc (c : Thread nD τ) ↦[slotSet 64 2048 0]{fullShare} (B2.access (Rect.unit (s := S4x64x2048) ![0, 0, 0] S1x64x2048.size hh)).write (Elt F) f (halfV I c) Finset.univ : sProp 𝕄)
      ⊢ (B2.access (Rect.unit (s := S4x64x2048) ![0, 0, 0] S1x64x2048.size hh)).loc (c : Thread nD τ) ↦[slotSet 64 2048 0]{fullShare} ownV I c :=
    Entails.of_eq (pointsTo_congr (fillEq2 I c (hh := hh) f))
  iapply hc
  iexact Hf

theorem loadW0 {α : Type} (Q : α → sProp 𝕄) (f : S1024x2048.Idx → Elt F .bf16) {hh} {hl} {k : (S1024x2048.Idx → Elt F .bf16) → Prog (TpuEff nD τ sig (Elt F) Λ₀ .tc) α} :
    pt c cc0_stg0_0 f ⊢ iprop((pt c cc0_stg0_0 f -∗ wpc c (k f) Q)
      -∗ wpc c (.op (.load (Memref.whole cc0_stg0_0) (Rect.unit (s := S1024x2048) ![0, 0] S1024x2048.size hh).toLoadRect hl) k) Q) := by
  have e : ((Memref.whole cc0_stg0_0).access (Rect.unit (s := S1024x2048) ![0, 0] S1024x2048.size hh)).read (Elt F) f = f :=
    Memref.read_access_unit_zero (Elt F) cc0_stg0_0 (off := ![0, 0]) zero2 hh f
  have h := wp_load_rect (m := Memref.whole cc0_stg0_0) (r := Rect.unit (s := S1024x2048) ![0, 0] S1024x2048.size hh) (hl := hl) (k := k) (Q := Q) (S := Finset.univ) (q := fullShare) (f := f)
    (defs := defs₀ (F := F)) (Γ := []) (𝒱 := 𝒱₀) (c := (c : Thread nD τ)) (bd := none) (E := Set.univ) (Finset.subset_univ _)
  rw [e] at h
  exact h

theorem loadW1 {α : Type} (Q : α → sProp 𝕄) (f : S2048x128.Idx → Elt F .bf16) {hh} {hl} {k : (S2048x128.Idx → Elt F .bf16) → Prog (TpuEff nD τ sig (Elt F) Λ₀ .tc) α} :
    pt c cc0_stg1_0 f ⊢ iprop((pt c cc0_stg1_0 f -∗ wpc c (k f) Q)
      -∗ wpc c (.op (.load (Memref.whole cc0_stg1_0) (Rect.unit (s := S2048x128) ![0, 0] S2048x128.size hh).toLoadRect hl) k) Q) := by
  have e : ((Memref.whole cc0_stg1_0).access (Rect.unit (s := S2048x128) ![0, 0] S2048x128.size hh)).read (Elt F) f = f :=
    Memref.read_access_unit_zero (Elt F) cc0_stg1_0 (off := ![0, 0]) zero2 hh f
  have h := wp_load_rect (m := Memref.whole cc0_stg1_0) (r := Rect.unit (s := S2048x128) ![0, 0] S2048x128.size hh) (hl := hl) (k := k) (Q := Q) (S := Finset.univ) (q := fullShare) (f := f)
    (defs := defs₀ (F := F)) (Γ := []) (𝒱 := 𝒱₀) (c := (c : Thread nD τ)) (bd := none) (E := Set.univ) (Finset.subset_univ _)
  rw [e] at h
  exact h

theorem loadW2 {α : Type} (Q : α → sProp 𝕄) (f : S128x2048.Idx → Elt F .bf16) {hh} {hl} {k : (S128x2048.Idx → Elt F .bf16) → Prog (TpuEff nD τ sig (Elt F) Λ₀ .tc) α} :
    pt c cc0_stg2_0 f ⊢ iprop((pt c cc0_stg2_0 f -∗ wpc c (k f) Q)
      -∗ wpc c (.op (.load (Memref.whole cc0_stg2_0) (Rect.unit (s := S128x2048) ![0, 0] S128x2048.size hh).toLoadRect hl) k) Q) := by
  have e : ((Memref.whole cc0_stg2_0).access (Rect.unit (s := S128x2048) ![0, 0] S128x2048.size hh)).read (Elt F) f = f :=
    Memref.read_access_unit_zero (Elt F) cc0_stg2_0 (off := ![0, 0]) zero2 hh f
  have h := wp_load_rect (m := Memref.whole cc0_stg2_0) (r := Rect.unit (s := S128x2048) ![0, 0] S128x2048.size hh) (hl := hl) (k := k) (Q := Q) (S := Finset.univ) (q := fullShare) (f := f)
    (defs := defs₀ (F := F)) (Γ := []) (𝒱 := 𝒱₀) (c := (c : Thread nD τ)) (bd := none) (E := Set.univ) (Finset.subset_univ _)
  rw [e] at h
  exact h

theorem loadW3 {α : Type} (Q : α → sProp 𝕄) (f : S128x2048.Idx → Elt F .bf16) {hh} {hl} {k : (S128x2048.Idx → Elt F .bf16) → Prog (TpuEff nD τ sig (Elt F) Λ₀ .tc) α} :
    pt c cc0_stg3_0 f ⊢ iprop((pt c cc0_stg3_0 f -∗ wpc c (k f) Q)
      -∗ wpc c (.op (.load (Memref.whole cc0_stg3_0) (Rect.unit (s := S128x2048) ![0, 0] S128x2048.size hh).toLoadRect hl) k) Q) := by
  have e : ((Memref.whole cc0_stg3_0).access (Rect.unit (s := S128x2048) ![0, 0] S128x2048.size hh)).read (Elt F) f = f :=
    Memref.read_access_unit_zero (Elt F) cc0_stg3_0 (off := ![0, 0]) zero2 hh f
  have h := wp_load_rect (m := Memref.whole cc0_stg3_0) (r := Rect.unit (s := S128x2048) ![0, 0] S128x2048.size hh) (hl := hl) (k := k) (Q := Q) (S := Finset.univ) (q := fullShare) (f := f)
    (defs := defs₀ (F := F)) (Γ := []) (𝒱 := 𝒱₀) (c := (c : Thread nD τ)) (bd := none) (E := Set.univ) (Finset.subset_univ _)
  rw [e] at h
  exact h

theorem loadW4 {α : Type} (Q : α → sProp 𝕄) (f : S1024x2048.Idx → Elt F .bf16) {hh} {hl} {k : (S1024x2048.Idx → Elt F .bf16) → Prog (TpuEff nD τ sig (Elt F) Λ₀ .tc) α} :
    pt c cc0_stg4_0 f ⊢ iprop((pt c cc0_stg4_0 f -∗ wpc c (k f) Q)
      -∗ wpc c (.op (.load (Memref.whole cc0_stg4_0) (Rect.unit (s := S1024x2048) ![0, 0] S1024x2048.size hh).toLoadRect hl) k) Q) := by
  have e : ((Memref.whole cc0_stg4_0).access (Rect.unit (s := S1024x2048) ![0, 0] S1024x2048.size hh)).read (Elt F) f = f :=
    Memref.read_access_unit_zero (Elt F) cc0_stg4_0 (off := ![0, 0]) zero2 hh f
  have h := wp_load_rect (m := Memref.whole cc0_stg4_0) (r := Rect.unit (s := S1024x2048) ![0, 0] S1024x2048.size hh) (hl := hl) (k := k) (Q := Q) (S := Finset.univ) (q := fullShare) (f := f)
    (defs := defs₀ (F := F)) (Γ := []) (𝒱 := 𝒱₀) (c := (c : Thread nD τ)) (bd := none) (E := Set.univ) (Finset.subset_univ _)
  rw [e] at h
  exact h

theorem storeW4 {α : Type} (Q : α → sProp 𝕄) (f w : S1024x2048.Idx → Elt F .bf16) {hh} {hx hm} {k : PUnit → Prog (TpuEff nD τ sig (Elt F) Λ₀ .tc) α} :
    pt c cc0_stg4_0 f ⊢ iprop((pt c cc0_stg4_0 w -∗ wpc c (k ⟨⟩) Q)
      -∗ wpc c (.op (.store (Memref.whole cc0_stg4_0) (Rect.unit (s := S1024x2048) ![0, 0] S1024x2048.size hh) w Finset.univ hx hm) k) Q) := by
  have e : ((Memref.whole cc0_stg4_0).access (Rect.unit (s := S1024x2048) ![0, 0] S1024x2048.size hh)).write (Elt F) f w Finset.univ = w :=
    Memref.write_access_unit_zero_univ (Elt F) cc0_stg4_0 (off := ![0, 0]) zero2 hh f w
  have h := wp_store (m := Memref.whole cc0_stg4_0) (r := Rect.unit (s := S1024x2048) ![0, 0] S1024x2048.size hh) (w := w) (Mk := Finset.univ) (hx := hx) (hm := hm) (k := k) (Q := Q) (S := Finset.univ) (f := f)
    (defs := defs₀ (F := F)) (Γ := []) (𝒱 := 𝒱₀) (c := (c : Thread nD τ)) (bd := none) (E := Set.univ) (Finset.subset_univ _)
  rw [e] at h
  exact h

theorem loadW5 {α : Type} (Q : α → sProp 𝕄) (f : S1024x2048.Idx → Elt F .bf16) {hh} {hl} {k : (S1024x2048.Idx → Elt F .bf16) → Prog (TpuEff nD τ sig (Elt F) Λ₀ .tc) α} :
    pt c cc0_stg5_0 f ⊢ iprop((pt c cc0_stg5_0 f -∗ wpc c (k f) Q)
      -∗ wpc c (.op (.load (Memref.whole cc0_stg5_0) (Rect.unit (s := S1024x2048) ![0, 0] S1024x2048.size hh).toLoadRect hl) k) Q) := by
  have e : ((Memref.whole cc0_stg5_0).access (Rect.unit (s := S1024x2048) ![0, 0] S1024x2048.size hh)).read (Elt F) f = f :=
    Memref.read_access_unit_zero (Elt F) cc0_stg5_0 (off := ![0, 0]) zero2 hh f
  have h := wp_load_rect (m := Memref.whole cc0_stg5_0) (r := Rect.unit (s := S1024x2048) ![0, 0] S1024x2048.size hh) (hl := hl) (k := k) (Q := Q) (S := Finset.univ) (q := fullShare) (f := f)
    (defs := defs₀ (F := F)) (Γ := []) (𝒱 := 𝒱₀) (c := (c : Thread nD τ)) (bd := none) (E := Set.univ) (Finset.subset_univ _)
  rw [e] at h
  exact h

theorem storeW5 {α : Type} (Q : α → sProp 𝕄) (f w : S1024x2048.Idx → Elt F .bf16) {hh} {hx hm} {k : PUnit → Prog (TpuEff nD τ sig (Elt F) Λ₀ .tc) α} :
    pt c cc0_stg5_0 f ⊢ iprop((pt c cc0_stg5_0 w -∗ wpc c (k ⟨⟩) Q)
      -∗ wpc c (.op (.store (Memref.whole cc0_stg5_0) (Rect.unit (s := S1024x2048) ![0, 0] S1024x2048.size hh) w Finset.univ hx hm) k) Q) := by
  have e : ((Memref.whole cc0_stg5_0).access (Rect.unit (s := S1024x2048) ![0, 0] S1024x2048.size hh)).write (Elt F) f w Finset.univ = w :=
    Memref.write_access_unit_zero_univ (Elt F) cc0_stg5_0 (off := ![0, 0]) zero2 hh f w
  have h := wp_store (m := Memref.whole cc0_stg5_0) (r := Rect.unit (s := S1024x2048) ![0, 0] S1024x2048.size hh) (w := w) (Mk := Finset.univ) (hx := hx) (hm := hm) (k := k) (Q := Q) (S := Finset.univ) (f := f)
    (defs := defs₀ (F := F)) (Γ := []) (𝒱 := 𝒱₀) (c := (c : Thread nD τ)) (bd := none) (E := Set.univ) (Finset.subset_univ _)
  rw [e] at h
  exact h

theorem loadA6 {α : Type} (Q : α → sProp 𝕄) (f : S1024x2048.Idx → Elt F .f32) {hh} {hl} {k : (S1024x2048.Idx → Elt F .f32) → Prog (TpuEff nD τ sig (Elt F) Λ₀ .tc) α} :
    pt c cc0_scratch6 f ⊢ iprop((pt c cc0_scratch6 f -∗ wpc c (k f) Q)
      -∗ wpc c (.op (.load (Memref.whole cc0_scratch6) (Rect.unit (s := S1024x2048) ![0, 0] S1024x2048.size hh).toLoadRect hl) k) Q) := by
  have e : ((Memref.whole cc0_scratch6).access (Rect.unit (s := S1024x2048) ![0, 0] S1024x2048.size hh)).read (Elt F) f = f :=
    Memref.read_access_unit_zero (Elt F) cc0_scratch6 (off := ![0, 0]) zero2 hh f
  have h := wp_load_rect (m := Memref.whole cc0_scratch6) (r := Rect.unit (s := S1024x2048) ![0, 0] S1024x2048.size hh) (hl := hl) (k := k) (Q := Q) (S := Finset.univ) (q := fullShare) (f := f)
    (defs := defs₀ (F := F)) (Γ := []) (𝒱 := 𝒱₀) (c := (c : Thread nD τ)) (bd := none) (E := Set.univ) (Finset.subset_univ _)
  rw [e] at h
  exact h

theorem storeA6 {α : Type} (Q : α → sProp 𝕄) (f w : S1024x2048.Idx → Elt F .f32) {hh} {hx hm} {k : PUnit → Prog (TpuEff nD τ sig (Elt F) Λ₀ .tc) α} :
    pt c cc0_scratch6 f ⊢ iprop((pt c cc0_scratch6 w -∗ wpc c (k ⟨⟩) Q)
      -∗ wpc c (.op (.store (Memref.whole cc0_scratch6) (Rect.unit (s := S1024x2048) ![0, 0] S1024x2048.size hh) w Finset.univ hx hm) k) Q) := by
  have e : ((Memref.whole cc0_scratch6).access (Rect.unit (s := S1024x2048) ![0, 0] S1024x2048.size hh)).write (Elt F) f w Finset.univ = w :=
    Memref.write_access_unit_zero_univ (Elt F) cc0_scratch6 (off := ![0, 0]) zero2 hh f w
  have h := wp_store (m := Memref.whole cc0_scratch6) (r := Rect.unit (s := S1024x2048) ![0, 0] S1024x2048.size hh) (w := w) (Mk := Finset.univ) (hx := hx) (hm := hm) (k := k) (Q := Q) (S := Finset.univ) (f := f)
    (defs := defs₀ (F := F)) (Γ := []) (𝒱 := 𝒱₀) (c := (c : Thread nD τ)) (bd := none) (E := Set.univ) (Finset.subset_univ _)
  rw [e] at h
  exact h

theorem loadA7 {α : Type} (Q : α → sProp 𝕄) (f : S1024x2048.Idx → Elt F .f32) {hh} {hl} {k : (S1024x2048.Idx → Elt F .f32) → Prog (TpuEff nD τ sig (Elt F) Λ₀ .tc) α} :
    pt c cc0_scratch7 f ⊢ iprop((pt c cc0_scratch7 f -∗ wpc c (k f) Q)
      -∗ wpc c (.op (.load (Memref.whole cc0_scratch7) (Rect.unit (s := S1024x2048) ![0, 0] S1024x2048.size hh).toLoadRect hl) k) Q) := by
  have e : ((Memref.whole cc0_scratch7).access (Rect.unit (s := S1024x2048) ![0, 0] S1024x2048.size hh)).read (Elt F) f = f :=
    Memref.read_access_unit_zero (Elt F) cc0_scratch7 (off := ![0, 0]) zero2 hh f
  have h := wp_load_rect (m := Memref.whole cc0_scratch7) (r := Rect.unit (s := S1024x2048) ![0, 0] S1024x2048.size hh) (hl := hl) (k := k) (Q := Q) (S := Finset.univ) (q := fullShare) (f := f)
    (defs := defs₀ (F := F)) (Γ := []) (𝒱 := 𝒱₀) (c := (c : Thread nD τ)) (bd := none) (E := Set.univ) (Finset.subset_univ _)
  rw [e] at h
  exact h

theorem storeA7 {α : Type} (Q : α → sProp 𝕄) (f w : S1024x2048.Idx → Elt F .f32) {hh} {hx hm} {k : PUnit → Prog (TpuEff nD τ sig (Elt F) Λ₀ .tc) α} :
    pt c cc0_scratch7 f ⊢ iprop((pt c cc0_scratch7 w -∗ wpc c (k ⟨⟩) Q)
      -∗ wpc c (.op (.store (Memref.whole cc0_scratch7) (Rect.unit (s := S1024x2048) ![0, 0] S1024x2048.size hh) w Finset.univ hx hm) k) Q) := by
  have e : ((Memref.whole cc0_scratch7).access (Rect.unit (s := S1024x2048) ![0, 0] S1024x2048.size hh)).write (Elt F) f w Finset.univ = w :=
    Memref.write_access_unit_zero_univ (Elt F) cc0_scratch7 (off := ![0, 0]) zero2 hh f w
  have h := wp_store (m := Memref.whole cc0_scratch7) (r := Rect.unit (s := S1024x2048) ![0, 0] S1024x2048.size hh) (w := w) (Mk := Finset.univ) (hx := hx) (hm := hm) (k := k) (Q := Q) (S := Finset.univ) (f := f)
    (defs := defs₀ (F := F)) (Γ := []) (𝒱 := 𝒱₀) (c := (c : Thread nD τ)) (bd := none) (E := Set.univ) (Finset.subset_univ _)
  rw [e] at h
  exact h

end KProof
-- ==== Proof.Sends.lean ====
module

public import proofs.«01_k».proof.Proof.Steps

/-! The gather's transfers. -/

@[expose] public section

set_option maxRecDepth 16384

noncomputable section

namespace KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

variable (I : Ins F) (κ : GSem nD τ sig → ℕ) (c : Dev nD)

/-! ## Transfers -/

theorem shiftZ0 (h : Fin 3) (hi hj) (y : (S1024x64 : Shape).Idx) :
    (slC B0 (h.val) hi).view.read (Elt F) (ownC I c) y = (slC B0 (h.val + 1) hj).view.read (Elt F) (ownC I (rgt c)) y := by
  refine (stack_rect (fun h => halfC I (lft^[h] c)) _ rfl _ _).trans (Eq.trans ?_ (stack_rect (fun h => halfC I (lft^[h] ((rgt c)))) _ rfl _ _).symm)
  rw [Function.iterate_succ_apply, lft_rgt]

theorem shiftZ1 (h : Fin 3) (hi hj) (y : (S64x2048 : Shape).Idx) :
    (slK B1 (h.val) hi).view.read (Elt F) (ownK I c) y = (slK B1 (h.val + 1) hj).view.read (Elt F) (ownK I (rgt c)) y := by
  refine (stack_rect (fun h => halfK I (lft^[h] c)) _ rfl _ _).trans (Eq.trans ?_ (stack_rect (fun h => halfK I (lft^[h] ((rgt c)))) _ rfl _ _).symm)
  rw [Function.iterate_succ_apply, lft_rgt]

theorem shiftZ2 (h : Fin 3) (hi hj) (y : (S64x2048 : Shape).Idx) :
    (slK B2 (h.val) hi).view.read (Elt F) (ownV I c) y = (slK B2 (h.val + 1) hj).view.read (Elt F) (ownV I (rgt c)) y := by
  refine (stack_rect (fun h => halfV I (lft^[h] c)) _ rfl _ _).trans (Eq.trans ?_ (stack_rect (fun h => halfV I (lft^[h] ((rgt c)))) _ rfl _ _).symm)
  rw [Function.iterate_succ_apply, lft_rgt]

theorem shiftY0 (h : Fin 3) (hi hj) (y : (S1024x64 : Shape).Idx) :
    (slC B0 (h.val + 1) hi).view.read (Elt F) (ownC I c) y = (slC B3 (h.val + 1) hj).view.read (Elt F) (ownC I (par (par c))) y := by
  refine (stack_rect (fun h => halfC I (lft^[h] c)) _ rfl _ _).trans (Eq.trans ?_ (stack_rect (fun h => halfC I (lft^[h] ((par (par c))))) _ rfl _ _).symm)
  rw [par_par]

theorem shiftY1 (h : Fin 3) (hi hj) (y : (S64x2048 : Shape).Idx) :
    (slK B1 (h.val + 1) hi).view.read (Elt F) (ownK I c) y = (slK B4 (h.val + 1) hj).view.read (Elt F) (ownK I (par (par c))) y := by
  refine (stack_rect (fun h => halfK I (lft^[h] c)) _ rfl _ _).trans (Eq.trans ?_ (stack_rect (fun h => halfK I (lft^[h] ((par (par c))))) _ rfl _ _).symm)
  rw [par_par]

theorem shiftY2 (h : Fin 3) (hi hj) (y : (S64x2048 : Shape).Idx) :
    (slK B2 (h.val + 1) hi).view.read (Elt F) (ownV I c) y = (slK B5 (h.val + 1) hj).view.read (Elt F) (ownV I (par (par c))) y := by
  refine (stack_rect (fun h => halfV I (lft^[h] c)) _ rfl _ _).trans (Eq.trans ?_ (stack_rect (fun h => halfV I (lft^[h] ((par (par c))))) _ rfl _ _).symm)
  rw [par_par]

theorem sendZ0 {α : Type} (Q : α → sProp 𝕄) {d' : Dev nD} {src dst : Memref sig .tc .vmem S1024x64 .bf16} {sS sR : DmaSem sig} {hsc} {hsrc hdst} {hsem}
    {k : PUnit → Prog (TpuEff nD τ sig (Elt F) Λ₀ .tc) α} (h : Fin 3) (n : ℕ) (i j : ℕ) (hi hj) (hd : d' = rgt c)
    (hsv : src = slC B0 i hi) (hdv : dst = slC B0 j hj) (h1 : sS = qn 0 0 h) (h2 : sR = qn 1 0 h)
    (hih : i = h.val) (hjh : j = h.val + 1) (hO : Ow c n = Ow c (n + 1) + tallyAt (qCell (rgt c) 1 0 h) () N) :
    iprop(Ctx I κ ∗ reachedAll (F := F) (rgt c) 1 ∗ owesE c (Ow c n) ∗ tokZ c 0 h ∗ ownP I c 0 i (if h = 0 then fullShare else qZ) ∗ ownAny (F := F) (rgt c) 0 j)
      ⊢ iprop((owesE c (Ow c (n + 1)) ∗ pend (F := F) c 0 0 h -∗ wpc c (k ⟨⟩) Q)
          -∗ wpc c (.op (.enqueueDma src (.remote (Dev.tc d') dst (.dma sS) hsc) (.dma sR) hsrc hdst hsem) k) Q) := by
  subst hd; subst hsv; subst hdv; subst h1; subst h2; subst hih; subst hjh
  iintro ⟨#HC, #HR, HO, Ht, Hs, Hd⟩ Hk
  unfold owesE tokZ pend
  icases HO with ⟨%W, HO⟩
  icases Ht with ⟨Ht1, #Hr1, Ht2, Ha⟩
  ihave HI1 := (Ctx_q I κ c 0 0 h) $$ HC
  ihave HI2 := (Ctx_q I κ (rgt c) 1 0 h) $$ HC
  ihave Hr2 := (reachedAll_elim (F := F) (rgt c) 1 0 h) $$ HR
  dsimp only [ownP, ownAny, othAny]
  icases Hd with ⟨%fd, Hd⟩
  iapply (Rounds.wp_send_pointsTo 𝒱₀ ER (gatherRd I) (c : Thread nD τ) none (c' := (rgt c : Thread nD τ)) (src := slC B0 _ hi) (dst := slC B0 _ hj)
      (sS := .dma (qn 0 0 h)) (sem := .dma (qn 1 0 h)) (q := (if h = 0 then fullShare else qZ)) (fs := ownC I c) (κ₁ := κ (qCell c 0 0 h)) (κ₂ := κ (qCell (rgt c) 1 0 h))
      (r₁ := 0) (r₂ := 0) (d₁ := (0 : D)) (d₂ := (0 : D)) (fd := fd)
      (by rw [duties_q]; exact Finset.mem_singleton_self _) (by rw [duties_q]; exact Finset.mem_singleton_self _)
      () () N (credC B0 _ hj) (amount_q I c 0 0 h 0) (amount_q I (rgt c) 1 0 h 0) (Ow c (n + 1)) hO (W := W)
      (by
        rw [payload_q, set_B0]; exact Entails.refl _)
      (by
        rw [payload_q]
        exact (Entails.of_eq (pointsTo_congr (g := ownC I (rgt c)) (written _ _ _ _ fun y => shiftZ0 I c h hi hj y))).trans (by rw [set_B0]; exact Entails.refl _))) $$ [Hs Hd HO Ht1 Ht2 HI1 HI2 Hr2]
  · isplitl [HI1]; · iexact HI1
    isplitl [HI2]; · iexact HI2
    isplitl [Hs]; · rw [set_B0]; iexact Hs
    isplitl [Hd]; · rw [set_B0]; iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists _; iexact HO
  isplitl [Hc]; · iexact Hc
  iexact Ha

theorem sendZ1 {α : Type} (Q : α → sProp 𝕄) {d' : Dev nD} {src dst : Memref sig .tc .vmem S64x2048 .bf16} {sS sR : DmaSem sig} {hsc} {hsrc hdst} {hsem}
    {k : PUnit → Prog (TpuEff nD τ sig (Elt F) Λ₀ .tc) α} (h : Fin 3) (n : ℕ) (i j : ℕ) (hi hj) (hd : d' = rgt c)
    (hsv : src = slK B1 i hi) (hdv : dst = slK B1 j hj) (h1 : sS = qn 0 1 h) (h2 : sR = qn 1 1 h)
    (hih : i = h.val) (hjh : j = h.val + 1) (hO : Ow c n = Ow c (n + 1) + tallyAt (qCell (rgt c) 1 1 h) () N) :
    iprop(Ctx I κ ∗ reachedAll (F := F) (rgt c) 1 ∗ owesE c (Ow c n) ∗ tokZ c 1 h ∗ ownP I c 1 i (if h = 0 then fullShare else qZ) ∗ ownAny (F := F) (rgt c) 1 j)
      ⊢ iprop((owesE c (Ow c (n + 1)) ∗ pend (F := F) c 0 1 h -∗ wpc c (k ⟨⟩) Q)
          -∗ wpc c (.op (.enqueueDma src (.remote (Dev.tc d') dst (.dma sS) hsc) (.dma sR) hsrc hdst hsem) k) Q) := by
  subst hd; subst hsv; subst hdv; subst h1; subst h2; subst hih; subst hjh
  iintro ⟨#HC, #HR, HO, Ht, Hs, Hd⟩ Hk
  unfold owesE tokZ pend
  icases HO with ⟨%W, HO⟩
  icases Ht with ⟨Ht1, #Hr1, Ht2, Ha⟩
  ihave HI1 := (Ctx_q I κ c 0 1 h) $$ HC
  ihave HI2 := (Ctx_q I κ (rgt c) 1 1 h) $$ HC
  ihave Hr2 := (reachedAll_elim (F := F) (rgt c) 1 1 h) $$ HR
  dsimp only [ownP, ownAny, othAny]
  icases Hd with ⟨%fd, Hd⟩
  iapply (Rounds.wp_send_pointsTo 𝒱₀ ER (gatherRd I) (c : Thread nD τ) none (c' := (rgt c : Thread nD τ)) (src := slK B1 _ hi) (dst := slK B1 _ hj)
      (sS := .dma (qn 0 1 h)) (sem := .dma (qn 1 1 h)) (q := (if h = 0 then fullShare else qZ)) (fs := ownK I c) (κ₁ := κ (qCell c 0 1 h)) (κ₂ := κ (qCell (rgt c) 1 1 h))
      (r₁ := 0) (r₂ := 0) (d₁ := (0 : D)) (d₂ := (0 : D)) (fd := fd)
      (by rw [duties_q]; exact Finset.mem_singleton_self _) (by rw [duties_q]; exact Finset.mem_singleton_self _)
      () () N (credK B1 _ hj) (amount_q I c 0 1 h 0) (amount_q I (rgt c) 1 1 h 0) (Ow c (n + 1)) hO (W := W)
      (by
        rw [payload_q, set_B1]; exact Entails.refl _)
      (by
        rw [payload_q]
        exact (Entails.of_eq (pointsTo_congr (g := ownK I (rgt c)) (written _ _ _ _ fun y => shiftZ1 I c h hi hj y))).trans (by rw [set_B1]; exact Entails.refl _))) $$ [Hs Hd HO Ht1 Ht2 HI1 HI2 Hr2]
  · isplitl [HI1]; · iexact HI1
    isplitl [HI2]; · iexact HI2
    isplitl [Hs]; · rw [set_B1]; iexact Hs
    isplitl [Hd]; · rw [set_B1]; iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists _; iexact HO
  isplitl [Hc]; · iexact Hc
  iexact Ha

theorem sendZ2 {α : Type} (Q : α → sProp 𝕄) {d' : Dev nD} {src dst : Memref sig .tc .vmem S64x2048 .bf16} {sS sR : DmaSem sig} {hsc} {hsrc hdst} {hsem}
    {k : PUnit → Prog (TpuEff nD τ sig (Elt F) Λ₀ .tc) α} (h : Fin 3) (n : ℕ) (i j : ℕ) (hi hj) (hd : d' = rgt c)
    (hsv : src = slK B2 i hi) (hdv : dst = slK B2 j hj) (h1 : sS = qn 0 2 h) (h2 : sR = qn 1 2 h)
    (hih : i = h.val) (hjh : j = h.val + 1) (hO : Ow c n = Ow c (n + 1) + tallyAt (qCell (rgt c) 1 2 h) () N) :
    iprop(Ctx I κ ∗ reachedAll (F := F) (rgt c) 1 ∗ owesE c (Ow c n) ∗ tokZ c 2 h ∗ ownP I c 2 i (if h = 0 then fullShare else qZ) ∗ ownAny (F := F) (rgt c) 2 j)
      ⊢ iprop((owesE c (Ow c (n + 1)) ∗ pend (F := F) c 0 2 h -∗ wpc c (k ⟨⟩) Q)
          -∗ wpc c (.op (.enqueueDma src (.remote (Dev.tc d') dst (.dma sS) hsc) (.dma sR) hsrc hdst hsem) k) Q) := by
  subst hd; subst hsv; subst hdv; subst h1; subst h2; subst hih; subst hjh
  iintro ⟨#HC, #HR, HO, Ht, Hs, Hd⟩ Hk
  unfold owesE tokZ pend
  icases HO with ⟨%W, HO⟩
  icases Ht with ⟨Ht1, #Hr1, Ht2, Ha⟩
  ihave HI1 := (Ctx_q I κ c 0 2 h) $$ HC
  ihave HI2 := (Ctx_q I κ (rgt c) 1 2 h) $$ HC
  ihave Hr2 := (reachedAll_elim (F := F) (rgt c) 1 2 h) $$ HR
  dsimp only [ownP, ownAny, othAny]
  icases Hd with ⟨%fd, Hd⟩
  iapply (Rounds.wp_send_pointsTo 𝒱₀ ER (gatherRd I) (c : Thread nD τ) none (c' := (rgt c : Thread nD τ)) (src := slK B2 _ hi) (dst := slK B2 _ hj)
      (sS := .dma (qn 0 2 h)) (sem := .dma (qn 1 2 h)) (q := (if h = 0 then fullShare else qZ)) (fs := ownV I c) (κ₁ := κ (qCell c 0 2 h)) (κ₂ := κ (qCell (rgt c) 1 2 h))
      (r₁ := 0) (r₂ := 0) (d₁ := (0 : D)) (d₂ := (0 : D)) (fd := fd)
      (by rw [duties_q]; exact Finset.mem_singleton_self _) (by rw [duties_q]; exact Finset.mem_singleton_self _)
      () () N (credK B2 _ hj) (amount_q I c 0 2 h 0) (amount_q I (rgt c) 1 2 h 0) (Ow c (n + 1)) hO (W := W)
      (by
        rw [payload_q, set_B2]; exact Entails.refl _)
      (by
        rw [payload_q]
        exact (Entails.of_eq (pointsTo_congr (g := ownV I (rgt c)) (written _ _ _ _ fun y => shiftZ2 I c h hi hj y))).trans (by rw [set_B2]; exact Entails.refl _))) $$ [Hs Hd HO Ht1 Ht2 HI1 HI2 Hr2]
  · isplitl [HI1]; · iexact HI1
    isplitl [HI2]; · iexact HI2
    isplitl [Hs]; · rw [set_B2]; iexact Hs
    isplitl [Hd]; · rw [set_B2]; iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists _; iexact HO
  isplitl [Hc]; · iexact Hc
  iexact Ha

theorem sendY0 {α : Type} (Q : α → sProp 𝕄) {d' : Dev nD} {src dst : Memref sig .tc .vmem S1024x64 .bf16} {sS sR : DmaSem sig} {hsc} {hsrc hdst} {hsem}
    {k : PUnit → Prog (TpuEff nD τ sig (Elt F) Λ₀ .tc) α} (h : Fin 3) (n : ℕ) (i j : ℕ) (hi hj) (hd : d' = par c)
    (hsv : src = slC B0 i hi) (hdv : dst = slC B3 j hj) (h1 : sS = qn 2 0 h) (h2 : sR = qn 3 0 h)
    (hih : i = h.val + 1) (hjh : j = h.val + 1) (hO : Ow c n = Ow c (n + 1) + tallyAt (qCell (par c) 3 0 h) () N) :
    iprop(Ctx I κ ∗ reachedAll (F := F) (par c) 3 ∗ owesE c (Ow c n) ∗ tokY c 0 h ∗ ownP I c 0 i qY ∗ othAny (F := F) (par c) 0 j)
      ⊢ iprop((owesE c (Ow c (n + 1)) ∗ pend (F := F) c 2 0 h -∗ wpc c (k ⟨⟩) Q)
          -∗ wpc c (.op (.enqueueDma src (.remote (Dev.tc d') dst (.dma sS) hsc) (.dma sR) hsrc hdst hsem) k) Q) := by
  subst hd; subst hsv; subst hdv; subst h1; subst h2; subst hih; subst hjh
  iintro ⟨#HC, #HR, HO, Ht, Hs, Hd⟩ Hk
  unfold owesE tokY pend
  icases HO with ⟨%W, HO⟩
  icases Ht with ⟨Ht1, #Hr1, Ht2, Ha⟩
  ihave HI1 := (Ctx_q I κ c 2 0 h) $$ HC
  ihave HI2 := (Ctx_q I κ (par c) 3 0 h) $$ HC
  ihave Hr2 := (reachedAll_elim (F := F) (par c) 3 0 h) $$ HR
  dsimp only [ownP, ownAny, othAny]
  icases Hd with ⟨%fd, Hd⟩
  iapply (Rounds.wp_send_pointsTo 𝒱₀ ER (gatherRd I) (c : Thread nD τ) none (c' := (par c : Thread nD τ)) (src := slC B0 _ hi) (dst := slC B3 _ hj)
      (sS := .dma (qn 2 0 h)) (sem := .dma (qn 3 0 h)) (q := qY) (fs := ownC I c) (κ₁ := κ (qCell c 2 0 h)) (κ₂ := κ (qCell (par c) 3 0 h))
      (r₁ := 0) (r₂ := 0) (d₁ := (0 : D)) (d₂ := (0 : D)) (fd := fd)
      (by rw [duties_q]; exact Finset.mem_singleton_self _) (by rw [duties_q]; exact Finset.mem_singleton_self _)
      () () N (credC B3 _ hj) (amount_q I c 2 0 h 0) (amount_q I (par c) 3 0 h 0) (Ow c (n + 1)) hO (W := W)
      (by
        rw [payload_q, set_B0]; exact Entails.refl _)
      (by
        rw [payload_q]
        exact (Entails.of_eq (pointsTo_congr (g := ownC I (par (par c))) (written _ _ _ _ fun y => shiftY0 I c h hi hj y))).trans (by rw [set_B3]; exact Entails.refl _))) $$ [Hs Hd HO Ht1 Ht2 HI1 HI2 Hr2]
  · isplitl [HI1]; · iexact HI1
    isplitl [HI2]; · iexact HI2
    isplitl [Hs]; · rw [set_B0]; iexact Hs
    isplitl [Hd]; · rw [set_B3]; iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists _; iexact HO
  isplitl [Hc]; · iexact Hc
  iexact Ha

theorem sendY1 {α : Type} (Q : α → sProp 𝕄) {d' : Dev nD} {src dst : Memref sig .tc .vmem S64x2048 .bf16} {sS sR : DmaSem sig} {hsc} {hsrc hdst} {hsem}
    {k : PUnit → Prog (TpuEff nD τ sig (Elt F) Λ₀ .tc) α} (h : Fin 3) (n : ℕ) (i j : ℕ) (hi hj) (hd : d' = par c)
    (hsv : src = slK B1 i hi) (hdv : dst = slK B4 j hj) (h1 : sS = qn 2 1 h) (h2 : sR = qn 3 1 h)
    (hih : i = h.val + 1) (hjh : j = h.val + 1) (hO : Ow c n = Ow c (n + 1) + tallyAt (qCell (par c) 3 1 h) () N) :
    iprop(Ctx I κ ∗ reachedAll (F := F) (par c) 3 ∗ owesE c (Ow c n) ∗ tokY c 1 h ∗ ownP I c 1 i qY ∗ othAny (F := F) (par c) 1 j)
      ⊢ iprop((owesE c (Ow c (n + 1)) ∗ pend (F := F) c 2 1 h -∗ wpc c (k ⟨⟩) Q)
          -∗ wpc c (.op (.enqueueDma src (.remote (Dev.tc d') dst (.dma sS) hsc) (.dma sR) hsrc hdst hsem) k) Q) := by
  subst hd; subst hsv; subst hdv; subst h1; subst h2; subst hih; subst hjh
  iintro ⟨#HC, #HR, HO, Ht, Hs, Hd⟩ Hk
  unfold owesE tokY pend
  icases HO with ⟨%W, HO⟩
  icases Ht with ⟨Ht1, #Hr1, Ht2, Ha⟩
  ihave HI1 := (Ctx_q I κ c 2 1 h) $$ HC
  ihave HI2 := (Ctx_q I κ (par c) 3 1 h) $$ HC
  ihave Hr2 := (reachedAll_elim (F := F) (par c) 3 1 h) $$ HR
  dsimp only [ownP, ownAny, othAny]
  icases Hd with ⟨%fd, Hd⟩
  iapply (Rounds.wp_send_pointsTo 𝒱₀ ER (gatherRd I) (c : Thread nD τ) none (c' := (par c : Thread nD τ)) (src := slK B1 _ hi) (dst := slK B4 _ hj)
      (sS := .dma (qn 2 1 h)) (sem := .dma (qn 3 1 h)) (q := qY) (fs := ownK I c) (κ₁ := κ (qCell c 2 1 h)) (κ₂ := κ (qCell (par c) 3 1 h))
      (r₁ := 0) (r₂ := 0) (d₁ := (0 : D)) (d₂ := (0 : D)) (fd := fd)
      (by rw [duties_q]; exact Finset.mem_singleton_self _) (by rw [duties_q]; exact Finset.mem_singleton_self _)
      () () N (credK B4 _ hj) (amount_q I c 2 1 h 0) (amount_q I (par c) 3 1 h 0) (Ow c (n + 1)) hO (W := W)
      (by
        rw [payload_q, set_B1]; exact Entails.refl _)
      (by
        rw [payload_q]
        exact (Entails.of_eq (pointsTo_congr (g := ownK I (par (par c))) (written _ _ _ _ fun y => shiftY1 I c h hi hj y))).trans (by rw [set_B4]; exact Entails.refl _))) $$ [Hs Hd HO Ht1 Ht2 HI1 HI2 Hr2]
  · isplitl [HI1]; · iexact HI1
    isplitl [HI2]; · iexact HI2
    isplitl [Hs]; · rw [set_B1]; iexact Hs
    isplitl [Hd]; · rw [set_B4]; iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists _; iexact HO
  isplitl [Hc]; · iexact Hc
  iexact Ha

theorem sendY2 {α : Type} (Q : α → sProp 𝕄) {d' : Dev nD} {src dst : Memref sig .tc .vmem S64x2048 .bf16} {sS sR : DmaSem sig} {hsc} {hsrc hdst} {hsem}
    {k : PUnit → Prog (TpuEff nD τ sig (Elt F) Λ₀ .tc) α} (h : Fin 3) (n : ℕ) (i j : ℕ) (hi hj) (hd : d' = par c)
    (hsv : src = slK B2 i hi) (hdv : dst = slK B5 j hj) (h1 : sS = qn 2 2 h) (h2 : sR = qn 3 2 h)
    (hih : i = h.val + 1) (hjh : j = h.val + 1) (hO : Ow c n = Ow c (n + 1) + tallyAt (qCell (par c) 3 2 h) () N) :
    iprop(Ctx I κ ∗ reachedAll (F := F) (par c) 3 ∗ owesE c (Ow c n) ∗ tokY c 2 h ∗ ownP I c 2 i qY ∗ othAny (F := F) (par c) 2 j)
      ⊢ iprop((owesE c (Ow c (n + 1)) ∗ pend (F := F) c 2 2 h -∗ wpc c (k ⟨⟩) Q)
          -∗ wpc c (.op (.enqueueDma src (.remote (Dev.tc d') dst (.dma sS) hsc) (.dma sR) hsrc hdst hsem) k) Q) := by
  subst hd; subst hsv; subst hdv; subst h1; subst h2; subst hih; subst hjh
  iintro ⟨#HC, #HR, HO, Ht, Hs, Hd⟩ Hk
  unfold owesE tokY pend
  icases HO with ⟨%W, HO⟩
  icases Ht with ⟨Ht1, #Hr1, Ht2, Ha⟩
  ihave HI1 := (Ctx_q I κ c 2 2 h) $$ HC
  ihave HI2 := (Ctx_q I κ (par c) 3 2 h) $$ HC
  ihave Hr2 := (reachedAll_elim (F := F) (par c) 3 2 h) $$ HR
  dsimp only [ownP, ownAny, othAny]
  icases Hd with ⟨%fd, Hd⟩
  iapply (Rounds.wp_send_pointsTo 𝒱₀ ER (gatherRd I) (c : Thread nD τ) none (c' := (par c : Thread nD τ)) (src := slK B2 _ hi) (dst := slK B5 _ hj)
      (sS := .dma (qn 2 2 h)) (sem := .dma (qn 3 2 h)) (q := qY) (fs := ownV I c) (κ₁ := κ (qCell c 2 2 h)) (κ₂ := κ (qCell (par c) 3 2 h))
      (r₁ := 0) (r₂ := 0) (d₁ := (0 : D)) (d₂ := (0 : D)) (fd := fd)
      (by rw [duties_q]; exact Finset.mem_singleton_self _) (by rw [duties_q]; exact Finset.mem_singleton_self _)
      () () N (credK B5 _ hj) (amount_q I c 2 2 h 0) (amount_q I (par c) 3 2 h 0) (Ow c (n + 1)) hO (W := W)
      (by
        rw [payload_q, set_B2]; exact Entails.refl _)
      (by
        rw [payload_q]
        exact (Entails.of_eq (pointsTo_congr (g := ownV I (par (par c))) (written _ _ _ _ fun y => shiftY2 I c h hi hj y))).trans (by rw [set_B5]; exact Entails.refl _))) $$ [Hs Hd HO Ht1 Ht2 HI1 HI2 Hr2]
  · isplitl [HI1]; · iexact HI1
    isplitl [HI2]; · iexact HI2
    isplitl [Hs]; · rw [set_B2]; iexact Hs
    isplitl [Hd]; · rw [set_B5]; iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists _; iexact HO
  isplitl [Hc]; · iexact Hc
  iexact Ha

end KProof
-- ==== Proof.Vals.lean ====
module

public import proofs.«01_k».proof.Proof.Mem
public import proofs.«01_k».proof.Proof.Sends

/-! The gather's program, what it computes. -/

@[expose] public section

set_option maxRecDepth 16384

noncomputable section

namespace KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

variable (I : Ins F) (κ : GSem nD τ sig → ℕ) (c : Dev nD)

def kA0 : Vec F S1024x2048 .f32 := k0_pay10 (k0_pay1 (I.x c) (I.wd c)) (k0_pay2 (I.wk c))
def vA0 : Vec F S1024x2048 .f32 := k0_pay11 (k0_pay1 (I.x c) (I.wd c)) (k0_pay3 (I.wv c))
def kA1 : Vec F S1024x2048 .f32 := k0_pay13 (k0_pay12 (kA0 I c) (halfC I (lft^[1] c)) (halfK I (lft^[1] c)))
def vA1 : Vec F S1024x2048 .f32 := k0_pay14 (vA0 I c) (halfC I (lft^[1] c)) (halfV I (lft^[1] c))
def kA2 : Vec F S1024x2048 .f32 := k0_pay16 (k0_pay15 (kA1 I c) (halfC I (lft^[2] c)) (halfK I (lft^[2] c)))
def vA2 : Vec F S1024x2048 .f32 := k0_pay17 (vA1 I c) (halfC I (lft^[2] c)) (halfV I (lft^[2] c))
def kA3 : Vec F S1024x2048 .f32 := k0_pay18 (kA2 I c) (halfC I (lft^[3] c)) (halfK I (lft^[3] c))
def vA3 : Vec F S1024x2048 .f32 := k0_pay19 (vA2 I c) (halfC I (lft^[3] c)) (halfV I (lft^[3] c))
def kA4 : Vec F S1024x2048 .f32 := k0_pay20 (kA3 I c) (halfC I (lft^[1] (par c))) (halfK I (lft^[1] (par c)))
def vA4 : Vec F S1024x2048 .f32 := k0_pay22 (k0_pay21 (vA3 I c) (halfC I (lft^[1] (par c))) (halfV I (lft^[1] (par c))))
def kA5 : Vec F S1024x2048 .f32 := k0_pay23 (kA4 I c) (halfC I (lft^[2] (par c))) (halfK I (lft^[2] (par c)))
def vA5 : Vec F S1024x2048 .f32 := k0_pay25 (vA4 I c) (k0_pay24 (halfC I (lft^[2] (par c))) (halfV I (lft^[2] (par c))))
def kA6 : Vec F S1024x2048 .f32 := k0_pay26 (kA5 I c) (halfC I (lft^[3] (par c))) (halfK I (lft^[3] (par c)))
def vA6 : Vec F S1024x2048 .f32 := k0_pay28 (vA5 I c) (k0_pay27 (halfC I (lft^[3] (par c)))) (halfV I (lft^[3] (par c)))
/-- The keys and the values the gather leaves on device c. -/
def outK : Vec F S1024x2048 .bf16 := k0_pay29 (kA6 I c)
@[inherit_doc outK] def outV : Vec F S1024x2048 .bf16 := k0_pay30 (vA6 I c)
theorem mw_end (sm : SemLoc sig) : (levAts L lv : sProp 𝕄) ⊢ MayWait (c : Thread nD τ) sm () (Ow c 21) := by
  show _ ⊢ MayWait (c : Thread nD τ) sm () 0
  rw [MayWait_zero]
  exact BIClass.pure_intro trivial
theorem dev1_eq : (⟨k0_dev1 c, k0_dev1_lt c⟩ : Dev nD) = lft c := by revert c; decide +kernel
theorem dev2_eq : (⟨k0_dev2 c, k0_dev2_lt c⟩ : Dev nD) = rgt c := by revert c; decide +kernel
theorem dev3_eq : (⟨k0_dev3 c, k0_dev3_lt c⟩ : Dev nD) = par c := by revert c; decide +kernel
theorem dev4_eq : (⟨k0_dev4 c, k0_dev4_lt c⟩ : Dev nD) = rgt c := by revert c; decide +kernel
theorem dev5_eq : (⟨k0_dev5 c, k0_dev5_lt c⟩ : Dev nD) = rgt c := by revert c; decide +kernel
theorem dev6_eq : (⟨k0_dev6 c, k0_dev6_lt c⟩ : Dev nD) = rgt c := by revert c; decide +kernel
theorem dev7_eq : (⟨k0_dev7 c, k0_dev7_lt c⟩ : Dev nD) = par c := by revert c; decide +kernel
theorem dev8_eq : (⟨k0_dev8 c, k0_dev8_lt c⟩ : Dev nD) = par c := by revert c; decide +kernel
theorem dev9_eq : (⟨k0_dev9 c, k0_dev9_lt c⟩ : Dev nD) = par c := by revert c; decide +kernel
theorem dev10_eq : (⟨k0_dev10 c, k0_dev10_lt c⟩ : Dev nD) = rgt c := by revert c; decide +kernel
theorem dev11_eq : (⟨k0_dev11 c, k0_dev11_lt c⟩ : Dev nD) = rgt c := by revert c; decide +kernel
theorem dev12_eq : (⟨k0_dev12 c, k0_dev12_lt c⟩ : Dev nD) = rgt c := by revert c; decide +kernel
theorem dev13_eq : (⟨k0_dev13 c, k0_dev13_lt c⟩ : Dev nD) = par c := by revert c; decide +kernel
theorem dev14_eq : (⟨k0_dev14 c, k0_dev14_lt c⟩ : Dev nD) = par c := by revert c; decide +kernel
theorem dev15_eq : (⟨k0_dev15 c, k0_dev15_lt c⟩ : Dev nD) = par c := by revert c; decide +kernel
theorem dev16_eq : (⟨k0_dev16 c, k0_dev16_lt c⟩ : Dev nD) = rgt c := by revert c; decide +kernel
theorem dev17_eq : (⟨k0_dev17 c, k0_dev17_lt c⟩ : Dev nD) = rgt c := by revert c; decide +kernel
theorem dev18_eq : (⟨k0_dev18 c, k0_dev18_lt c⟩ : Dev nD) = rgt c := by revert c; decide +kernel
theorem dev19_eq : (⟨k0_dev19 c, k0_dev19_lt c⟩ : Dev nD) = par c := by revert c; decide +kernel
theorem dev20_eq : (⟨k0_dev20 c, k0_dev20_lt c⟩ : Dev nD) = par c := by revert c; decide +kernel
theorem dev21_eq : (⟨k0_dev21 c, k0_dev21_lt c⟩ : Dev nD) = par c := by revert c; decide +kernel
theorem HWe0 (hp : (c.val / 4) % 2 = 0) : k0_pay4 (I.x c) (I.wd c) = halfC I c := (if_pos hp).symm
theorem HWo0 (hp : ¬ (c.val / 4) % 2 = 0) : k0_pay7 (I.x c) (I.wd c) = halfC I c := (if_neg hp).symm
theorem HWe1 (hp : (c.val / 4) % 2 = 0) : k0_pay5 (I.wk c) = halfK I c := (if_pos hp).symm
theorem HWo1 (hp : ¬ (c.val / 4) % 2 = 0) : k0_pay8 (I.wk c) = halfK I c := (if_neg hp).symm
theorem HWe2 (hp : (c.val / 4) % 2 = 0) : k0_pay6 (I.wv c) = halfV I c := (if_pos hp).symm
theorem HWo2 (hp : ¬ (c.val / 4) % 2 = 0) : k0_pay9 (I.wv c) = halfV I c := (if_neg hp).symm

/-- The word the kernel computes for the device's place in its pair. -/
abbrev parW : BitVec 32 := Scalar.remsi (Scalar.remsi (Scalar.divsi (Dev.word c) 4#32) 4#32) 2#32
theorem even_c1 (hp : (c.val / 4) % 2 = 0) : Scalar.cmpi .ne (Scalar.extui (Scalar.cmpi .eq (parW c) 0#32) : BitVec 32) 0#32 = 1#1 := by revert c; decide +kernel
theorem even_c2 (hp : (c.val / 4) % 2 = 0) : ¬ Scalar.cmpi .ne (Scalar.extui (Scalar.cmpi .eq (parW c) 1#32) : BitVec 32) 0#32 = 1#1 := by revert c; decide +kernel
theorem odd_c1 (hp : ¬ (c.val / 4) % 2 = 0) : ¬ Scalar.cmpi .ne (Scalar.extui (Scalar.cmpi .eq (parW c) 0#32) : BitVec 32) 0#32 = 1#1 := by revert c; decide +kernel
theorem odd_c2 (hp : ¬ (c.val / 4) % 2 = 0) : Scalar.cmpi .ne (Scalar.extui (Scalar.cmpi .eq (parW c) 1#32) : BitVec 32) 0#32 = 1#1 := by revert c; decide +kernel

end KProof
-- ==== Proof.Parts0.lean ====
module

public import proofs.«01_k».proof.Proof.Vals

/-! The gather's program, a part at a time. -/

@[expose] public section

set_option maxRecDepth 16384

noncomputable section

namespace KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

variable (I : Ins F) (κ : GSem nD τ sig → ℕ) (c : Dev nD)

theorem part1 (Q : (Σ' (d0 : Dev nD) (v2 : BitVec 32) (v5 : BitVec 32) (v8 : BitVec 32) (v10 : BitVec 32) (v14 : BitVec 32) (v17 : BitVec 32) (v18 : Sems sig S_), BitVec 32) → sProp 𝕄)   :
    iprop(Ctx I κ ∗ owesE c (Ow c 0) ∗ dutyTok ER (barCell (lft c)) 0 (0 : D) ∗ barPay (F := F) (lft c) 0 ∗ dutyTok ER (barCell (rgt c)) 0 (1 : D))
      ⊢ iprop((∀ v2 : BitVec 32, ∀ v5 : BitVec 32, ∀ v8 : BitVec 32, ∀ v10 : BitVec 32, ∀ v17 : BitVec 32, ∀ w : BitVec 32, (owesE c (Ow c 2)) -∗ Q ⟨c, v2, v5, v8, v10, parW c, v17, SemArray.scalar (sig.barrier 0 rfl), w⟩) -∗ wpc c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 ) Q) := by
  rw [k0_part1_eq_skeleton]
  unfold k0_part1_skel
  simp only [semSignalWord, semWaitWord, Prog.lift, Prog.bind_op, Prog.bind_ret, Prog.pure_eq_ret, Prog.bind_assoc, wp_deviceId]
  iintro ⟨#HC, HO, HT_0, HP_0, HT_1⟩ Hk
  iapply (step_sig0 I κ c Q (dev1_eq c) rfl rfl) $$ [HO HT_0 HP_0]
  · isplitr; · iexact HC
    isplitl [HO]; · iexact HO
    isplitl [HT_0]; · iexact HT_0
    iexact HP_0
  iintro HO
  iapply (step_sig1 I κ c Q (dev2_eq c) rfl rfl) $$ [HO HT_1]
  · isplitr; · iexact HC
    isplitl [HO]; · iexact HO
    isplitl [HT_1]; · iexact HT_1
    dsimp only [barPay]
    iempintro
  iintro HO
  unfold wpc
  rw [wp_ret]
  imodintro
  iapply Hk
  iexact HO

theorem part2e (Q : (Σ' (v42 : FVec F S1024x128 .bf16) (v44 : FVec F S128x2048 .bf16), FVec F S128x2048 .bf16) → sProp 𝕄) (v2 v5 v8 v10 v17 w : BitVec 32) (hp : (c.val / 4) % 2 = 0) :
    iprop(Ctx I κ ∗ owesE c (Ow c 2) ∗ dutyTok ER (barCell (par c)) 0 (2 : D) ∗ barPay (F := F) (par c) 2 ∗ cred (tallyAt (barCell c) () 3) ∗ atPos ER (barCell c) 0 ∅ 0 ∗ pt c cc0_stg0_0 (I.x c) ∗ pt c cc0_stg1_0 (I.wd c) ∗ pt c cc0_stg2_0 (I.wk c) ∗ pt c cc0_stg3_0 (I.wv c) ∗ ownAny (F := F) c 0 0 ∗ ownAny (F := F) c 1 0 ∗ ownAny (F := F) c 2 0)
      ⊢ iprop(((owesE c (Ow c 3) ∗ atPos ER (barCell c) (0 + 1) ∅ 0 ∗ ownAny (F := F) (rgt c) 0 1 ∗ ownAny (F := F) (rgt c) 1 1 ∗ ownAny (F := F) (rgt c) 2 1 ∗ ownAny (F := F) (rgt c) 0 2 ∗ ownAny (F := F) (rgt c) 1 2 ∗ ownAny (F := F) (rgt c) 2 2 ∗ ownAny (F := F) (rgt c) 0 3 ∗ ownAny (F := F) (rgt c) 1 3 ∗ ownAny (F := F) (rgt c) 2 3 ∗ othAny (F := F) (par c) 0 1 ∗ othAny (F := F) (par c) 1 1 ∗ othAny (F := F) (par c) 2 1 ∗ othAny (F := F) (par c) 0 2 ∗ othAny (F := F) (par c) 1 2 ∗ othAny (F := F) (par c) 2 2 ∗ othAny (F := F) (par c) 0 3 ∗ othAny (F := F) (par c) 1 3 ∗ othAny (F := F) (par c) 2 3 ∗ reachedAll (F := F) (rgt c) 1 ∗ reachedAll (F := F) (par c) 3 ∗ pt c cc0_stg0_0 (I.x c) ∗ pt c cc0_stg1_0 (I.wd c) ∗ pt c cc0_stg2_0 (I.wk c) ∗ pt c cc0_stg3_0 (I.wv c) ∗ ownP I c 0 0 fullShare ∗ ownP I c 1 0 fullShare ∗ ownP I c 2 0 fullShare) -∗ Q ⟨(k0_pay1 (I.x c) (I.wd c)), (k0_pay2 (I.wk c)), (k0_pay3 (I.wv c))⟩) -∗ wpc c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 c v2 v5 v8 v10 (parW c) v17 (SemArray.scalar (sig.barrier 0 rfl)) w) Q) := by
  rw [k0_part2_eq_skeleton]
  unfold k0_part2_skel
  simp only [semSignalWord, semWaitWord, Prog.lift, Prog.bind_op, Prog.bind_ret, Prog.pure_eq_ret, Prog.bind_assoc, wp_deviceId, dif_pos (even_c1 c hp), dif_neg (even_c2 c hp)]
  iintro ⟨#HC, HO, HT_2, HP_2, HBC, HBA, HW_0, HW_1, HW_2, HW_3, Ha_0, Ha_1, Ha_2⟩ Hk
  iapply (step_sig2 I κ c Q (dev3_eq c) rfl rfl) $$ [HO HT_2 HP_2]
  · isplitr; · iexact HC
    isplitl [HO]; · iexact HO
    isplitl [HT_2]; · iexact HT_2
    iexact HP_2
  iintro HO
  iapply (step_bar I κ c Q rfl rfl) $$ [HO HBC HBA]
  · isplitr; · iexact HC
    isplitl [HO]; · iexact HO
    isplitl [HBC]; · iexact HBC
    iexact HBA
  dsimp only [barPay]
  iintro ⟨HO, HBD, ⟨#HRZ, Hdz_0_1, Hdz_1_1, Hdz_2_1, Hdz_0_2, Hdz_1_2, Hdz_2_2, Hdz_0_3, Hdz_1_3, Hdz_2_3⟩, ⟨#HRY, Hdy_0_1, Hdy_1_1, Hdy_2_1, Hdy_0_2, Hdy_1_2, Hdy_2_2, Hdy_0_3, Hdy_1_3, Hdy_2_3⟩⟩
  iapply (loadW0 c Q (I.x c)) $$ [HW_0]
  · iexact HW_0
  iintro HW_0
  iapply (loadW1 c Q (I.wd c)) $$ [HW_1]
  · iexact HW_1
  iintro HW_1
  iapply (loadW2 c Q (I.wk c)) $$ [HW_2]
  · iexact HW_2
  iintro HW_2
  iapply (loadW3 c Q (I.wv c)) $$ [HW_3]
  · iexact HW_3
  iintro HW_3
  iapply (peek0 c Q 0) $$ [Ha_0]
  · iexact Ha_0
  iintro %v0 Ha_0
  iapply (fill0 I c Q (HWe0 I c hp)) $$ [Ha_0]
  · iexact Ha_0
  iintro Hp_0_0_F
  iapply (peek1 c Q 0) $$ [Ha_1]
  · iexact Ha_1
  iintro %v1 Ha_1
  iapply (fill1 I c Q (HWe1 I c hp)) $$ [Ha_1]
  · iexact Ha_1
  iintro Hp_1_0_F
  iapply (peek2 c Q 0) $$ [Ha_2]
  · iexact Ha_2
  iintro %v2 Ha_2
  iapply (fill2 I c Q (HWe2 I c hp)) $$ [Ha_2]
  · iexact Ha_2
  iintro Hp_2_0_F
  unfold wpc
  rw [wp_ret]
  imodintro
  iapply Hk
  isplitl [HO]; · iexact HO
  isplitl [HBD]; · iexact HBD
  isplitl [Hdz_0_1]; · iexact Hdz_0_1
  isplitl [Hdz_1_1]; · iexact Hdz_1_1
  isplitl [Hdz_2_1]; · iexact Hdz_2_1
  isplitl [Hdz_0_2]; · iexact Hdz_0_2
  isplitl [Hdz_1_2]; · iexact Hdz_1_2
  isplitl [Hdz_2_2]; · iexact Hdz_2_2
  isplitl [Hdz_0_3]; · iexact Hdz_0_3
  isplitl [Hdz_1_3]; · iexact Hdz_1_3
  isplitl [Hdz_2_3]; · iexact Hdz_2_3
  isplitl [Hdy_0_1]; · iexact Hdy_0_1
  isplitl [Hdy_1_1]; · iexact Hdy_1_1
  isplitl [Hdy_2_1]; · iexact Hdy_2_1
  isplitl [Hdy_0_2]; · iexact Hdy_0_2
  isplitl [Hdy_1_2]; · iexact Hdy_1_2
  isplitl [Hdy_2_2]; · iexact Hdy_2_2
  isplitl [Hdy_0_3]; · iexact Hdy_0_3
  isplitl [Hdy_1_3]; · iexact Hdy_1_3
  isplitl [Hdy_2_3]; · iexact Hdy_2_3
  isplitr; · iexact HRZ
  isplitr; · iexact HRY
  isplitl [HW_0]; · iexact HW_0
  isplitl [HW_1]; · iexact HW_1
  isplitl [HW_2]; · iexact HW_2
  isplitl [HW_3]; · iexact HW_3
  isplitl [Hp_0_0_F]; · iexact Hp_0_0_F
  isplitl [Hp_1_0_F]; · iexact Hp_1_0_F
  iexact Hp_2_0_F

theorem part2o (Q : (Σ' (v42 : FVec F S1024x128 .bf16) (v44 : FVec F S128x2048 .bf16), FVec F S128x2048 .bf16) → sProp 𝕄) (v2 v5 v8 v10 v17 w : BitVec 32) (hp : ¬ (c.val / 4) % 2 = 0) :
    iprop(Ctx I κ ∗ owesE c (Ow c 2) ∗ dutyTok ER (barCell (par c)) 0 (2 : D) ∗ barPay (F := F) (par c) 2 ∗ cred (tallyAt (barCell c) () 3) ∗ atPos ER (barCell c) 0 ∅ 0 ∗ pt c cc0_stg0_0 (I.x c) ∗ pt c cc0_stg1_0 (I.wd c) ∗ pt c cc0_stg2_0 (I.wk c) ∗ pt c cc0_stg3_0 (I.wv c) ∗ ownAny (F := F) c 0 0 ∗ ownAny (F := F) c 1 0 ∗ ownAny (F := F) c 2 0)
      ⊢ iprop(((owesE c (Ow c 3) ∗ atPos ER (barCell c) (0 + 1) ∅ 0 ∗ ownAny (F := F) (rgt c) 0 1 ∗ ownAny (F := F) (rgt c) 1 1 ∗ ownAny (F := F) (rgt c) 2 1 ∗ ownAny (F := F) (rgt c) 0 2 ∗ ownAny (F := F) (rgt c) 1 2 ∗ ownAny (F := F) (rgt c) 2 2 ∗ ownAny (F := F) (rgt c) 0 3 ∗ ownAny (F := F) (rgt c) 1 3 ∗ ownAny (F := F) (rgt c) 2 3 ∗ othAny (F := F) (par c) 0 1 ∗ othAny (F := F) (par c) 1 1 ∗ othAny (F := F) (par c) 2 1 ∗ othAny (F := F) (par c) 0 2 ∗ othAny (F := F) (par c) 1 2 ∗ othAny (F := F) (par c) 2 2 ∗ othAny (F := F) (par c) 0 3 ∗ othAny (F := F) (par c) 1 3 ∗ othAny (F := F) (par c) 2 3 ∗ reachedAll (F := F) (rgt c) 1 ∗ reachedAll (F := F) (par c) 3 ∗ pt c cc0_stg0_0 (I.x c) ∗ pt c cc0_stg1_0 (I.wd c) ∗ pt c cc0_stg2_0 (I.wk c) ∗ pt c cc0_stg3_0 (I.wv c) ∗ ownP I c 0 0 fullShare ∗ ownP I c 1 0 fullShare ∗ ownP I c 2 0 fullShare) -∗ Q ⟨(k0_pay1 (I.x c) (I.wd c)), (k0_pay2 (I.wk c)), (k0_pay3 (I.wv c))⟩) -∗ wpc c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 c v2 v5 v8 v10 (parW c) v17 (SemArray.scalar (sig.barrier 0 rfl)) w) Q) := by
  rw [k0_part2_eq_skeleton]
  unfold k0_part2_skel
  simp only [semSignalWord, semWaitWord, Prog.lift, Prog.bind_op, Prog.bind_ret, Prog.pure_eq_ret, Prog.bind_assoc, wp_deviceId, dif_neg (odd_c1 c hp), dif_pos (odd_c2 c hp)]
  iintro ⟨#HC, HO, HT_2, HP_2, HBC, HBA, HW_0, HW_1, HW_2, HW_3, Ha_0, Ha_1, Ha_2⟩ Hk
  iapply (step_sig2 I κ c Q (dev3_eq c) rfl rfl) $$ [HO HT_2 HP_2]
  · isplitr; · iexact HC
    isplitl [HO]; · iexact HO
    isplitl [HT_2]; · iexact HT_2
    iexact HP_2
  iintro HO
  iapply (step_bar I κ c Q rfl rfl) $$ [HO HBC HBA]
  · isplitr; · iexact HC
    isplitl [HO]; · iexact HO
    isplitl [HBC]; · iexact HBC
    iexact HBA
  dsimp only [barPay]
  iintro ⟨HO, HBD, ⟨#HRZ, Hdz_0_1, Hdz_1_1, Hdz_2_1, Hdz_0_2, Hdz_1_2, Hdz_2_2, Hdz_0_3, Hdz_1_3, Hdz_2_3⟩, ⟨#HRY, Hdy_0_1, Hdy_1_1, Hdy_2_1, Hdy_0_2, Hdy_1_2, Hdy_2_2, Hdy_0_3, Hdy_1_3, Hdy_2_3⟩⟩
  iapply (loadW0 c Q (I.x c)) $$ [HW_0]
  · iexact HW_0
  iintro HW_0
  iapply (loadW1 c Q (I.wd c)) $$ [HW_1]
  · iexact HW_1
  iintro HW_1
  iapply (loadW2 c Q (I.wk c)) $$ [HW_2]
  · iexact HW_2
  iintro HW_2
  iapply (loadW3 c Q (I.wv c)) $$ [HW_3]
  · iexact HW_3
  iintro HW_3
  iapply (peek0 c Q 0) $$ [Ha_0]
  · iexact Ha_0
  iintro %v0 Ha_0
  iapply (fill0 I c Q (HWo0 I c hp)) $$ [Ha_0]
  · iexact Ha_0
  iintro Hp_0_0_F
  iapply (peek1 c Q 0) $$ [Ha_1]
  · iexact Ha_1
  iintro %v1 Ha_1
  iapply (fill1 I c Q (HWo1 I c hp)) $$ [Ha_1]
  · iexact Ha_1
  iintro Hp_1_0_F
  iapply (peek2 c Q 0) $$ [Ha_2]
  · iexact Ha_2
  iintro %v2 Ha_2
  iapply (fill2 I c Q (HWo2 I c hp)) $$ [Ha_2]
  · iexact Ha_2
  iintro Hp_2_0_F
  unfold wpc
  rw [wp_ret]
  imodintro
  iapply Hk
  isplitl [HO]; · iexact HO
  isplitl [HBD]; · iexact HBD
  isplitl [Hdz_0_1]; · iexact Hdz_0_1
  isplitl [Hdz_1_1]; · iexact Hdz_1_1
  isplitl [Hdz_2_1]; · iexact Hdz_2_1
  isplitl [Hdz_0_2]; · iexact Hdz_0_2
  isplitl [Hdz_1_2]; · iexact Hdz_1_2
  isplitl [Hdz_2_2]; · iexact Hdz_2_2
  isplitl [Hdz_0_3]; · iexact Hdz_0_3
  isplitl [Hdz_1_3]; · iexact Hdz_1_3
  isplitl [Hdz_2_3]; · iexact Hdz_2_3
  isplitl [Hdy_0_1]; · iexact Hdy_0_1
  isplitl [Hdy_1_1]; · iexact Hdy_1_1
  isplitl [Hdy_2_1]; · iexact Hdy_2_1
  isplitl [Hdy_0_2]; · iexact Hdy_0_2
  isplitl [Hdy_1_2]; · iexact Hdy_1_2
  isplitl [Hdy_2_2]; · iexact Hdy_2_2
  isplitl [Hdy_0_3]; · iexact Hdy_0_3
  isplitl [Hdy_1_3]; · iexact Hdy_1_3
  isplitl [Hdy_2_3]; · iexact Hdy_2_3
  isplitr; · iexact HRZ
  isplitr; · iexact HRY
  isplitl [HW_0]; · iexact HW_0
  isplitl [HW_1]; · iexact HW_1
  isplitl [HW_2]; · iexact HW_2
  isplitl [HW_3]; · iexact HW_3
  isplitl [Hp_0_0_F]; · iexact Hp_0_0_F
  isplitl [Hp_1_0_F]; · iexact Hp_1_0_F
  iexact Hp_2_0_F

end KProof
-- ==== Proof.Parts1.lean ====
module

public import proofs.«01_k».proof.Proof.Vals

/-! The gather's program, a part at a time. -/

@[expose] public section

set_option maxRecDepth 16384

noncomputable section

namespace KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

variable (I : Ins F) (κ : GSem nD τ sig → ℕ) (c : Dev nD)

theorem part3 (Q : PUnit → sProp 𝕄) (v2 v5 v10 : BitVec 32)  :
    iprop(Ctx I κ ∗ reachedAll (F := F) (rgt c) 1 ∗ owesE c (Ow c 3) ∗ tokZ (F := F) c 0 0 ∗ ownP I c 0 0 fullShare ∗ ownAny (F := F) (rgt c) 0 1 ∗ tokZ (F := F) c 1 0 ∗ ownP I c 1 0 fullShare ∗ ownAny (F := F) (rgt c) 1 1)
      ⊢ iprop(((owesE c (Ow c 5) ∗ pend (F := F) c 0 0 0 ∗ pend (F := F) c 0 1 0) -∗ Q ⟨⟩) -∗ wpc c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 c v2 v5 v10) Q) := by
  rw [k0_part3_eq_skeleton]
  unfold k0_part3_skel
  simp only [semSignalWord, semWaitWord, Prog.lift, Prog.bind_op, Prog.bind_ret, Prog.pure_eq_ret, Prog.bind_assoc, wp_deviceId]
  iintro ⟨#HC, #HRZ, HO, Htz_0_0, Hp_0_0_F, Hdz_0_1, Htz_1_0, Hp_1_0_F, Hdz_1_1⟩ Hk
  iapply (sendZ0 I κ c Q 0 3 0 1 _ _ (dev4_eq c) rfl rfl rfl rfl rfl rfl rfl) $$ [HO Htz_0_0 Hp_0_0_F Hdz_0_1]
  · isplitr; · iexact HC
    isplitr; · iexact HRZ
    isplitl [HO]; · iexact HO
    isplitl [Htz_0_0]; · iexact Htz_0_0
    isplitl [Hp_0_0_F]; · iexact Hp_0_0_F
    iexact Hdz_0_1
  iintro ⟨HO, Hw_0_0_0⟩
  iapply (sendZ1 I κ c Q 0 4 0 1 _ _ (dev5_eq c) rfl rfl rfl rfl rfl rfl rfl) $$ [HO Htz_1_0 Hp_1_0_F Hdz_1_1]
  · isplitr; · iexact HC
    isplitr; · iexact HRZ
    isplitl [HO]; · iexact HO
    isplitl [Htz_1_0]; · iexact Htz_1_0
    isplitl [Hp_1_0_F]; · iexact Hp_1_0_F
    iexact Hdz_1_1
  iintro ⟨HO, Hw_0_1_0⟩
  unfold wpc
  rw [wp_ret]
  imodintro
  iapply Hk
  isplitl [HO]; · iexact HO
  isplitl [Hw_0_0_0]; · iexact Hw_0_0_0
  iexact Hw_0_1_0

theorem part4 (Q : PUnit → sProp 𝕄) (fA : Vec F S1024x2048 .f32) (fB : Vec F S1024x2048 .f32) (v2 v5 v10 : BitVec 32)  :
    iprop(Ctx I κ ∗ reachedAll (F := F) (rgt c) 1 ∗ owesE c (Ow c 5) ∗ tokZ (F := F) c 2 0 ∗ ownP I c 2 0 fullShare ∗ ownAny (F := F) (rgt c) 2 1 ∗ pt c cc0_scratch6 fA ∗ pt c cc0_scratch7 fB ∗ pend (F := F) c 1 0 0)
      ⊢ iprop(((owesE c (Ow c 6) ∗ pend (F := F) c 0 2 0 ∗ pt c cc0_scratch6 (kA0 I c) ∗ pt c cc0_scratch7 (vA0 I c) ∗ fin (F := F) c 1 0 0 ∗ ownP I c 0 1 qZ ∗ ownP I c 0 1 qY ∗ ownP I c 0 1 qL) -∗ Q ⟨⟩) -∗ wpc c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 c v2 v5 v10 (k0_pay1 (I.x c) (I.wd c)) (k0_pay2 (I.wk c)) (k0_pay3 (I.wv c))) Q) := by
  rw [k0_part4_eq_skeleton]
  unfold k0_part4_skel
  simp only [semSignalWord, semWaitWord, Prog.lift, Prog.bind_op, Prog.bind_ret, Prog.pure_eq_ret, Prog.bind_assoc, wp_deviceId]
  iintro ⟨#HC, #HRZ, HO, Htz_2_0, Hp_2_0_F, Hdz_2_1, HA_12, HA_13, Hw_1_0_0⟩ Hk
  iapply (sendZ2 I κ c Q 0 5 0 1 _ _ (dev6_eq c) rfl rfl rfl rfl rfl rfl rfl) $$ [HO Htz_2_0 Hp_2_0_F Hdz_2_1]
  · isplitr; · iexact HC
    isplitr; · iexact HRZ
    isplitl [HO]; · iexact HO
    isplitl [Htz_2_0]; · iexact Htz_2_0
    isplitl [Hp_2_0_F]; · iexact Hp_2_0_F
    iexact Hdz_2_1
  iintro ⟨HO, Hw_0_2_0⟩
  iapply (loadA6 c Q fA) $$ [HA_12]
  · iexact HA_12
  iintro HA_12
  iapply (storeA6 c Q fA (kA0 I c)) $$ [HA_12]
  · iexact HA_12
  iintro HA_12
  iapply (loadA7 c Q fB) $$ [HA_13]
  · iexact HA_13
  iintro HA_13
  iapply (storeA7 c Q fB (vA0 I c)) $$ [HA_13]
  · iexact HA_13
  iintro HA_13
  iapply (step_wait I κ c Q (Ow c 6) 1 0 0 rfl (credC _ _ _) iprop(ownP I c 0 1 qZ ∗ ownP I c 0 1 qY ∗ ownP I c 0 1 qL) (ownP_three I c 0 1) (mw_z0 c 0)) $$ [HO Hw_1_0_0]
  · isplitr; · iexact HC
    isplitl [HO]; · iexact HO
    iexact Hw_1_0_0
  iintro ⟨HO, Hf_1_0_0, Hp_0_1_Z, Hp_0_1_Y, Hp_0_1_L⟩
  unfold wpc
  rw [wp_ret]
  imodintro
  iapply Hk
  isplitl [HO]; · iexact HO
  isplitl [Hw_0_2_0]; · iexact Hw_0_2_0
  isplitl [HA_12]; · iexact HA_12
  isplitl [HA_13]; · iexact HA_13
  isplitl [Hf_1_0_0]; · iexact Hf_1_0_0
  isplitl [Hp_0_1_Z]; · iexact Hp_0_1_Z
  isplitl [Hp_0_1_Y]; · iexact Hp_0_1_Y
  iexact Hp_0_1_L

theorem part5 (Q : (Σ' (_ : BitVec 32), BitVec 32) → sProp 𝕄) (v2 v5 v10 v17 : BitVec 32)  :
    iprop(Ctx I κ ∗ owesE c (Ow c 6) ∗ pend (F := F) c 1 1 0 ∗ pend (F := F) c 1 2 0)
      ⊢ iprop((∀ r : BitVec 32, ∀ s : BitVec 32, (owesE c (Ow c 6) ∗ fin (F := F) c 1 1 0 ∗ ownP I c 1 1 qZ ∗ ownP I c 1 1 qY ∗ ownP I c 1 1 qL ∗ fin (F := F) c 1 2 0 ∗ ownP I c 2 1 qZ ∗ ownP I c 2 1 qY ∗ ownP I c 2 1 qL) -∗ Q ⟨r, s⟩) -∗ wpc c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 v2 v5 v10 v17) Q) := by
  rw [k0_part5_eq_skeleton]
  unfold k0_part5_skel
  simp only [semSignalWord, semWaitWord, Prog.lift, Prog.bind_op, Prog.bind_ret, Prog.pure_eq_ret, Prog.bind_assoc, wp_deviceId]
  iintro ⟨#HC, HO, Hw_1_1_0, Hw_1_2_0⟩ Hk
  iapply (step_wait I κ c Q (Ow c 6) 1 1 0 rfl (credK _ _ _) iprop(ownP I c 1 1 qZ ∗ ownP I c 1 1 qY ∗ ownP I c 1 1 qL) (ownP_three I c 1 1) (mw_z0 c 1)) $$ [HO Hw_1_1_0]
  · isplitr; · iexact HC
    isplitl [HO]; · iexact HO
    iexact Hw_1_1_0
  iintro ⟨HO, Hf_1_1_0, Hp_1_1_Z, Hp_1_1_Y, Hp_1_1_L⟩
  iapply (step_wait I κ c Q (Ow c 6) 1 2 0 rfl (credK _ _ _) iprop(ownP I c 2 1 qZ ∗ ownP I c 2 1 qY ∗ ownP I c 2 1 qL) (ownP_three I c 2 1) (mw_z0 c 2)) $$ [HO Hw_1_2_0]
  · isplitr; · iexact HC
    isplitl [HO]; · iexact HO
    iexact Hw_1_2_0
  iintro ⟨HO, Hf_1_2_0, Hp_2_1_Z, Hp_2_1_Y, Hp_2_1_L⟩
  unfold wpc
  rw [wp_ret]
  imodintro
  iapply Hk
  isplitl [HO]; · iexact HO
  isplitl [Hf_1_1_0]; · iexact Hf_1_1_0
  isplitl [Hp_1_1_Z]; · iexact Hp_1_1_Z
  isplitl [Hp_1_1_Y]; · iexact Hp_1_1_Y
  isplitl [Hp_1_1_L]; · iexact Hp_1_1_L
  isplitl [Hf_1_2_0]; · iexact Hf_1_2_0
  isplitl [Hp_2_1_Z]; · iexact Hp_2_1_Z
  isplitl [Hp_2_1_Y]; · iexact Hp_2_1_Y
  iexact Hp_2_1_L

theorem part6 (Q : (Σ' (_ : BitVec 32), BitVec 32) → sProp 𝕄) (v2 v8 v17 v140 v141 : BitVec 32)  :
    iprop(Ctx I κ ∗ reachedAll (F := F) (par c) 3 ∗ owesE c (Ow c 6) ∗ tokY (F := F) c 0 0 ∗ ownP I c 0 1 qY ∗ othAny (F := F) (par c) 0 1 ∗ tokY (F := F) c 1 0 ∗ ownP I c 1 1 qY ∗ othAny (F := F) (par c) 1 1)
      ⊢ iprop((∀ r : BitVec 32, ∀ s : BitVec 32, (owesE c (Ow c 8) ∗ pend (F := F) c 2 0 0 ∗ pend (F := F) c 2 1 0) -∗ Q ⟨r, s⟩) -∗ wpc c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 c v2 v8 v17 v140 v141) Q) := by
  rw [k0_part6_eq_skeleton]
  unfold k0_part6_skel
  simp only [semSignalWord, semWaitWord, Prog.lift, Prog.bind_op, Prog.bind_ret, Prog.pure_eq_ret, Prog.bind_assoc, wp_deviceId]
  iintro ⟨#HC, #HRY, HO, Hty_0_0, Hp_0_1_Y, Hdy_0_1, Hty_1_0, Hp_1_1_Y, Hdy_1_1⟩ Hk
  iapply (sendY0 I κ c Q 0 6 1 1 _ _ (dev7_eq c) rfl rfl rfl rfl rfl rfl rfl) $$ [HO Hty_0_0 Hp_0_1_Y Hdy_0_1]
  · isplitr; · iexact HC
    isplitr; · iexact HRY
    isplitl [HO]; · iexact HO
    isplitl [Hty_0_0]; · iexact Hty_0_0
    isplitl [Hp_0_1_Y]; · iexact Hp_0_1_Y
    iexact Hdy_0_1
  iintro ⟨HO, Hw_2_0_0⟩
  iapply (sendY1 I κ c Q 0 7 1 1 _ _ (dev8_eq c) rfl rfl rfl rfl rfl rfl rfl) $$ [HO Hty_1_0 Hp_1_1_Y Hdy_1_1]
  · isplitr; · iexact HC
    isplitr; · iexact HRY
    isplitl [HO]; · iexact HO
    isplitl [Hty_1_0]; · iexact Hty_1_0
    isplitl [Hp_1_1_Y]; · iexact Hp_1_1_Y
    iexact Hdy_1_1
  iintro ⟨HO, Hw_2_1_0⟩
  unfold wpc
  rw [wp_ret]
  imodintro
  iapply Hk
  isplitl [HO]; · iexact HO
  isplitl [Hw_2_0_0]; · iexact Hw_2_0_0
  iexact Hw_2_1_0

theorem part7 (Q : PUnit → sProp 𝕄) (v2 v5 v8 v10 v170 c1_i32_162 : BitVec 32)  :
    iprop(Ctx I κ ∗ reachedAll (F := F) (par c) 3 ∗ owesE c (Ow c 8) ∗ tokY (F := F) c 2 0 ∗ ownP I c 2 1 qY ∗ othAny (F := F) (par c) 2 1 ∗ reachedAll (F := F) (rgt c) 1 ∗ tokZ (F := F) c 0 1 ∗ ownP I c 0 1 qZ ∗ ownAny (F := F) (rgt c) 0 2)
      ⊢ iprop(((owesE c (Ow c 10) ∗ pend (F := F) c 2 2 0 ∗ pend (F := F) c 0 0 1) -∗ Q ⟨⟩) -∗ wpc c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 c v2 v5 v8 v10 v170 c1_i32_162) Q) := by
  rw [k0_part7_eq_skeleton]
  unfold k0_part7_skel
  simp only [semSignalWord, semWaitWord, Prog.lift, Prog.bind_op, Prog.bind_ret, Prog.pure_eq_ret, Prog.bind_assoc, wp_deviceId]
  iintro ⟨#HC, #HRY, HO, Hty_2_0, Hp_2_1_Y, Hdy_2_1, #HRZ, Htz_0_1, Hp_0_1_Z, Hdz_0_2⟩ Hk
  iapply (sendY2 I κ c Q 0 8 1 1 _ _ (dev9_eq c) rfl rfl rfl rfl rfl rfl rfl) $$ [HO Hty_2_0 Hp_2_1_Y Hdy_2_1]
  · isplitr; · iexact HC
    isplitr; · iexact HRY
    isplitl [HO]; · iexact HO
    isplitl [Hty_2_0]; · iexact Hty_2_0
    isplitl [Hp_2_1_Y]; · iexact Hp_2_1_Y
    iexact Hdy_2_1
  iintro ⟨HO, Hw_2_2_0⟩
  iapply (sendZ0 I κ c Q 1 9 1 2 _ _ (dev10_eq c) rfl rfl rfl rfl rfl rfl rfl) $$ [HO Htz_0_1 Hp_0_1_Z Hdz_0_2]
  · isplitr; · iexact HC
    isplitr; · iexact HRZ
    isplitl [HO]; · iexact HO
    isplitl [Htz_0_1]; · iexact Htz_0_1
    isplitl [Hp_0_1_Z]; · iexact Hp_0_1_Z
    iexact Hdz_0_2
  iintro ⟨HO, Hw_0_0_1⟩
  unfold wpc
  rw [wp_ret]
  imodintro
  iapply Hk
  isplitl [HO]; · iexact HO
  isplitl [Hw_2_2_0]; · iexact Hw_2_2_0
  iexact Hw_0_0_1

theorem part8 (Q : (FVec F S1024x2048 .f32) → sProp 𝕄) (v2 v5 v10 : BitVec 32)  :
    iprop(Ctx I κ ∗ reachedAll (F := F) (rgt c) 1 ∗ owesE c (Ow c 10) ∗ tokZ (F := F) c 1 1 ∗ ownP I c 1 1 qZ ∗ ownAny (F := F) (rgt c) 1 2 ∗ tokZ (F := F) c 2 1 ∗ ownP I c 2 1 qZ ∗ ownAny (F := F) (rgt c) 2 2 ∗ pt c cc0_scratch6 (kA0 I c) ∗ ownP I c 0 1 qL ∗ ownP I c 1 1 qL)
      ⊢ iprop(((owesE c (Ow c 12) ∗ pend (F := F) c 0 1 1 ∗ pend (F := F) c 0 2 1 ∗ pt c cc0_scratch6 (kA0 I c) ∗ ownP I c 0 1 qL ∗ ownP I c 1 1 qL) -∗ Q (k0_pay12 (kA0 I c) (halfC I (lft^[1] c)) (halfK I (lft^[1] c)))) -∗ wpc c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 c v2 v5 v10) Q) := by
  rw [k0_part8_eq_skeleton]
  unfold k0_part8_skel
  simp only [semSignalWord, semWaitWord, Prog.lift, Prog.bind_op, Prog.bind_ret, Prog.pure_eq_ret, Prog.bind_assoc, wp_deviceId]
  iintro ⟨#HC, #HRZ, HO, Htz_1_1, Hp_1_1_Z, Hdz_1_2, Htz_2_1, Hp_2_1_Z, Hdz_2_2, HA_12, Hp_0_1_L, Hp_1_1_L⟩ Hk
  iapply (sendZ1 I κ c Q 1 10 1 2 _ _ (dev11_eq c) rfl rfl rfl rfl rfl rfl rfl) $$ [HO Htz_1_1 Hp_1_1_Z Hdz_1_2]
  · isplitr; · iexact HC
    isplitr; · iexact HRZ
    isplitl [HO]; · iexact HO
    isplitl [Htz_1_1]; · iexact Htz_1_1
    isplitl [Hp_1_1_Z]; · iexact Hp_1_1_Z
    iexact Hdz_1_2
  iintro ⟨HO, Hw_0_1_1⟩
  iapply (sendZ2 I κ c Q 1 11 1 2 _ _ (dev12_eq c) rfl rfl rfl rfl rfl rfl rfl) $$ [HO Htz_2_1 Hp_2_1_Z Hdz_2_2]
  · isplitr; · iexact HC
    isplitr; · iexact HRZ
    isplitl [HO]; · iexact HO
    isplitl [Htz_2_1]; · iexact Htz_2_1
    isplitl [Hp_2_1_Z]; · iexact Hp_2_1_Z
    iexact Hdz_2_2
  iintro ⟨HO, Hw_0_2_1⟩
  iapply (loadA6 c Q (kA0 I c)) $$ [HA_12]
  · iexact HA_12
  iintro HA_12
  iapply (loadOwn0 I c Q 1 qL) $$ [Hp_0_1_L]
  · iexact Hp_0_1_L
  iintro Hp_0_1_L
  iapply (loadOwn1 I c Q 1 qL) $$ [Hp_1_1_L]
  · iexact Hp_1_1_L
  iintro Hp_1_1_L
  unfold wpc
  rw [wp_ret]
  imodintro
  iapply Hk
  isplitl [HO]; · iexact HO
  isplitl [Hw_0_1_1]; · iexact Hw_0_1_1
  isplitl [Hw_0_2_1]; · iexact Hw_0_2_1
  isplitl [HA_12]; · iexact HA_12
  isplitl [Hp_0_1_L]; · iexact Hp_0_1_L
  iexact Hp_1_1_L

end KProof
-- ==== Proof.Parts2.lean ====
module

public import proofs.«01_k».proof.Proof.Vals

/-! The gather's program, a part at a time. -/

@[expose] public section

set_option maxRecDepth 16384

noncomputable section

namespace KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

variable (I : Ins F) (κ : GSem nD τ sig → ℕ) (c : Dev nD)

theorem part9 (Q : (BitVec 32) → sProp 𝕄) (v2 v5 v10 : BitVec 32)  :
    iprop(Ctx I κ ∗ pt c cc0_scratch6 (kA0 I c) ∗ pt c cc0_scratch7 (vA0 I c) ∗ ownP I c 0 1 qL ∗ ownP I c 2 1 qL ∗ owesE c (Ow c 12) ∗ pend (F := F) c 1 0 1)
      ⊢ iprop((∀ r : BitVec 32, (pt c cc0_scratch6 (kA1 I c) ∗ pt c cc0_scratch7 (vA1 I c) ∗ ownP I c 0 1 qL ∗ ownP I c 2 1 qL ∗ owesE c (Ow c 12) ∗ fin (F := F) c 1 0 1 ∗ ownP I c 0 2 qZ ∗ ownP I c 0 2 qY ∗ ownP I c 0 2 qL) -∗ Q r) -∗ wpc c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 v2 v5 v10 (k0_pay12 (kA0 I c) (halfC I (lft^[1] c)) (halfK I (lft^[1] c)))) Q) := by
  rw [k0_part9_eq_skeleton]
  unfold k0_part9_skel
  simp only [semSignalWord, semWaitWord, Prog.lift, Prog.bind_op, Prog.bind_ret, Prog.pure_eq_ret, Prog.bind_assoc, wp_deviceId]
  iintro ⟨#HC, HA_12, HA_13, Hp_0_1_L, Hp_2_1_L, HO, Hw_1_0_1⟩ Hk
  iapply (loadA6 c Q (kA0 I c)) $$ [HA_12]
  · iexact HA_12
  iintro HA_12
  iapply (storeA6 c Q (kA0 I c) (kA1 I c)) $$ [HA_12]
  · iexact HA_12
  iintro HA_12
  iapply (loadA7 c Q (vA0 I c)) $$ [HA_13]
  · iexact HA_13
  iintro HA_13
  iapply (loadOwn0 I c Q 1 qL) $$ [Hp_0_1_L]
  · iexact Hp_0_1_L
  iintro Hp_0_1_L
  iapply (loadOwn2 I c Q 1 qL) $$ [Hp_2_1_L]
  · iexact Hp_2_1_L
  iintro Hp_2_1_L
  iapply (loadA7 c Q (vA0 I c)) $$ [HA_13]
  · iexact HA_13
  iintro HA_13
  iapply (storeA7 c Q (vA0 I c) (vA1 I c)) $$ [HA_13]
  · iexact HA_13
  iintro HA_13
  iapply (step_wait I κ c Q (Ow c 12) 1 0 1 rfl (credC _ _ _) iprop(ownP I c 0 2 qZ ∗ ownP I c 0 2 qY ∗ ownP I c 0 2 qL) (ownP_three I c 0 2) (mw_z1 c 0)) $$ [HO Hw_1_0_1]
  · isplitr; · iexact HC
    isplitl [HO]; · iexact HO
    iexact Hw_1_0_1
  iintro ⟨HO, Hf_1_0_1, Hp_0_2_Z, Hp_0_2_Y, Hp_0_2_L⟩
  unfold wpc
  rw [wp_ret]
  imodintro
  iapply Hk
  isplitl [HA_12]; · iexact HA_12
  isplitl [HA_13]; · iexact HA_13
  isplitl [Hp_0_1_L]; · iexact Hp_0_1_L
  isplitl [Hp_2_1_L]; · iexact Hp_2_1_L
  isplitl [HO]; · iexact HO
  isplitl [Hf_1_0_1]; · iexact Hf_1_0_1
  isplitl [Hp_0_2_Z]; · iexact Hp_0_2_Z
  isplitl [Hp_0_2_Y]; · iexact Hp_0_2_Y
  iexact Hp_0_2_L

theorem part10 (Q : (BitVec 32) → sProp 𝕄) (v2 v5 v10 v17 c16_i32_250 : BitVec 32)  :
    iprop(Ctx I κ ∗ owesE c (Ow c 12) ∗ pend (F := F) c 1 1 1 ∗ pend (F := F) c 1 2 1)
      ⊢ iprop((∀ r : BitVec 32, (owesE c (Ow c 12) ∗ fin (F := F) c 1 1 1 ∗ ownP I c 1 2 qZ ∗ ownP I c 1 2 qY ∗ ownP I c 1 2 qL ∗ fin (F := F) c 1 2 1 ∗ ownP I c 2 2 qZ ∗ ownP I c 2 2 qY ∗ ownP I c 2 2 qL) -∗ Q r) -∗ wpc c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 v2 v5 v10 v17 c16_i32_250) Q) := by
  rw [k0_part10_eq_skeleton]
  unfold k0_part10_skel
  simp only [semSignalWord, semWaitWord, Prog.lift, Prog.bind_op, Prog.bind_ret, Prog.pure_eq_ret, Prog.bind_assoc, wp_deviceId]
  iintro ⟨#HC, HO, Hw_1_1_1, Hw_1_2_1⟩ Hk
  iapply (step_wait I κ c Q (Ow c 12) 1 1 1 rfl (credK _ _ _) iprop(ownP I c 1 2 qZ ∗ ownP I c 1 2 qY ∗ ownP I c 1 2 qL) (ownP_three I c 1 2) (mw_z1 c 1)) $$ [HO Hw_1_1_1]
  · isplitr; · iexact HC
    isplitl [HO]; · iexact HO
    iexact Hw_1_1_1
  iintro ⟨HO, Hf_1_1_1, Hp_1_2_Z, Hp_1_2_Y, Hp_1_2_L⟩
  iapply (step_wait I κ c Q (Ow c 12) 1 2 1 rfl (credK _ _ _) iprop(ownP I c 2 2 qZ ∗ ownP I c 2 2 qY ∗ ownP I c 2 2 qL) (ownP_three I c 2 2) (mw_z1 c 2)) $$ [HO Hw_1_2_1]
  · isplitr; · iexact HC
    isplitl [HO]; · iexact HO
    iexact Hw_1_2_1
  iintro ⟨HO, Hf_1_2_1, Hp_2_2_Z, Hp_2_2_Y, Hp_2_2_L⟩
  unfold wpc
  rw [wp_ret]
  imodintro
  iapply Hk
  isplitl [HO]; · iexact HO
  isplitl [Hf_1_1_1]; · iexact Hf_1_1_1
  isplitl [Hp_1_2_Z]; · iexact Hp_1_2_Z
  isplitl [Hp_1_2_Y]; · iexact Hp_1_2_Y
  isplitl [Hp_1_2_L]; · iexact Hp_1_2_L
  isplitl [Hf_1_2_1]; · iexact Hf_1_2_1
  isplitl [Hp_2_2_Z]; · iexact Hp_2_2_Z
  isplitl [Hp_2_2_Y]; · iexact Hp_2_2_Y
  iexact Hp_2_2_L

theorem part11 (Q : (Σ' (_ : BitVec 32), BitVec 32) → sProp 𝕄) (v2 v8 v17 v282 : BitVec 32)  :
    iprop(Ctx I κ ∗ reachedAll (F := F) (par c) 3 ∗ owesE c (Ow c 12) ∗ tokY (F := F) c 0 1 ∗ ownP I c 0 2 qY ∗ othAny (F := F) (par c) 0 2 ∗ tokY (F := F) c 1 1 ∗ ownP I c 1 2 qY ∗ othAny (F := F) (par c) 1 2)
      ⊢ iprop((∀ r : BitVec 32, ∀ s : BitVec 32, (owesE c (Ow c 14) ∗ pend (F := F) c 2 0 1 ∗ pend (F := F) c 2 1 1) -∗ Q ⟨r, s⟩) -∗ wpc c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 c v2 v8 v17 v282) Q) := by
  rw [k0_part11_eq_skeleton]
  unfold k0_part11_skel
  simp only [semSignalWord, semWaitWord, Prog.lift, Prog.bind_op, Prog.bind_ret, Prog.pure_eq_ret, Prog.bind_assoc, wp_deviceId]
  iintro ⟨#HC, #HRY, HO, Hty_0_1, Hp_0_2_Y, Hdy_0_2, Hty_1_1, Hp_1_2_Y, Hdy_1_2⟩ Hk
  iapply (sendY0 I κ c Q 1 12 2 2 _ _ (dev13_eq c) rfl rfl rfl rfl rfl rfl rfl) $$ [HO Hty_0_1 Hp_0_2_Y Hdy_0_2]
  · isplitr; · iexact HC
    isplitr; · iexact HRY
    isplitl [HO]; · iexact HO
    isplitl [Hty_0_1]; · iexact Hty_0_1
    isplitl [Hp_0_2_Y]; · iexact Hp_0_2_Y
    iexact Hdy_0_2
  iintro ⟨HO, Hw_2_0_1⟩
  iapply (sendY1 I κ c Q 1 13 2 2 _ _ (dev14_eq c) rfl rfl rfl rfl rfl rfl rfl) $$ [HO Hty_1_1 Hp_1_2_Y Hdy_1_2]
  · isplitr; · iexact HC
    isplitr; · iexact HRY
    isplitl [HO]; · iexact HO
    isplitl [Hty_1_1]; · iexact Hty_1_1
    isplitl [Hp_1_2_Y]; · iexact Hp_1_2_Y
    iexact Hdy_1_2
  iintro ⟨HO, Hw_2_1_1⟩
  unfold wpc
  rw [wp_ret]
  imodintro
  iapply Hk
  isplitl [HO]; · iexact HO
  isplitl [Hw_2_0_1]; · iexact Hw_2_0_1
  iexact Hw_2_1_1

theorem part12 (Q : PUnit → sProp 𝕄) (v2 v5 v10 v310 v311 : BitVec 32)  :
    iprop(Ctx I κ ∗ reachedAll (F := F) (par c) 3 ∗ owesE c (Ow c 14) ∗ tokY (F := F) c 2 1 ∗ ownP I c 2 2 qY ∗ othAny (F := F) (par c) 2 2 ∗ reachedAll (F := F) (rgt c) 1 ∗ tokZ (F := F) c 0 2 ∗ ownP I c 0 2 qZ ∗ ownAny (F := F) (rgt c) 0 3)
      ⊢ iprop(((owesE c (Ow c 16) ∗ pend (F := F) c 2 2 1 ∗ pend (F := F) c 0 0 2) -∗ Q ⟨⟩) -∗ wpc c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 c v2 v5 v10 v310 v311) Q) := by
  rw [k0_part12_eq_skeleton]
  unfold k0_part12_skel
  simp only [semSignalWord, semWaitWord, Prog.lift, Prog.bind_op, Prog.bind_ret, Prog.pure_eq_ret, Prog.bind_assoc, wp_deviceId]
  iintro ⟨#HC, #HRY, HO, Hty_2_1, Hp_2_2_Y, Hdy_2_2, #HRZ, Htz_0_2, Hp_0_2_Z, Hdz_0_3⟩ Hk
  iapply (sendY2 I κ c Q 1 14 2 2 _ _ (dev15_eq c) rfl rfl rfl rfl rfl rfl rfl) $$ [HO Hty_2_1 Hp_2_2_Y Hdy_2_2]
  · isplitr; · iexact HC
    isplitr; · iexact HRY
    isplitl [HO]; · iexact HO
    isplitl [Hty_2_1]; · iexact Hty_2_1
    isplitl [Hp_2_2_Y]; · iexact Hp_2_2_Y
    iexact Hdy_2_2
  iintro ⟨HO, Hw_2_2_1⟩
  iapply (sendZ0 I κ c Q 2 15 2 3 _ _ (dev16_eq c) rfl rfl rfl rfl rfl rfl rfl) $$ [HO Htz_0_2 Hp_0_2_Z Hdz_0_3]
  · isplitr; · iexact HC
    isplitr; · iexact HRZ
    isplitl [HO]; · iexact HO
    isplitl [Htz_0_2]; · iexact Htz_0_2
    isplitl [Hp_0_2_Z]; · iexact Hp_0_2_Z
    iexact Hdz_0_3
  iintro ⟨HO, Hw_0_0_2⟩
  unfold wpc
  rw [wp_ret]
  imodintro
  iapply Hk
  isplitl [HO]; · iexact HO
  isplitl [Hw_2_2_1]; · iexact Hw_2_2_1
  iexact Hw_0_0_2

theorem part13 (Q : (Σ' (v369 : FVec F S1024x2048 .f32), Vec F S1024x2048 .f32) → sProp 𝕄) (v2 v5 v10 : BitVec 32)  :
    iprop(Ctx I κ ∗ reachedAll (F := F) (rgt c) 1 ∗ owesE c (Ow c 16) ∗ tokZ (F := F) c 1 2 ∗ ownP I c 1 2 qZ ∗ ownAny (F := F) (rgt c) 1 3 ∗ tokZ (F := F) c 2 2 ∗ ownP I c 2 2 qZ ∗ ownAny (F := F) (rgt c) 2 3 ∗ pt c cc0_scratch6 (kA1 I c) ∗ ownP I c 0 2 qL ∗ ownP I c 1 2 qL)
      ⊢ iprop(((owesE c (Ow c 18) ∗ pend (F := F) c 0 1 2 ∗ pend (F := F) c 0 2 2 ∗ pt c cc0_scratch6 (kA1 I c) ∗ ownP I c 0 2 qL ∗ ownP I c 1 2 qL) -∗ Q ⟨(k0_pay15 (kA1 I c) (halfC I (lft^[2] c)) (halfK I (lft^[2] c))), (kA1 I c)⟩) -∗ wpc c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 c v2 v5 v10) Q) := by
  rw [k0_part13_eq_skeleton]
  unfold k0_part13_skel
  simp only [semSignalWord, semWaitWord, Prog.lift, Prog.bind_op, Prog.bind_ret, Prog.pure_eq_ret, Prog.bind_assoc, wp_deviceId]
  iintro ⟨#HC, #HRZ, HO, Htz_1_2, Hp_1_2_Z, Hdz_1_3, Htz_2_2, Hp_2_2_Z, Hdz_2_3, HA_12, Hp_0_2_L, Hp_1_2_L⟩ Hk
  iapply (sendZ1 I κ c Q 2 16 2 3 _ _ (dev17_eq c) rfl rfl rfl rfl rfl rfl rfl) $$ [HO Htz_1_2 Hp_1_2_Z Hdz_1_3]
  · isplitr; · iexact HC
    isplitr; · iexact HRZ
    isplitl [HO]; · iexact HO
    isplitl [Htz_1_2]; · iexact Htz_1_2
    isplitl [Hp_1_2_Z]; · iexact Hp_1_2_Z
    iexact Hdz_1_3
  iintro ⟨HO, Hw_0_1_2⟩
  iapply (sendZ2 I κ c Q 2 17 2 3 _ _ (dev18_eq c) rfl rfl rfl rfl rfl rfl rfl) $$ [HO Htz_2_2 Hp_2_2_Z Hdz_2_3]
  · isplitr; · iexact HC
    isplitr; · iexact HRZ
    isplitl [HO]; · iexact HO
    isplitl [Htz_2_2]; · iexact Htz_2_2
    isplitl [Hp_2_2_Z]; · iexact Hp_2_2_Z
    iexact Hdz_2_3
  iintro ⟨HO, Hw_0_2_2⟩
  iapply (loadA6 c Q (kA1 I c)) $$ [HA_12]
  · iexact HA_12
  iintro HA_12
  iapply (loadOwn0 I c Q 2 qL) $$ [Hp_0_2_L]
  · iexact Hp_0_2_L
  iintro Hp_0_2_L
  iapply (loadOwn1 I c Q 2 qL) $$ [Hp_1_2_L]
  · iexact Hp_1_2_L
  iintro Hp_1_2_L
  iapply (loadA6 c Q (kA1 I c)) $$ [HA_12]
  · iexact HA_12
  iintro HA_12
  unfold wpc
  rw [wp_ret]
  imodintro
  iapply Hk
  isplitl [HO]; · iexact HO
  isplitl [Hw_0_1_2]; · iexact Hw_0_1_2
  isplitl [Hw_0_2_2]; · iexact Hw_0_2_2
  isplitl [HA_12]; · iexact HA_12
  isplitl [Hp_0_2_L]; · iexact Hp_0_2_L
  iexact Hp_1_2_L

end KProof
-- ==== Proof.Parts3.lean ====
module

public import proofs.«01_k».proof.Proof.Vals

/-! The gather's program, a part at a time. -/

@[expose] public section

set_option maxRecDepth 16384

noncomputable section

namespace KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

variable (I : Ins F) (κ : GSem nD τ sig → ℕ) (c : Dev nD)

theorem part14 (Q : (BitVec 32) → sProp 𝕄) (v2 v5 v10 : BitVec 32)  :
    iprop(Ctx I κ ∗ pt c cc0_scratch6 (kA1 I c) ∗ pt c cc0_scratch7 (vA1 I c) ∗ ownP I c 0 2 qL ∗ ownP I c 2 2 qL ∗ owesE c (Ow c 18) ∗ pend (F := F) c 1 0 2)
      ⊢ iprop((∀ r : BitVec 32, (pt c cc0_scratch6 (kA2 I c) ∗ pt c cc0_scratch7 (vA2 I c) ∗ ownP I c 0 2 qL ∗ ownP I c 2 2 qL ∗ owesE c (Ow c 18) ∗ fin (F := F) c 1 0 2 ∗ ownP I c 0 3 qZ ∗ ownP I c 0 3 qY ∗ ownP I c 0 3 qL) -∗ Q r) -∗ wpc c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 v2 v5 v10 (k0_pay15 (kA1 I c) (halfC I (lft^[2] c)) (halfK I (lft^[2] c))) (kA1 I c)) Q) := by
  rw [k0_part14_eq_skeleton]
  unfold k0_part14_skel
  simp only [semSignalWord, semWaitWord, Prog.lift, Prog.bind_op, Prog.bind_ret, Prog.pure_eq_ret, Prog.bind_assoc, wp_deviceId]
  iintro ⟨#HC, HA_12, HA_13, Hp_0_2_L, Hp_2_2_L, HO, Hw_1_0_2⟩ Hk
  iapply (storeA6 c Q (kA1 I c) (kA2 I c)) $$ [HA_12]
  · iexact HA_12
  iintro HA_12
  iapply (loadA7 c Q (vA1 I c)) $$ [HA_13]
  · iexact HA_13
  iintro HA_13
  iapply (loadOwn0 I c Q 2 qL) $$ [Hp_0_2_L]
  · iexact Hp_0_2_L
  iintro Hp_0_2_L
  iapply (loadOwn2 I c Q 2 qL) $$ [Hp_2_2_L]
  · iexact Hp_2_2_L
  iintro Hp_2_2_L
  iapply (loadA7 c Q (vA1 I c)) $$ [HA_13]
  · iexact HA_13
  iintro HA_13
  iapply (storeA7 c Q (vA1 I c) (vA2 I c)) $$ [HA_13]
  · iexact HA_13
  iintro HA_13
  iapply (step_wait I κ c Q (Ow c 18) 1 0 2 rfl (credC _ _ _) iprop(ownP I c 0 3 qZ ∗ ownP I c 0 3 qY ∗ ownP I c 0 3 qL) (ownP_three I c 0 3) (mw_z2 c 0)) $$ [HO Hw_1_0_2]
  · isplitr; · iexact HC
    isplitl [HO]; · iexact HO
    iexact Hw_1_0_2
  iintro ⟨HO, Hf_1_0_2, Hp_0_3_Z, Hp_0_3_Y, Hp_0_3_L⟩
  unfold wpc
  rw [wp_ret]
  imodintro
  iapply Hk
  isplitl [HA_12]; · iexact HA_12
  isplitl [HA_13]; · iexact HA_13
  isplitl [Hp_0_2_L]; · iexact Hp_0_2_L
  isplitl [Hp_2_2_L]; · iexact Hp_2_2_L
  isplitl [HO]; · iexact HO
  isplitl [Hf_1_0_2]; · iexact Hf_1_0_2
  isplitl [Hp_0_3_Z]; · iexact Hp_0_3_Z
  isplitl [Hp_0_3_Y]; · iexact Hp_0_3_Y
  iexact Hp_0_3_L

theorem part15 (Q : (Σ' (_ : BitVec 32), BitVec 32) → sProp 𝕄) (v2 v5 v10 v17 v395 : BitVec 32)  :
    iprop(Ctx I κ ∗ owesE c (Ow c 18) ∗ pend (F := F) c 1 1 2 ∗ pend (F := F) c 1 2 2)
      ⊢ iprop((∀ r : BitVec 32, ∀ s : BitVec 32, (owesE c (Ow c 18) ∗ fin (F := F) c 1 1 2 ∗ ownP I c 1 3 qZ ∗ ownP I c 1 3 qY ∗ ownP I c 1 3 qL ∗ fin (F := F) c 1 2 2 ∗ ownP I c 2 3 qZ ∗ ownP I c 2 3 qY ∗ ownP I c 2 3 qL) -∗ Q ⟨r, s⟩) -∗ wpc c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 v2 v5 v10 v17 v395) Q) := by
  rw [k0_part15_eq_skeleton]
  unfold k0_part15_skel
  simp only [semSignalWord, semWaitWord, Prog.lift, Prog.bind_op, Prog.bind_ret, Prog.pure_eq_ret, Prog.bind_assoc, wp_deviceId]
  iintro ⟨#HC, HO, Hw_1_1_2, Hw_1_2_2⟩ Hk
  iapply (step_wait I κ c Q (Ow c 18) 1 1 2 rfl (credK _ _ _) iprop(ownP I c 1 3 qZ ∗ ownP I c 1 3 qY ∗ ownP I c 1 3 qL) (ownP_three I c 1 3) (mw_z2 c 1)) $$ [HO Hw_1_1_2]
  · isplitr; · iexact HC
    isplitl [HO]; · iexact HO
    iexact Hw_1_1_2
  iintro ⟨HO, Hf_1_1_2, Hp_1_3_Z, Hp_1_3_Y, Hp_1_3_L⟩
  iapply (step_wait I κ c Q (Ow c 18) 1 2 2 rfl (credK _ _ _) iprop(ownP I c 2 3 qZ ∗ ownP I c 2 3 qY ∗ ownP I c 2 3 qL) (ownP_three I c 2 3) (mw_z2 c 2)) $$ [HO Hw_1_2_2]
  · isplitr; · iexact HC
    isplitl [HO]; · iexact HO
    iexact Hw_1_2_2
  iintro ⟨HO, Hf_1_2_2, Hp_2_3_Z, Hp_2_3_Y, Hp_2_3_L⟩
  unfold wpc
  rw [wp_ret]
  imodintro
  iapply Hk
  isplitl [HO]; · iexact HO
  isplitl [Hf_1_1_2]; · iexact Hf_1_1_2
  isplitl [Hp_1_3_Z]; · iexact Hp_1_3_Z
  isplitl [Hp_1_3_Y]; · iexact Hp_1_3_Y
  isplitl [Hp_1_3_L]; · iexact Hp_1_3_L
  isplitl [Hf_1_2_2]; · iexact Hf_1_2_2
  isplitl [Hp_2_3_Z]; · iexact Hp_2_3_Z
  isplitl [Hp_2_3_Y]; · iexact Hp_2_3_Y
  iexact Hp_2_3_L

theorem part16 (Q : PUnit → sProp 𝕄) (v2 v8 v17 v422 c1_i32_428 : BitVec 32)  :
    iprop(Ctx I κ ∗ reachedAll (F := F) (par c) 3 ∗ owesE c (Ow c 18) ∗ tokY (F := F) c 0 2 ∗ ownP I c 0 3 qY ∗ othAny (F := F) (par c) 0 3 ∗ tokY (F := F) c 1 2 ∗ ownP I c 1 3 qY ∗ othAny (F := F) (par c) 1 3)
      ⊢ iprop(((owesE c (Ow c 20) ∗ pend (F := F) c 2 0 2 ∗ pend (F := F) c 2 1 2) -∗ Q ⟨⟩) -∗ wpc c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 c v2 v8 v17 v422 c1_i32_428) Q) := by
  rw [k0_part16_eq_skeleton]
  unfold k0_part16_skel
  simp only [semSignalWord, semWaitWord, Prog.lift, Prog.bind_op, Prog.bind_ret, Prog.pure_eq_ret, Prog.bind_assoc, wp_deviceId]
  iintro ⟨#HC, #HRY, HO, Hty_0_2, Hp_0_3_Y, Hdy_0_3, Hty_1_2, Hp_1_3_Y, Hdy_1_3⟩ Hk
  iapply (sendY0 I κ c Q 2 18 3 3 _ _ (dev19_eq c) rfl rfl rfl rfl rfl rfl rfl) $$ [HO Hty_0_2 Hp_0_3_Y Hdy_0_3]
  · isplitr; · iexact HC
    isplitr; · iexact HRY
    isplitl [HO]; · iexact HO
    isplitl [Hty_0_2]; · iexact Hty_0_2
    isplitl [Hp_0_3_Y]; · iexact Hp_0_3_Y
    iexact Hdy_0_3
  iintro ⟨HO, Hw_2_0_2⟩
  iapply (sendY1 I κ c Q 2 19 3 3 _ _ (dev20_eq c) rfl rfl rfl rfl rfl rfl rfl) $$ [HO Hty_1_2 Hp_1_3_Y Hdy_1_3]
  · isplitr; · iexact HC
    isplitr; · iexact HRY
    isplitl [HO]; · iexact HO
    isplitl [Hty_1_2]; · iexact Hty_1_2
    isplitl [Hp_1_3_Y]; · iexact Hp_1_3_Y
    iexact Hdy_1_3
  iintro ⟨HO, Hw_2_1_2⟩
  unfold wpc
  rw [wp_ret]
  imodintro
  iapply Hk
  isplitl [HO]; · iexact HO
  isplitl [Hw_2_0_2]; · iexact Hw_2_0_2
  iexact Hw_2_1_2

theorem part17 (Q : PUnit → sProp 𝕄)   :
    iprop(Ctx I κ ∗ reachedAll (F := F) (par c) 3 ∗ owesE c (Ow c 20) ∗ tokY (F := F) c 2 2 ∗ ownP I c 2 3 qY ∗ othAny (F := F) (par c) 2 3 ∗ pt c cc0_scratch6 (kA2 I c) ∗ ownP I c 0 3 qL ∗ ownP I c 1 3 qL ∗ pt c cc0_scratch7 (vA2 I c) ∗ ownP I c 2 3 qL)
      ⊢ iprop(((owesE c (Ow c 21) ∗ pend (F := F) c 2 2 2 ∗ pt c cc0_scratch6 (kA3 I c) ∗ ownP I c 0 3 qL ∗ ownP I c 1 3 qL ∗ pt c cc0_scratch7 (vA3 I c) ∗ ownP I c 2 3 qL) -∗ Q ⟨⟩) -∗ wpc c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 c) Q) := by
  rw [k0_part17_eq_skeleton]
  unfold k0_part17_skel
  simp only [semSignalWord, semWaitWord, Prog.lift, Prog.bind_op, Prog.bind_ret, Prog.pure_eq_ret, Prog.bind_assoc, wp_deviceId]
  iintro ⟨#HC, #HRY, HO, Hty_2_2, Hp_2_3_Y, Hdy_2_3, HA_12, Hp_0_3_L, Hp_1_3_L, HA_13, Hp_2_3_L⟩ Hk
  iapply (sendY2 I κ c Q 2 20 3 3 _ _ (dev21_eq c) rfl rfl rfl rfl rfl rfl rfl) $$ [HO Hty_2_2 Hp_2_3_Y Hdy_2_3]
  · isplitr; · iexact HC
    isplitr; · iexact HRY
    isplitl [HO]; · iexact HO
    isplitl [Hty_2_2]; · iexact Hty_2_2
    isplitl [Hp_2_3_Y]; · iexact Hp_2_3_Y
    iexact Hdy_2_3
  iintro ⟨HO, Hw_2_2_2⟩
  iapply (loadA6 c Q (kA2 I c)) $$ [HA_12]
  · iexact HA_12
  iintro HA_12
  iapply (loadOwn0 I c Q 3 qL) $$ [Hp_0_3_L]
  · iexact Hp_0_3_L
  iintro Hp_0_3_L
  iapply (loadOwn1 I c Q 3 qL) $$ [Hp_1_3_L]
  · iexact Hp_1_3_L
  iintro Hp_1_3_L
  iapply (loadA6 c Q (kA2 I c)) $$ [HA_12]
  · iexact HA_12
  iintro HA_12
  iapply (storeA6 c Q (kA2 I c) (kA3 I c)) $$ [HA_12]
  · iexact HA_12
  iintro HA_12
  iapply (loadA7 c Q (vA2 I c)) $$ [HA_13]
  · iexact HA_13
  iintro HA_13
  iapply (loadOwn0 I c Q 3 qL) $$ [Hp_0_3_L]
  · iexact Hp_0_3_L
  iintro Hp_0_3_L
  iapply (loadOwn2 I c Q 3 qL) $$ [Hp_2_3_L]
  · iexact Hp_2_3_L
  iintro Hp_2_3_L
  iapply (loadA7 c Q (vA2 I c)) $$ [HA_13]
  · iexact HA_13
  iintro HA_13
  iapply (storeA7 c Q (vA2 I c) (vA3 I c)) $$ [HA_13]
  · iexact HA_13
  iintro HA_13
  unfold wpc
  rw [wp_ret]
  imodintro
  iapply Hk
  isplitl [HO]; · iexact HO
  isplitl [Hw_2_2_2]; · iexact Hw_2_2_2
  isplitl [HA_12]; · iexact HA_12
  isplitl [Hp_0_3_L]; · iexact Hp_0_3_L
  isplitl [Hp_1_3_L]; · iexact Hp_1_3_L
  isplitl [HA_13]; · iexact HA_13
  iexact Hp_2_3_L

theorem part18 (Q : (Σ' (_ : BitVec 32), BitVec 32) → sProp 𝕄) (v2 v8 v17 : BitVec 32)  :
    iprop(Ctx I κ ∗ owesE c (Ow c 21) ∗ pend (F := F) c 3 0 0 ∗ pend (F := F) c 3 1 0)
      ⊢ iprop((∀ r : BitVec 32, ∀ s : BitVec 32, (owesE c (Ow c 21) ∗ fin (F := F) c 3 0 0 ∗ othP I c 0 1 fullShare ∗ fin (F := F) c 3 1 0 ∗ othP I c 1 1 fullShare) -∗ Q ⟨r, s⟩) -∗ wpc c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 v2 v8 v17) Q) := by
  rw [k0_part18_eq_skeleton]
  unfold k0_part18_skel
  simp only [semSignalWord, semWaitWord, Prog.lift, Prog.bind_op, Prog.bind_ret, Prog.pure_eq_ret, Prog.bind_assoc, wp_deviceId]
  iintro ⟨#HC, HO, Hw_3_0_0, Hw_3_1_0⟩ Hk
  iapply (step_wait I κ c Q (Ow c 21) 3 0 0 rfl (credC _ _ _) iprop(othP I c 0 1 fullShare) (Entails.refl _) (mw_end c _)) $$ [HO Hw_3_0_0]
  · isplitr; · iexact HC
    isplitl [HO]; · iexact HO
    iexact Hw_3_0_0
  iintro ⟨HO, Hf_3_0_0, Ho_0_1⟩
  iapply (step_wait I κ c Q (Ow c 21) 3 1 0 rfl (credK _ _ _) iprop(othP I c 1 1 fullShare) (Entails.refl _) (mw_end c _)) $$ [HO Hw_3_1_0]
  · isplitr; · iexact HC
    isplitl [HO]; · iexact HO
    iexact Hw_3_1_0
  iintro ⟨HO, Hf_3_1_0, Ho_1_1⟩
  unfold wpc
  rw [wp_ret]
  imodintro
  iapply Hk
  isplitl [HO]; · iexact HO
  isplitl [Hf_3_0_0]; · iexact Hf_3_0_0
  isplitl [Ho_0_1]; · iexact Ho_0_1
  isplitl [Hf_3_1_0]; · iexact Hf_3_1_0
  iexact Ho_1_1

end KProof
-- ==== Proof.Parts4.lean ====
module

public import proofs.«01_k».proof.Proof.Vals

/-! The gather's program, a part at a time. -/

@[expose] public section

set_option maxRecDepth 16384

noncomputable section

namespace KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

variable (I : Ins F) (κ : GSem nD τ sig → ℕ) (c : Dev nD)

theorem part19 (Q : (FVec F S1024x2048 .f32) → sProp 𝕄) (v8 v17 v505 c0_i32_517 : BitVec 32)  :
    iprop(Ctx I κ ∗ owesE c (Ow c 21) ∗ pend (F := F) c 3 2 0 ∗ pt c cc0_scratch6 (kA3 I c) ∗ othP I c 0 1 fullShare ∗ othP I c 1 1 fullShare ∗ pt c cc0_scratch7 (vA3 I c))
      ⊢ iprop(((owesE c (Ow c 21) ∗ fin (F := F) c 3 2 0 ∗ othP I c 2 1 fullShare ∗ pt c cc0_scratch6 (kA4 I c) ∗ othP I c 0 1 fullShare ∗ othP I c 1 1 fullShare ∗ pt c cc0_scratch7 (vA3 I c)) -∗ Q (k0_pay21 (vA3 I c) (halfC I (lft^[1] (par c))) (halfV I (lft^[1] (par c))))) -∗ wpc c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 v8 v17 v505 c0_i32_517) Q) := by
  rw [k0_part19_eq_skeleton]
  unfold k0_part19_skel
  simp only [semSignalWord, semWaitWord, Prog.lift, Prog.bind_op, Prog.bind_ret, Prog.pure_eq_ret, Prog.bind_assoc, wp_deviceId]
  iintro ⟨#HC, HO, Hw_3_2_0, HA_12, Ho_0_1, Ho_1_1, HA_13⟩ Hk
  iapply (step_wait I κ c Q (Ow c 21) 3 2 0 rfl (credK _ _ _) iprop(othP I c 2 1 fullShare) (Entails.refl _) (mw_end c _)) $$ [HO Hw_3_2_0]
  · isplitr; · iexact HC
    isplitl [HO]; · iexact HO
    iexact Hw_3_2_0
  iintro ⟨HO, Hf_3_2_0, Ho_2_1⟩
  iapply (loadA6 c Q (kA3 I c)) $$ [HA_12]
  · iexact HA_12
  iintro HA_12
  iapply (loadOth0 I c Q 1 fullShare) $$ [Ho_0_1]
  · iexact Ho_0_1
  iintro Ho_0_1
  iapply (loadOth1 I c Q 1 fullShare) $$ [Ho_1_1]
  · iexact Ho_1_1
  iintro Ho_1_1
  iapply (loadA6 c Q (kA3 I c)) $$ [HA_12]
  · iexact HA_12
  iintro HA_12
  iapply (storeA6 c Q (kA3 I c) (kA4 I c)) $$ [HA_12]
  · iexact HA_12
  iintro HA_12
  iapply (loadA7 c Q (vA3 I c)) $$ [HA_13]
  · iexact HA_13
  iintro HA_13
  iapply (loadOth0 I c Q 1 fullShare) $$ [Ho_0_1]
  · iexact Ho_0_1
  iintro Ho_0_1
  iapply (loadOth2 I c Q 1 fullShare) $$ [Ho_2_1]
  · iexact Ho_2_1
  iintro Ho_2_1
  iapply (loadA7 c Q (vA3 I c)) $$ [HA_13]
  · iexact HA_13
  iintro HA_13
  unfold wpc
  rw [wp_ret]
  imodintro
  iapply Hk
  isplitl [HO]; · iexact HO
  isplitl [Hf_3_2_0]; · iexact Hf_3_2_0
  isplitl [Ho_2_1]; · iexact Ho_2_1
  isplitl [HA_12]; · iexact HA_12
  isplitl [Ho_0_1]; · iexact Ho_0_1
  isplitl [Ho_1_1]; · iexact Ho_1_1
  iexact HA_13

theorem part20 (Q : PUnit → sProp 𝕄) (v2 v8 v17 : BitVec 32)  :
    iprop(Ctx I κ ∗ pt c cc0_scratch7 (vA3 I c) ∗ owesE c (Ow c 21) ∗ pend (F := F) c 3 0 1 ∗ pend (F := F) c 3 1 1)
      ⊢ iprop(((pt c cc0_scratch7 (vA4 I c) ∗ owesE c (Ow c 21) ∗ fin (F := F) c 3 0 1 ∗ othP I c 0 2 fullShare ∗ fin (F := F) c 3 1 1 ∗ othP I c 1 2 fullShare) -∗ Q ⟨⟩) -∗ wpc c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 v2 v8 v17 (k0_pay21 (vA3 I c) (halfC I (lft^[1] (par c))) (halfV I (lft^[1] (par c))))) Q) := by
  rw [k0_part20_eq_skeleton]
  unfold k0_part20_skel
  simp only [semSignalWord, semWaitWord, Prog.lift, Prog.bind_op, Prog.bind_ret, Prog.pure_eq_ret, Prog.bind_assoc, wp_deviceId]
  iintro ⟨#HC, HA_13, HO, Hw_3_0_1, Hw_3_1_1⟩ Hk
  iapply (storeA7 c Q (vA3 I c) (vA4 I c)) $$ [HA_13]
  · iexact HA_13
  iintro HA_13
  iapply (step_wait I κ c Q (Ow c 21) 3 0 1 rfl (credC _ _ _) iprop(othP I c 0 2 fullShare) (Entails.refl _) (mw_end c _)) $$ [HO Hw_3_0_1]
  · isplitr; · iexact HC
    isplitl [HO]; · iexact HO
    iexact Hw_3_0_1
  iintro ⟨HO, Hf_3_0_1, Ho_0_2⟩
  iapply (step_wait I κ c Q (Ow c 21) 3 1 1 rfl (credK _ _ _) iprop(othP I c 1 2 fullShare) (Entails.refl _) (mw_end c _)) $$ [HO Hw_3_1_1]
  · isplitr; · iexact HC
    isplitl [HO]; · iexact HO
    iexact Hw_3_1_1
  iintro ⟨HO, Hf_3_1_1, Ho_1_2⟩
  unfold wpc
  rw [wp_ret]
  imodintro
  iapply Hk
  isplitl [HA_13]; · iexact HA_13
  isplitl [HO]; · iexact HO
  isplitl [Hf_3_0_1]; · iexact Hf_3_0_1
  isplitl [Ho_0_2]; · iexact Ho_0_2
  isplitl [Hf_3_1_1]; · iexact Hf_3_1_1
  iexact Ho_1_2

theorem part21 (Q : (Σ' (v583 : Vec F S1024x2048 .f32), FVec F S1024x2048 .f32) → sProp 𝕄) (v2 v8 v17 : BitVec 32)  :
    iprop(Ctx I κ ∗ owesE c (Ow c 21) ∗ pend (F := F) c 3 2 1 ∗ pt c cc0_scratch6 (kA4 I c) ∗ othP I c 0 2 fullShare ∗ othP I c 1 2 fullShare ∗ pt c cc0_scratch7 (vA4 I c))
      ⊢ iprop(((owesE c (Ow c 21) ∗ fin (F := F) c 3 2 1 ∗ othP I c 2 2 fullShare ∗ pt c cc0_scratch6 (kA5 I c) ∗ othP I c 0 2 fullShare ∗ othP I c 1 2 fullShare ∗ pt c cc0_scratch7 (vA4 I c)) -∗ Q ⟨(vA4 I c), (k0_pay24 (halfC I (lft^[2] (par c))) (halfV I (lft^[2] (par c))))⟩) -∗ wpc c (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 v2 v8 v17) Q) := by
  rw [k0_part21_eq_skeleton]
  unfold k0_part21_skel
  simp only [semSignalWord, semWaitWord, Prog.lift, Prog.bind_op, Prog.bind_ret, Prog.pure_eq_ret, Prog.bind_assoc, wp_deviceId]
  iintro ⟨#HC, HO, Hw_3_2_1, HA_12, Ho_0_2, Ho_1_2, HA_13⟩ Hk
  iapply (step_wait I κ c Q (Ow c 21) 3 2 1 rfl (credK _ _ _) iprop(othP I c 2 2 fullShare) (Entails.refl _) (mw_end c _)) $$ [HO Hw_3_2_1]
  · isplitr; · iexact HC
    isplitl [HO]; · iexact HO
    iexact Hw_3_2_1
  iintro ⟨HO, Hf_3_2_1, Ho_2_2⟩
  iapply (loadA6 c Q (kA4 I c)) $$ [HA_12]
  · iexact HA_12
  iintro HA_12
  iapply (loadOth0 I c Q 2 fullShare) $$ [Ho_0_2]
  · iexact Ho_0_2
  iintro Ho_0_2
  iapply (loadOth1 I c Q 2 fullShare) $$ [Ho_1_2]
  · iexact Ho_1_2
  iintro Ho_1_2
  iapply (loadA6 c Q (kA4 I c)) $$ [HA_12]
  · iexact HA_12
  iintro HA_12
  iapply (storeA6 c Q (kA4 I c) (kA5 I c)) $$ [HA_12]
  · iexact HA_12
  iintro HA_12
  iapply (loadA7 c Q (vA4 I c)) $$ [HA_13]
  · iexact HA_13
  iintro HA_13
  iapply (loadOth0 I c Q 2 fullShare) $$ [Ho_0_2]
  · iexact Ho_0_2
  iintro Ho_0_2
  iapply (loadOth2 I c Q 2 fullShare) $$ [Ho_2_2]
  · iexact Ho_2_2
  iintro Ho_2_2
  unfold wpc
  rw [wp_ret]
  imodintro
  iapply Hk
  isplitl [HO]; · iexact HO
  isplitl [Hf_3_2_1]; · iexact Hf_3_2_1
  isplitl [Ho_2_2]; · iexact Ho_2_2
  isplitl [HA_12]; · iexact HA_12
  isplitl [Ho_0_2]; · iexact Ho_0_2
  isplitl [Ho_1_2]; · iexact Ho_1_2
  iexact HA_13

theorem part22 (Q : PUnit → sProp 𝕄) (v2 v8 v17 : BitVec 32)  :
    iprop(Ctx I κ ∗ pt c cc0_scratch7 (vA4 I c) ∗ owesE c (Ow c 21) ∗ pend (F := F) c 3 0 2)
      ⊢ iprop(((pt c cc0_scratch7 (vA5 I c) ∗ owesE c (Ow c 21) ∗ fin (F := F) c 3 0 2 ∗ othP I c 0 3 fullShare) -∗ Q ⟨⟩) -∗ wpc c (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 v2 v8 v17 (vA4 I c) (k0_pay24 (halfC I (lft^[2] (par c))) (halfV I (lft^[2] (par c))))) Q) := by
  rw [k0_part22_eq_skeleton]
  unfold k0_part22_skel
  simp only [semSignalWord, semWaitWord, Prog.lift, Prog.bind_op, Prog.bind_ret, Prog.pure_eq_ret, Prog.bind_assoc, wp_deviceId]
  iintro ⟨#HC, HA_13, HO, Hw_3_0_2⟩ Hk
  iapply (loadA7 c Q (vA4 I c)) $$ [HA_13]
  · iexact HA_13
  iintro HA_13
  iapply (storeA7 c Q (vA4 I c) (vA5 I c)) $$ [HA_13]
  · iexact HA_13
  iintro HA_13
  iapply (step_wait I κ c Q (Ow c 21) 3 0 2 rfl (credC _ _ _) iprop(othP I c 0 3 fullShare) (Entails.refl _) (mw_end c _)) $$ [HO Hw_3_0_2]
  · isplitr; · iexact HC
    isplitl [HO]; · iexact HO
    iexact Hw_3_0_2
  iintro ⟨HO, Hf_3_0_2, Ho_0_3⟩
  unfold wpc
  rw [wp_ret]
  imodintro
  iapply Hk
  isplitl [HA_13]; · iexact HA_13
  isplitl [HO]; · iexact HO
  isplitl [Hf_3_0_2]; · iexact Hf_3_0_2
  iexact Ho_0_3

theorem part23 (Q : (Σ' (v639 : Vec F S1024x2048 .f32), FVec F S1024x64 .bf16) → sProp 𝕄) (v2 v8 v17 : BitVec 32)  :
    iprop(Ctx I κ ∗ owesE c (Ow c 21) ∗ pend (F := F) c 3 1 2 ∗ pend (F := F) c 3 2 2 ∗ pt c cc0_scratch6 (kA5 I c) ∗ othP I c 0 3 fullShare ∗ pt c cc0_scratch7 (vA5 I c))
      ⊢ iprop(((owesE c (Ow c 21) ∗ fin (F := F) c 3 1 2 ∗ othP I c 1 3 fullShare ∗ fin (F := F) c 3 2 2 ∗ othP I c 2 3 fullShare ∗ pt c cc0_scratch6 (kA6 I c) ∗ othP I c 0 3 fullShare ∗ pt c cc0_scratch7 (vA5 I c)) -∗ Q ⟨(vA5 I c), (k0_pay27 (halfC I (lft^[3] (par c))))⟩) -∗ wpc c (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 v2 v8 v17) Q) := by
  rw [k0_part23_eq_skeleton]
  unfold k0_part23_skel
  simp only [semSignalWord, semWaitWord, Prog.lift, Prog.bind_op, Prog.bind_ret, Prog.pure_eq_ret, Prog.bind_assoc, wp_deviceId]
  iintro ⟨#HC, HO, Hw_3_1_2, Hw_3_2_2, HA_12, Ho_0_3, HA_13⟩ Hk
  iapply (step_wait I κ c Q (Ow c 21) 3 1 2 rfl (credK _ _ _) iprop(othP I c 1 3 fullShare) (Entails.refl _) (mw_end c _)) $$ [HO Hw_3_1_2]
  · isplitr; · iexact HC
    isplitl [HO]; · iexact HO
    iexact Hw_3_1_2
  iintro ⟨HO, Hf_3_1_2, Ho_1_3⟩
  iapply (step_wait I κ c Q (Ow c 21) 3 2 2 rfl (credK _ _ _) iprop(othP I c 2 3 fullShare) (Entails.refl _) (mw_end c _)) $$ [HO Hw_3_2_2]
  · isplitr; · iexact HC
    isplitl [HO]; · iexact HO
    iexact Hw_3_2_2
  iintro ⟨HO, Hf_3_2_2, Ho_2_3⟩
  iapply (loadA6 c Q (kA5 I c)) $$ [HA_12]
  · iexact HA_12
  iintro HA_12
  iapply (loadOth0 I c Q 3 fullShare) $$ [Ho_0_3]
  · iexact Ho_0_3
  iintro Ho_0_3
  iapply (loadOth1 I c Q 3 fullShare) $$ [Ho_1_3]
  · iexact Ho_1_3
  iintro Ho_1_3
  iapply (loadA6 c Q (kA5 I c)) $$ [HA_12]
  · iexact HA_12
  iintro HA_12
  iapply (storeA6 c Q (kA5 I c) (kA6 I c)) $$ [HA_12]
  · iexact HA_12
  iintro HA_12
  iapply (loadA7 c Q (vA5 I c)) $$ [HA_13]
  · iexact HA_13
  iintro HA_13
  iapply (loadOth0 I c Q 3 fullShare) $$ [Ho_0_3]
  · iexact Ho_0_3
  iintro Ho_0_3
  unfold wpc
  rw [wp_ret]
  imodintro
  iapply Hk
  isplitl [HO]; · iexact HO
  isplitl [Hf_3_1_2]; · iexact Hf_3_1_2
  isplitl [Ho_1_3]; · iexact Ho_1_3
  isplitl [Hf_3_2_2]; · iexact Hf_3_2_2
  isplitl [Ho_2_3]; · iexact Ho_2_3
  isplitl [HA_12]; · iexact HA_12
  isplitl [Ho_0_3]; · iexact Ho_0_3
  iexact HA_13

end KProof
-- ==== Proof.Parts5.lean ====
module

public import proofs.«01_k».proof.Proof.Vals

/-! The gather's program, a part at a time. -/

@[expose] public section

set_option maxRecDepth 16384

noncomputable section

namespace KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

variable (I : Ins F) (κ : GSem nD τ sig → ℕ) (c : Dev nD)

theorem part24 (Q : PUnit → sProp 𝕄) (f4 : Vec F S1024x2048 .bf16) (f5 : Vec F S1024x2048 .bf16)   :
    iprop(Ctx I κ ∗ othP I c 2 3 fullShare ∗ pt c cc0_scratch7 (vA5 I c) ∗ pt c cc0_scratch6 (kA6 I c) ∗ pt c cc0_stg4_0 f4 ∗ pt c cc0_stg5_0 f5 ∗ owesE c (Ow c 21) ∗ pend (F := F) c 0 0 0)
      ⊢ iprop(((othP I c 2 3 fullShare ∗ pt c cc0_scratch7 (vA6 I c) ∗ pt c cc0_scratch6 (kA6 I c) ∗ pt c cc0_stg4_0 (outK I c) ∗ pt c cc0_stg5_0 (outV I c) ∗ owesE c (Ow c 21) ∗ fin (F := F) c 0 0 0 ∗ ownP I c 0 0 fullShare) -∗ Q ⟨⟩) -∗ wpc c (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 (vA5 I c) (k0_pay27 (halfC I (lft^[3] (par c))))) Q) := by
  rw [k0_part24_eq_skeleton]
  unfold k0_part24_skel
  simp only [semSignalWord, semWaitWord, Prog.lift, Prog.bind_op, Prog.bind_ret, Prog.pure_eq_ret, Prog.bind_assoc, wp_deviceId]
  iintro ⟨#HC, Ho_2_3, HA_13, HA_12, HW_4, HW_5, HO, Hw_0_0_0⟩ Hk
  iapply (loadOth2 I c Q 3 fullShare) $$ [Ho_2_3]
  · iexact Ho_2_3
  iintro Ho_2_3
  iapply (loadA7 c Q (vA5 I c)) $$ [HA_13]
  · iexact HA_13
  iintro HA_13
  iapply (storeA7 c Q (vA5 I c) (vA6 I c)) $$ [HA_13]
  · iexact HA_13
  iintro HA_13
  iapply (loadA6 c Q (kA6 I c)) $$ [HA_12]
  · iexact HA_12
  iintro HA_12
  iapply (loadW4 c Q f4) $$ [HW_4]
  · iexact HW_4
  iintro HW_4
  iapply (storeW4 c Q f4 (outK I c)) $$ [HW_4]
  · iexact HW_4
  iintro HW_4
  iapply (loadA7 c Q (vA6 I c)) $$ [HA_13]
  · iexact HA_13
  iintro HA_13
  iapply (loadW5 c Q f5) $$ [HW_5]
  · iexact HW_5
  iintro HW_5
  iapply (storeW5 c Q f5 (outV I c)) $$ [HW_5]
  · iexact HW_5
  iintro HW_5
  iapply (step_wait I κ c Q (Ow c 21) 0 0 0 rfl (credC _ _ _) iprop(ownP I c 0 0 fullShare) (Entails.refl _) (mw_end c _)) $$ [HO Hw_0_0_0]
  · isplitr; · iexact HC
    isplitl [HO]; · iexact HO
    iexact Hw_0_0_0
  iintro ⟨HO, Hf_0_0_0, Hp_0_0_F⟩
  unfold wpc
  rw [wp_ret]
  imodintro
  iapply Hk
  isplitl [Ho_2_3]; · iexact Ho_2_3
  isplitl [HA_13]; · iexact HA_13
  isplitl [HA_12]; · iexact HA_12
  isplitl [HW_4]; · iexact HW_4
  isplitl [HW_5]; · iexact HW_5
  isplitl [HO]; · iexact HO
  isplitl [Hf_0_0_0]; · iexact Hf_0_0_0
  iexact Hp_0_0_F

theorem part25 (Q : PUnit → sProp 𝕄)   :
    iprop(Ctx I κ ∗ owesE c (Ow c 21) ∗ pend (F := F) c 0 1 0 ∗ pend (F := F) c 0 2 0 ∗ pend (F := F) c 2 0 0 ∗ pend (F := F) c 2 1 0)
      ⊢ iprop(((owesE c (Ow c 21) ∗ fin (F := F) c 0 1 0 ∗ ownP I c 1 0 fullShare ∗ fin (F := F) c 0 2 0 ∗ ownP I c 2 0 fullShare ∗ fin (F := F) c 2 0 0 ∗ ownP I c 0 1 qY ∗ fin (F := F) c 2 1 0 ∗ ownP I c 1 1 qY) -∗ Q ⟨⟩) -∗ wpc c (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 ) Q) := by
  rw [k0_part25_eq_skeleton]
  unfold k0_part25_skel
  simp only [semSignalWord, semWaitWord, Prog.lift, Prog.bind_op, Prog.bind_ret, Prog.pure_eq_ret, Prog.bind_assoc, wp_deviceId]
  iintro ⟨#HC, HO, Hw_0_1_0, Hw_0_2_0, Hw_2_0_0, Hw_2_1_0⟩ Hk
  iapply (step_wait I κ c Q (Ow c 21) 0 1 0 rfl (credK _ _ _) iprop(ownP I c 1 0 fullShare) (Entails.refl _) (mw_end c _)) $$ [HO Hw_0_1_0]
  · isplitr; · iexact HC
    isplitl [HO]; · iexact HO
    iexact Hw_0_1_0
  iintro ⟨HO, Hf_0_1_0, Hp_1_0_F⟩
  iapply (step_wait I κ c Q (Ow c 21) 0 2 0 rfl (credK _ _ _) iprop(ownP I c 2 0 fullShare) (Entails.refl _) (mw_end c _)) $$ [HO Hw_0_2_0]
  · isplitr; · iexact HC
    isplitl [HO]; · iexact HO
    iexact Hw_0_2_0
  iintro ⟨HO, Hf_0_2_0, Hp_2_0_F⟩
  iapply (step_wait I κ c Q (Ow c 21) 2 0 0 rfl (credC _ _ _) iprop(ownP I c 0 1 qY) (Entails.refl _) (mw_end c _)) $$ [HO Hw_2_0_0]
  · isplitr; · iexact HC
    isplitl [HO]; · iexact HO
    iexact Hw_2_0_0
  iintro ⟨HO, Hf_2_0_0, Hp_0_1_Y⟩
  iapply (step_wait I κ c Q (Ow c 21) 2 1 0 rfl (credK _ _ _) iprop(ownP I c 1 1 qY) (Entails.refl _) (mw_end c _)) $$ [HO Hw_2_1_0]
  · isplitr; · iexact HC
    isplitl [HO]; · iexact HO
    iexact Hw_2_1_0
  iintro ⟨HO, Hf_2_1_0, Hp_1_1_Y⟩
  unfold wpc
  rw [wp_ret]
  imodintro
  iapply Hk
  isplitl [HO]; · iexact HO
  isplitl [Hf_0_1_0]; · iexact Hf_0_1_0
  isplitl [Hp_1_0_F]; · iexact Hp_1_0_F
  isplitl [Hf_0_2_0]; · iexact Hf_0_2_0
  isplitl [Hp_2_0_F]; · iexact Hp_2_0_F
  isplitl [Hf_2_0_0]; · iexact Hf_2_0_0
  isplitl [Hp_0_1_Y]; · iexact Hp_0_1_Y
  isplitl [Hf_2_1_0]; · iexact Hf_2_1_0
  iexact Hp_1_1_Y

theorem part26 (Q : PUnit → sProp 𝕄)   :
    iprop(Ctx I κ ∗ owesE c (Ow c 21) ∗ pend (F := F) c 2 2 0 ∗ pend (F := F) c 0 0 1 ∗ pend (F := F) c 0 1 1)
      ⊢ iprop(((owesE c (Ow c 21) ∗ fin (F := F) c 2 2 0 ∗ ownP I c 2 1 qY ∗ fin (F := F) c 0 0 1 ∗ ownP I c 0 1 qZ ∗ fin (F := F) c 0 1 1 ∗ ownP I c 1 1 qZ) -∗ Q ⟨⟩) -∗ wpc c (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 ) Q) := by
  rw [k0_part26_eq_skeleton]
  unfold k0_part26_skel
  simp only [semSignalWord, semWaitWord, Prog.lift, Prog.bind_op, Prog.bind_ret, Prog.pure_eq_ret, Prog.bind_assoc, wp_deviceId]
  iintro ⟨#HC, HO, Hw_2_2_0, Hw_0_0_1, Hw_0_1_1⟩ Hk
  iapply (step_wait I κ c Q (Ow c 21) 2 2 0 rfl (credK _ _ _) iprop(ownP I c 2 1 qY) (Entails.refl _) (mw_end c _)) $$ [HO Hw_2_2_0]
  · isplitr; · iexact HC
    isplitl [HO]; · iexact HO
    iexact Hw_2_2_0
  iintro ⟨HO, Hf_2_2_0, Hp_2_1_Y⟩
  iapply (step_wait I κ c Q (Ow c 21) 0 0 1 rfl (credC _ _ _) iprop(ownP I c 0 1 qZ) (Entails.refl _) (mw_end c _)) $$ [HO Hw_0_0_1]
  · isplitr; · iexact HC
    isplitl [HO]; · iexact HO
    iexact Hw_0_0_1
  iintro ⟨HO, Hf_0_0_1, Hp_0_1_Z⟩
  iapply (step_wait I κ c Q (Ow c 21) 0 1 1 rfl (credK _ _ _) iprop(ownP I c 1 1 qZ) (Entails.refl _) (mw_end c _)) $$ [HO Hw_0_1_1]
  · isplitr; · iexact HC
    isplitl [HO]; · iexact HO
    iexact Hw_0_1_1
  iintro ⟨HO, Hf_0_1_1, Hp_1_1_Z⟩
  unfold wpc
  rw [wp_ret]
  imodintro
  iapply Hk
  isplitl [HO]; · iexact HO
  isplitl [Hf_2_2_0]; · iexact Hf_2_2_0
  isplitl [Hp_2_1_Y]; · iexact Hp_2_1_Y
  isplitl [Hf_0_0_1]; · iexact Hf_0_0_1
  isplitl [Hp_0_1_Z]; · iexact Hp_0_1_Z
  isplitl [Hf_0_1_1]; · iexact Hf_0_1_1
  iexact Hp_1_1_Z

theorem part27 (Q : PUnit → sProp 𝕄)   :
    iprop(Ctx I κ ∗ owesE c (Ow c 21) ∗ pend (F := F) c 0 2 1 ∗ pend (F := F) c 2 0 1 ∗ pend (F := F) c 2 1 1)
      ⊢ iprop(((owesE c (Ow c 21) ∗ fin (F := F) c 0 2 1 ∗ ownP I c 2 1 qZ ∗ fin (F := F) c 2 0 1 ∗ ownP I c 0 2 qY ∗ fin (F := F) c 2 1 1 ∗ ownP I c 1 2 qY) -∗ Q ⟨⟩) -∗ wpc c (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 ) Q) := by
  rw [k0_part27_eq_skeleton]
  unfold k0_part27_skel
  simp only [semSignalWord, semWaitWord, Prog.lift, Prog.bind_op, Prog.bind_ret, Prog.pure_eq_ret, Prog.bind_assoc, wp_deviceId]
  iintro ⟨#HC, HO, Hw_0_2_1, Hw_2_0_1, Hw_2_1_1⟩ Hk
  iapply (step_wait I κ c Q (Ow c 21) 0 2 1 rfl (credK _ _ _) iprop(ownP I c 2 1 qZ) (Entails.refl _) (mw_end c _)) $$ [HO Hw_0_2_1]
  · isplitr; · iexact HC
    isplitl [HO]; · iexact HO
    iexact Hw_0_2_1
  iintro ⟨HO, Hf_0_2_1, Hp_2_1_Z⟩
  iapply (step_wait I κ c Q (Ow c 21) 2 0 1 rfl (credC _ _ _) iprop(ownP I c 0 2 qY) (Entails.refl _) (mw_end c _)) $$ [HO Hw_2_0_1]
  · isplitr; · iexact HC
    isplitl [HO]; · iexact HO
    iexact Hw_2_0_1
  iintro ⟨HO, Hf_2_0_1, Hp_0_2_Y⟩
  iapply (step_wait I κ c Q (Ow c 21) 2 1 1 rfl (credK _ _ _) iprop(ownP I c 1 2 qY) (Entails.refl _) (mw_end c _)) $$ [HO Hw_2_1_1]
  · isplitr; · iexact HC
    isplitl [HO]; · iexact HO
    iexact Hw_2_1_1
  iintro ⟨HO, Hf_2_1_1, Hp_1_2_Y⟩
  unfold wpc
  rw [wp_ret]
  imodintro
  iapply Hk
  isplitl [HO]; · iexact HO
  isplitl [Hf_0_2_1]; · iexact Hf_0_2_1
  isplitl [Hp_2_1_Z]; · iexact Hp_2_1_Z
  isplitl [Hf_2_0_1]; · iexact Hf_2_0_1
  isplitl [Hp_0_2_Y]; · iexact Hp_0_2_Y
  isplitl [Hf_2_1_1]; · iexact Hf_2_1_1
  iexact Hp_1_2_Y

theorem part28 (Q : PUnit → sProp 𝕄)   :
    iprop(Ctx I κ ∗ owesE c (Ow c 21) ∗ pend (F := F) c 2 2 1 ∗ pend (F := F) c 0 0 2 ∗ pend (F := F) c 0 1 2 ∗ pend (F := F) c 0 2 2)
      ⊢ iprop(((owesE c (Ow c 21) ∗ fin (F := F) c 2 2 1 ∗ ownP I c 2 2 qY ∗ fin (F := F) c 0 0 2 ∗ ownP I c 0 2 qZ ∗ fin (F := F) c 0 1 2 ∗ ownP I c 1 2 qZ ∗ fin (F := F) c 0 2 2 ∗ ownP I c 2 2 qZ) -∗ Q ⟨⟩) -∗ wpc c (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 ) Q) := by
  rw [k0_part28_eq_skeleton]
  unfold k0_part28_skel
  simp only [semSignalWord, semWaitWord, Prog.lift, Prog.bind_op, Prog.bind_ret, Prog.pure_eq_ret, Prog.bind_assoc, wp_deviceId]
  iintro ⟨#HC, HO, Hw_2_2_1, Hw_0_0_2, Hw_0_1_2, Hw_0_2_2⟩ Hk
  iapply (step_wait I κ c Q (Ow c 21) 2 2 1 rfl (credK _ _ _) iprop(ownP I c 2 2 qY) (Entails.refl _) (mw_end c _)) $$ [HO Hw_2_2_1]
  · isplitr; · iexact HC
    isplitl [HO]; · iexact HO
    iexact Hw_2_2_1
  iintro ⟨HO, Hf_2_2_1, Hp_2_2_Y⟩
  iapply (step_wait I κ c Q (Ow c 21) 0 0 2 rfl (credC _ _ _) iprop(ownP I c 0 2 qZ) (Entails.refl _) (mw_end c _)) $$ [HO Hw_0_0_2]
  · isplitr; · iexact HC
    isplitl [HO]; · iexact HO
    iexact Hw_0_0_2
  iintro ⟨HO, Hf_0_0_2, Hp_0_2_Z⟩
  iapply (step_wait I κ c Q (Ow c 21) 0 1 2 rfl (credK _ _ _) iprop(ownP I c 1 2 qZ) (Entails.refl _) (mw_end c _)) $$ [HO Hw_0_1_2]
  · isplitr; · iexact HC
    isplitl [HO]; · iexact HO
    iexact Hw_0_1_2
  iintro ⟨HO, Hf_0_1_2, Hp_1_2_Z⟩
  iapply (step_wait I κ c Q (Ow c 21) 0 2 2 rfl (credK _ _ _) iprop(ownP I c 2 2 qZ) (Entails.refl _) (mw_end c _)) $$ [HO Hw_0_2_2]
  · isplitr; · iexact HC
    isplitl [HO]; · iexact HO
    iexact Hw_0_2_2
  iintro ⟨HO, Hf_0_2_2, Hp_2_2_Z⟩
  unfold wpc
  rw [wp_ret]
  imodintro
  iapply Hk
  isplitl [HO]; · iexact HO
  isplitl [Hf_2_2_1]; · iexact Hf_2_2_1
  isplitl [Hp_2_2_Y]; · iexact Hp_2_2_Y
  isplitl [Hf_0_0_2]; · iexact Hf_0_0_2
  isplitl [Hp_0_2_Z]; · iexact Hp_0_2_Z
  isplitl [Hf_0_1_2]; · iexact Hf_0_1_2
  isplitl [Hp_1_2_Z]; · iexact Hp_1_2_Z
  isplitl [Hf_0_2_2]; · iexact Hf_0_2_2
  iexact Hp_2_2_Z

end KProof
-- ==== Proof.Body.lean ====
module

public import proofs.«01_k».proof.Proof.Parts0
public import proofs.«01_k».proof.Proof.Parts1
public import proofs.«01_k».proof.Proof.Parts2
public import proofs.«01_k».proof.Proof.Parts3
public import proofs.«01_k».proof.Proof.Parts4
public import proofs.«01_k».proof.Proof.Parts5

/-! The gather as a whole, on one device. -/

@[expose] public section

set_option maxRecDepth 16384

noncomputable section

namespace KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

variable (I : Ins F) (κ : GSem nD τ sig → ℕ) (c : Dev nD)

theorem part2 (Q : (Σ' (v42 : FVec F S1024x128 .bf16) (v44 : FVec F S128x2048 .bf16), FVec F S128x2048 .bf16) → sProp 𝕄) (v2 v5 v8 v10 v17 w : BitVec 32) :
    iprop(Ctx I κ ∗ owesE c (Ow c 2) ∗ dutyTok ER (barCell (par c)) 0 (2 : D) ∗ barPay (F := F) (par c) 2 ∗ cred (tallyAt (barCell c) () 3) ∗ atPos ER (barCell c) 0 ∅ 0 ∗ pt c cc0_stg0_0 (I.x c) ∗ pt c cc0_stg1_0 (I.wd c) ∗ pt c cc0_stg2_0 (I.wk c) ∗ pt c cc0_stg3_0 (I.wv c) ∗ ownAny (F := F) c 0 0 ∗ ownAny (F := F) c 1 0 ∗ ownAny (F := F) c 2 0)
      ⊢ iprop(((owesE c (Ow c 3) ∗ atPos ER (barCell c) (0 + 1) ∅ 0 ∗ ownAny (F := F) (rgt c) 0 1 ∗ ownAny (F := F) (rgt c) 1 1 ∗ ownAny (F := F) (rgt c) 2 1 ∗ ownAny (F := F) (rgt c) 0 2 ∗ ownAny (F := F) (rgt c) 1 2 ∗ ownAny (F := F) (rgt c) 2 2 ∗ ownAny (F := F) (rgt c) 0 3 ∗ ownAny (F := F) (rgt c) 1 3 ∗ ownAny (F := F) (rgt c) 2 3 ∗ othAny (F := F) (par c) 0 1 ∗ othAny (F := F) (par c) 1 1 ∗ othAny (F := F) (par c) 2 1 ∗ othAny (F := F) (par c) 0 2 ∗ othAny (F := F) (par c) 1 2 ∗ othAny (F := F) (par c) 2 2 ∗ othAny (F := F) (par c) 0 3 ∗ othAny (F := F) (par c) 1 3 ∗ othAny (F := F) (par c) 2 3 ∗ reachedAll (F := F) (rgt c) 1 ∗ reachedAll (F := F) (par c) 3 ∗ pt c cc0_stg0_0 (I.x c) ∗ pt c cc0_stg1_0 (I.wd c) ∗ pt c cc0_stg2_0 (I.wk c) ∗ pt c cc0_stg3_0 (I.wv c) ∗ ownP I c 0 0 fullShare ∗ ownP I c 1 0 fullShare ∗ ownP I c 2 0 fullShare) -∗ Q ⟨(k0_pay1 (I.x c) (I.wd c)), (k0_pay2 (I.wk c)), (k0_pay3 (I.wv c))⟩) -∗ wpc c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 c v2 v5 v8 v10 (parW c) v17 (SemArray.scalar (sig.barrier 0 rfl)) w) Q) := by
  by_cases hp : (c.val / 4) % 2 = 0
  · exact part2e I κ c Q v2 v5 v8 v10 v17 w hp
  · exact part2o I κ c Q v2 v5 v8 v10 v17 w hp

set_option maxHeartbeats 8000000 in
theorem gather_body (Q : PUnit → sProp 𝕄) (fA fB : Vec F S1024x2048 .f32) (f4 f5 : Vec F S1024x2048 .bf16) :
    iprop(Ctx I κ ∗ owesE c (Ow c 0) ∗ dutyTok ER (barCell (lft c)) 0 (0 : D) ∗ barPay (F := F) (lft c) 0 ∗ dutyTok ER (barCell (rgt c)) 0 (1 : D) ∗ dutyTok ER (barCell (par c)) 0 (2 : D) ∗ barPay (F := F) (par c) 2 ∗ cred (tallyAt (barCell c) () 3) ∗ atPos ER (barCell c) 0 ∅ 0 ∗ pt c cc0_stg0_0 (I.x c) ∗ pt c cc0_stg1_0 (I.wd c) ∗ pt c cc0_stg2_0 (I.wk c) ∗ pt c cc0_stg3_0 (I.wv c) ∗ ownAny (F := F) c 0 0 ∗ ownAny (F := F) c 1 0 ∗ ownAny (F := F) c 2 0 ∗ tokZ (F := F) c 0 0 ∗ tokZ (F := F) c 1 0 ∗ tokZ (F := F) c 2 0 ∗ pt c cc0_scratch6 fA ∗ pt c cc0_scratch7 fB ∗ pend (F := F) c 1 0 0 ∗ pend (F := F) c 1 1 0 ∗ pend (F := F) c 1 2 0 ∗ tokY (F := F) c 0 0 ∗ tokY (F := F) c 1 0 ∗ tokY (F := F) c 2 0 ∗ tokZ (F := F) c 0 1 ∗ tokZ (F := F) c 1 1 ∗ tokZ (F := F) c 2 1 ∗ pend (F := F) c 1 0 1 ∗ pend (F := F) c 1 1 1 ∗ pend (F := F) c 1 2 1 ∗ tokY (F := F) c 0 1 ∗ tokY (F := F) c 1 1 ∗ tokY (F := F) c 2 1 ∗ tokZ (F := F) c 0 2 ∗ tokZ (F := F) c 1 2 ∗ tokZ (F := F) c 2 2 ∗ pend (F := F) c 1 0 2 ∗ pend (F := F) c 1 1 2 ∗ pend (F := F) c 1 2 2 ∗ tokY (F := F) c 0 2 ∗ tokY (F := F) c 1 2 ∗ tokY (F := F) c 2 2 ∗ pend (F := F) c 3 0 0 ∗ pend (F := F) c 3 1 0 ∗ pend (F := F) c 3 2 0 ∗ pend (F := F) c 3 0 1 ∗ pend (F := F) c 3 1 1 ∗ pend (F := F) c 3 2 1 ∗ pend (F := F) c 3 0 2 ∗ pend (F := F) c 3 1 2 ∗ pend (F := F) c 3 2 2 ∗ pt c cc0_stg4_0 f4 ∗ pt c cc0_stg5_0 f5)
      ⊢ iprop(((atPos ER (barCell c) (0 + 1) ∅ 0 ∗ pt c cc0_stg0_0 (I.x c) ∗ pt c cc0_stg1_0 (I.wd c) ∗ pt c cc0_stg2_0 (I.wk c) ∗ pt c cc0_stg3_0 (I.wv c) ∗ fin (F := F) c 1 0 0 ∗ fin (F := F) c 1 1 0 ∗ fin (F := F) c 1 2 0 ∗ ownP I c 1 1 qL ∗ ownP I c 0 1 qL ∗ ownP I c 2 1 qL ∗ fin (F := F) c 1 0 1 ∗ fin (F := F) c 1 1 1 ∗ fin (F := F) c 1 2 1 ∗ ownP I c 1 2 qL ∗ ownP I c 0 2 qL ∗ ownP I c 2 2 qL ∗ fin (F := F) c 1 0 2 ∗ ownP I c 0 3 qZ ∗ fin (F := F) c 1 1 2 ∗ ownP I c 1 3 qZ ∗ fin (F := F) c 1 2 2 ∗ ownP I c 2 3 qZ ∗ ownP I c 0 3 qL ∗ ownP I c 1 3 qL ∗ ownP I c 2 3 qL ∗ fin (F := F) c 3 0 0 ∗ fin (F := F) c 3 1 0 ∗ fin (F := F) c 3 2 0 ∗ othP I c 2 1 fullShare ∗ othP I c 0 1 fullShare ∗ othP I c 1 1 fullShare ∗ fin (F := F) c 3 0 1 ∗ fin (F := F) c 3 1 1 ∗ fin (F := F) c 3 2 1 ∗ othP I c 2 2 fullShare ∗ othP I c 0 2 fullShare ∗ othP I c 1 2 fullShare ∗ fin (F := F) c 3 0 2 ∗ fin (F := F) c 3 1 2 ∗ othP I c 1 3 fullShare ∗ fin (F := F) c 3 2 2 ∗ othP I c 0 3 fullShare ∗ othP I c 2 3 fullShare ∗ pt c cc0_scratch7 (vA6 I c) ∗ pt c cc0_scratch6 (kA6 I c) ∗ pt c cc0_stg4_0 (outK I c) ∗ pt c cc0_stg5_0 (outV I c) ∗ fin (F := F) c 0 0 0 ∗ ownP I c 0 0 fullShare ∗ fin (F := F) c 0 1 0 ∗ ownP I c 1 0 fullShare ∗ fin (F := F) c 0 2 0 ∗ ownP I c 2 0 fullShare ∗ fin (F := F) c 2 0 0 ∗ ownP I c 0 1 qY ∗ fin (F := F) c 2 1 0 ∗ ownP I c 1 1 qY ∗ fin (F := F) c 2 2 0 ∗ ownP I c 2 1 qY ∗ fin (F := F) c 0 0 1 ∗ ownP I c 0 1 qZ ∗ fin (F := F) c 0 1 1 ∗ ownP I c 1 1 qZ ∗ fin (F := F) c 0 2 1 ∗ ownP I c 2 1 qZ ∗ fin (F := F) c 2 0 1 ∗ ownP I c 0 2 qY ∗ fin (F := F) c 2 1 1 ∗ ownP I c 1 2 qY ∗ owesE c (Ow c 21) ∗ fin (F := F) c 2 2 1 ∗ ownP I c 2 2 qY ∗ fin (F := F) c 0 0 2 ∗ ownP I c 0 2 qZ ∗ fin (F := F) c 0 1 2 ∗ ownP I c 1 2 qZ ∗ fin (F := F) c 0 2 2 ∗ ownP I c 2 2 qZ ∗ fin (F := F) c 2 0 2 ∗ ownP I c 0 3 qY ∗ fin (F := F) c 2 1 2 ∗ ownP I c 1 3 qY ∗ fin (F := F) c 2 2 2 ∗ ownP I c 2 3 qY) -∗ Q ⟨⟩) -∗ wpc c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11) Q) := by
  rw [cc0_body_eq_skeleton]
  unfold cc0_body_skel
  rw [k0_part29_eq_skeleton]
  unfold k0_part29_skel wpc
  simp only [Prog.lift, Prog.bind_op, Prog.bind_ret, Prog.pure_eq_ret, Prog.bind_assoc]
  iintro ⟨#HC, HO, HT_0, HP_0, HT_1, HT_2, HP_2, HBC, HBA, HW_0, HW_1, HW_2, HW_3, Ha_0, Ha_1, Ha_2, Htz_0_0, Htz_1_0, Htz_2_0, HA_12, HA_13, Hw_1_0_0, Hw_1_1_0, Hw_1_2_0, Hty_0_0, Hty_1_0, Hty_2_0, Htz_0_1, Htz_1_1, Htz_2_1, Hw_1_0_1, Hw_1_1_1, Hw_1_2_1, Hty_0_1, Hty_1_1, Hty_2_1, Htz_0_2, Htz_1_2, Htz_2_2, Hw_1_0_2, Hw_1_1_2, Hw_1_2_2, Hty_0_2, Hty_1_2, Hty_2_2, Hw_3_0_0, Hw_3_1_0, Hw_3_2_0, Hw_3_0_1, Hw_3_1_1, Hw_3_2_1, Hw_3_0_2, Hw_3_1_2, Hw_3_2_2, HW_4, HW_5⟩ Hk
  rw [wp_bind]
  iapply (part1 I κ c _  ) $$ [HO HT_0 HP_0 HT_1]
  · isplitr; · iexact HC
    isplitl [HO]; · iexact HO
    isplitl [HT_0]; · iexact HT_0
    isplitl [HP_0]; · iexact HP_0
    iexact HT_1
  iintro %w1_0 %w1_1 %w1_2 %w1_3 %w1_4 %w1_5 HO
  try dsimp only
  rw [wp_bind]
  iapply (part2 I κ c _  _ _ _ _ _ _) $$ [HO HT_2 HP_2 HBC HBA HW_0 HW_1 HW_2 HW_3 Ha_0 Ha_1 Ha_2]
  · isplitr; · iexact HC
    isplitl [HO]; · iexact HO
    isplitl [HT_2]; · iexact HT_2
    isplitl [HP_2]; · iexact HP_2
    isplitl [HBC]; · iexact HBC
    isplitl [HBA]; · iexact HBA
    isplitl [HW_0]; · iexact HW_0
    isplitl [HW_1]; · iexact HW_1
    isplitl [HW_2]; · iexact HW_2
    isplitl [HW_3]; · iexact HW_3
    isplitl [Ha_0]; · iexact Ha_0
    isplitl [Ha_1]; · iexact Ha_1
    iexact Ha_2
  iintro  ⟨HO, HBD, Hdz_0_1, Hdz_1_1, Hdz_2_1, Hdz_0_2, Hdz_1_2, Hdz_2_2, Hdz_0_3, Hdz_1_3, Hdz_2_3, Hdy_0_1, Hdy_1_1, Hdy_2_1, Hdy_0_2, Hdy_1_2, Hdy_2_2, Hdy_0_3, Hdy_1_3, Hdy_2_3, #HRZ, #HRY, HW_0, HW_1, HW_2, HW_3, Hp_0_0_F, Hp_1_0_F, Hp_2_0_F⟩
  try dsimp only
  rw [wp_bind]
  iapply (part3 I κ c _  _ _ _) $$ [HO Htz_0_0 Hp_0_0_F Hdz_0_1 Htz_1_0 Hp_1_0_F Hdz_1_1]
  · isplitr; · iexact HC
    isplitr; · iexact HRZ
    isplitl [HO]; · iexact HO
    isplitl [Htz_0_0]; · iexact Htz_0_0
    isplitl [Hp_0_0_F]; · iexact Hp_0_0_F
    isplitl [Hdz_0_1]; · iexact Hdz_0_1
    isplitl [Htz_1_0]; · iexact Htz_1_0
    isplitl [Hp_1_0_F]; · iexact Hp_1_0_F
    iexact Hdz_1_1
  iintro  ⟨HO, Hw_0_0_0, Hw_0_1_0⟩
  try dsimp only
  rw [wp_bind]
  iapply (part4 I κ c _ fA fB _ _ _) $$ [HO Htz_2_0 Hp_2_0_F Hdz_2_1 HA_12 HA_13 Hw_1_0_0]
  · isplitr; · iexact HC
    isplitr; · iexact HRZ
    isplitl [HO]; · iexact HO
    isplitl [Htz_2_0]; · iexact Htz_2_0
    isplitl [Hp_2_0_F]; · iexact Hp_2_0_F
    isplitl [Hdz_2_1]; · iexact Hdz_2_1
    isplitl [HA_12]; · iexact HA_12
    isplitl [HA_13]; · iexact HA_13
    iexact Hw_1_0_0
  iintro  ⟨HO, Hw_0_2_0, HA_12, HA_13, Hf_1_0_0, Hp_0_1_Z, Hp_0_1_Y, Hp_0_1_L⟩
  try dsimp only
  rw [wp_bind]
  iapply (part5 I κ c _  _ _ _ _) $$ [HO Hw_1_1_0 Hw_1_2_0]
  · isplitr; · iexact HC
    isplitl [HO]; · iexact HO
    isplitl [Hw_1_1_0]; · iexact Hw_1_1_0
    iexact Hw_1_2_0
  iintro %w5_0 %w5_1 ⟨HO, Hf_1_1_0, Hp_1_1_Z, Hp_1_1_Y, Hp_1_1_L, Hf_1_2_0, Hp_2_1_Z, Hp_2_1_Y, Hp_2_1_L⟩
  try dsimp only
  rw [wp_bind]
  iapply (part6 I κ c _  _ _ _ _ _) $$ [HO Hty_0_0 Hp_0_1_Y Hdy_0_1 Hty_1_0 Hp_1_1_Y Hdy_1_1]
  · isplitr; · iexact HC
    isplitr; · iexact HRY
    isplitl [HO]; · iexact HO
    isplitl [Hty_0_0]; · iexact Hty_0_0
    isplitl [Hp_0_1_Y]; · iexact Hp_0_1_Y
    isplitl [Hdy_0_1]; · iexact Hdy_0_1
    isplitl [Hty_1_0]; · iexact Hty_1_0
    isplitl [Hp_1_1_Y]; · iexact Hp_1_1_Y
    iexact Hdy_1_1
  iintro %w6_0 %w6_1 ⟨HO, Hw_2_0_0, Hw_2_1_0⟩
  try dsimp only
  rw [wp_bind]
  iapply (part7 I κ c _  _ _ _ _ _ _) $$ [HO Hty_2_0 Hp_2_1_Y Hdy_2_1 Htz_0_1 Hp_0_1_Z Hdz_0_2]
  · isplitr; · iexact HC
    isplitr; · iexact HRY
    isplitl [HO]; · iexact HO
    isplitl [Hty_2_0]; · iexact Hty_2_0
    isplitl [Hp_2_1_Y]; · iexact Hp_2_1_Y
    isplitl [Hdy_2_1]; · iexact Hdy_2_1
    isplitr; · iexact HRZ
    isplitl [Htz_0_1]; · iexact Htz_0_1
    isplitl [Hp_0_1_Z]; · iexact Hp_0_1_Z
    iexact Hdz_0_2
  iintro  ⟨HO, Hw_2_2_0, Hw_0_0_1⟩
  try dsimp only
  rw [wp_bind]
  iapply (part8 I κ c _  _ _ _) $$ [HO Htz_1_1 Hp_1_1_Z Hdz_1_2 Htz_2_1 Hp_2_1_Z Hdz_2_2 HA_12 Hp_0_1_L Hp_1_1_L]
  · isplitr; · iexact HC
    isplitr; · iexact HRZ
    isplitl [HO]; · iexact HO
    isplitl [Htz_1_1]; · iexact Htz_1_1
    isplitl [Hp_1_1_Z]; · iexact Hp_1_1_Z
    isplitl [Hdz_1_2]; · iexact Hdz_1_2
    isplitl [Htz_2_1]; · iexact Htz_2_1
    isplitl [Hp_2_1_Z]; · iexact Hp_2_1_Z
    isplitl [Hdz_2_2]; · iexact Hdz_2_2
    isplitl [HA_12]; · iexact HA_12
    isplitl [Hp_0_1_L]; · iexact Hp_0_1_L
    iexact Hp_1_1_L
  iintro  ⟨HO, Hw_0_1_1, Hw_0_2_1, HA_12, Hp_0_1_L, Hp_1_1_L⟩
  try dsimp only
  rw [wp_bind]
  iapply (part9 I κ c _  _ _ _) $$ [HA_12 HA_13 Hp_0_1_L Hp_2_1_L HO Hw_1_0_1]
  · isplitr; · iexact HC
    isplitl [HA_12]; · iexact HA_12
    isplitl [HA_13]; · iexact HA_13
    isplitl [Hp_0_1_L]; · iexact Hp_0_1_L
    isplitl [Hp_2_1_L]; · iexact Hp_2_1_L
    isplitl [HO]; · iexact HO
    iexact Hw_1_0_1
  iintro %w9_0 ⟨HA_12, HA_13, Hp_0_1_L, Hp_2_1_L, HO, Hf_1_0_1, Hp_0_2_Z, Hp_0_2_Y, Hp_0_2_L⟩
  try dsimp only
  rw [wp_bind]
  iapply (part10 I κ c _  _ _ _ _ _) $$ [HO Hw_1_1_1 Hw_1_2_1]
  · isplitr; · iexact HC
    isplitl [HO]; · iexact HO
    isplitl [Hw_1_1_1]; · iexact Hw_1_1_1
    iexact Hw_1_2_1
  iintro %w10_0 ⟨HO, Hf_1_1_1, Hp_1_2_Z, Hp_1_2_Y, Hp_1_2_L, Hf_1_2_1, Hp_2_2_Z, Hp_2_2_Y, Hp_2_2_L⟩
  try dsimp only
  rw [wp_bind]
  iapply (part11 I κ c _  _ _ _ _) $$ [HO Hty_0_1 Hp_0_2_Y Hdy_0_2 Hty_1_1 Hp_1_2_Y Hdy_1_2]
  · isplitr; · iexact HC
    isplitr; · iexact HRY
    isplitl [HO]; · iexact HO
    isplitl [Hty_0_1]; · iexact Hty_0_1
    isplitl [Hp_0_2_Y]; · iexact Hp_0_2_Y
    isplitl [Hdy_0_2]; · iexact Hdy_0_2
    isplitl [Hty_1_1]; · iexact Hty_1_1
    isplitl [Hp_1_2_Y]; · iexact Hp_1_2_Y
    iexact Hdy_1_2
  iintro %w11_0 %w11_1 ⟨HO, Hw_2_0_1, Hw_2_1_1⟩
  try dsimp only
  rw [wp_bind]
  iapply (part12 I κ c _  _ _ _ _ _) $$ [HO Hty_2_1 Hp_2_2_Y Hdy_2_2 Htz_0_2 Hp_0_2_Z Hdz_0_3]
  · isplitr; · iexact HC
    isplitr; · iexact HRY
    isplitl [HO]; · iexact HO
    isplitl [Hty_2_1]; · iexact Hty_2_1
    isplitl [Hp_2_2_Y]; · iexact Hp_2_2_Y
    isplitl [Hdy_2_2]; · iexact Hdy_2_2
    isplitr; · iexact HRZ
    isplitl [Htz_0_2]; · iexact Htz_0_2
    isplitl [Hp_0_2_Z]; · iexact Hp_0_2_Z
    iexact Hdz_0_3
  iintro  ⟨HO, Hw_2_2_1, Hw_0_0_2⟩
  try dsimp only
  rw [wp_bind]
  iapply (part13 I κ c _  _ _ _) $$ [HO Htz_1_2 Hp_1_2_Z Hdz_1_3 Htz_2_2 Hp_2_2_Z Hdz_2_3 HA_12 Hp_0_2_L Hp_1_2_L]
  · isplitr; · iexact HC
    isplitr; · iexact HRZ
    isplitl [HO]; · iexact HO
    isplitl [Htz_1_2]; · iexact Htz_1_2
    isplitl [Hp_1_2_Z]; · iexact Hp_1_2_Z
    isplitl [Hdz_1_3]; · iexact Hdz_1_3
    isplitl [Htz_2_2]; · iexact Htz_2_2
    isplitl [Hp_2_2_Z]; · iexact Hp_2_2_Z
    isplitl [Hdz_2_3]; · iexact Hdz_2_3
    isplitl [HA_12]; · iexact HA_12
    isplitl [Hp_0_2_L]; · iexact Hp_0_2_L
    iexact Hp_1_2_L
  iintro  ⟨HO, Hw_0_1_2, Hw_0_2_2, HA_12, Hp_0_2_L, Hp_1_2_L⟩
  try dsimp only
  rw [wp_bind]
  iapply (part14 I κ c _  _ _ _) $$ [HA_12 HA_13 Hp_0_2_L Hp_2_2_L HO Hw_1_0_2]
  · isplitr; · iexact HC
    isplitl [HA_12]; · iexact HA_12
    isplitl [HA_13]; · iexact HA_13
    isplitl [Hp_0_2_L]; · iexact Hp_0_2_L
    isplitl [Hp_2_2_L]; · iexact Hp_2_2_L
    isplitl [HO]; · iexact HO
    iexact Hw_1_0_2
  iintro %w14_0 ⟨HA_12, HA_13, Hp_0_2_L, Hp_2_2_L, HO, Hf_1_0_2, Hp_0_3_Z, Hp_0_3_Y, Hp_0_3_L⟩
  try dsimp only
  rw [wp_bind]
  iapply (part15 I κ c _  _ _ _ _ _) $$ [HO Hw_1_1_2 Hw_1_2_2]
  · isplitr; · iexact HC
    isplitl [HO]; · iexact HO
    isplitl [Hw_1_1_2]; · iexact Hw_1_1_2
    iexact Hw_1_2_2
  iintro %w15_0 %w15_1 ⟨HO, Hf_1_1_2, Hp_1_3_Z, Hp_1_3_Y, Hp_1_3_L, Hf_1_2_2, Hp_2_3_Z, Hp_2_3_Y, Hp_2_3_L⟩
  try dsimp only
  rw [wp_bind]
  iapply (part16 I κ c _  _ _ _ _ _) $$ [HO Hty_0_2 Hp_0_3_Y Hdy_0_3 Hty_1_2 Hp_1_3_Y Hdy_1_3]
  · isplitr; · iexact HC
    isplitr; · iexact HRY
    isplitl [HO]; · iexact HO
    isplitl [Hty_0_2]; · iexact Hty_0_2
    isplitl [Hp_0_3_Y]; · iexact Hp_0_3_Y
    isplitl [Hdy_0_3]; · iexact Hdy_0_3
    isplitl [Hty_1_2]; · iexact Hty_1_2
    isplitl [Hp_1_3_Y]; · iexact Hp_1_3_Y
    iexact Hdy_1_3
  iintro  ⟨HO, Hw_2_0_2, Hw_2_1_2⟩
  try dsimp only
  rw [wp_bind]
  iapply (part17 I κ c _  ) $$ [HO Hty_2_2 Hp_2_3_Y Hdy_2_3 HA_12 Hp_0_3_L Hp_1_3_L HA_13 Hp_2_3_L]
  · isplitr; · iexact HC
    isplitr; · iexact HRY
    isplitl [HO]; · iexact HO
    isplitl [Hty_2_2]; · iexact Hty_2_2
    isplitl [Hp_2_3_Y]; · iexact Hp_2_3_Y
    isplitl [Hdy_2_3]; · iexact Hdy_2_3
    isplitl [HA_12]; · iexact HA_12
    isplitl [Hp_0_3_L]; · iexact Hp_0_3_L
    isplitl [Hp_1_3_L]; · iexact Hp_1_3_L
    isplitl [HA_13]; · iexact HA_13
    iexact Hp_2_3_L
  iintro  ⟨HO, Hw_2_2_2, HA_12, Hp_0_3_L, Hp_1_3_L, HA_13, Hp_2_3_L⟩
  try dsimp only
  rw [wp_bind]
  iapply (part18 I κ c _  _ _ _) $$ [HO Hw_3_0_0 Hw_3_1_0]
  · isplitr; · iexact HC
    isplitl [HO]; · iexact HO
    isplitl [Hw_3_0_0]; · iexact Hw_3_0_0
    iexact Hw_3_1_0
  iintro %w18_0 %w18_1 ⟨HO, Hf_3_0_0, Ho_0_1, Hf_3_1_0, Ho_1_1⟩
  try dsimp only
  rw [wp_bind]
  iapply (part19 I κ c _  _ _ _ _) $$ [HO Hw_3_2_0 HA_12 Ho_0_1 Ho_1_1 HA_13]
  · isplitr; · iexact HC
    isplitl [HO]; · iexact HO
    isplitl [Hw_3_2_0]; · iexact Hw_3_2_0
    isplitl [HA_12]; · iexact HA_12
    isplitl [Ho_0_1]; · iexact Ho_0_1
    isplitl [Ho_1_1]; · iexact Ho_1_1
    iexact HA_13
  iintro  ⟨HO, Hf_3_2_0, Ho_2_1, HA_12, Ho_0_1, Ho_1_1, HA_13⟩
  try dsimp only
  rw [wp_bind]
  iapply (part20 I κ c _  _ _ _) $$ [HA_13 HO Hw_3_0_1 Hw_3_1_1]
  · isplitr; · iexact HC
    isplitl [HA_13]; · iexact HA_13
    isplitl [HO]; · iexact HO
    isplitl [Hw_3_0_1]; · iexact Hw_3_0_1
    iexact Hw_3_1_1
  iintro  ⟨HA_13, HO, Hf_3_0_1, Ho_0_2, Hf_3_1_1, Ho_1_2⟩
  try dsimp only
  rw [wp_bind]
  iapply (part21 I κ c _  _ _ _) $$ [HO Hw_3_2_1 HA_12 Ho_0_2 Ho_1_2 HA_13]
  · isplitr; · iexact HC
    isplitl [HO]; · iexact HO
    isplitl [Hw_3_2_1]; · iexact Hw_3_2_1
    isplitl [HA_12]; · iexact HA_12
    isplitl [Ho_0_2]; · iexact Ho_0_2
    isplitl [Ho_1_2]; · iexact Ho_1_2
    iexact HA_13
  iintro  ⟨HO, Hf_3_2_1, Ho_2_2, HA_12, Ho_0_2, Ho_1_2, HA_13⟩
  try dsimp only
  rw [wp_bind]
  iapply (part22 I κ c _  _ _ _) $$ [HA_13 HO Hw_3_0_2]
  · isplitr; · iexact HC
    isplitl [HA_13]; · iexact HA_13
    isplitl [HO]; · iexact HO
    iexact Hw_3_0_2
  iintro  ⟨HA_13, HO, Hf_3_0_2, Ho_0_3⟩
  try dsimp only
  rw [wp_bind]
  iapply (part23 I κ c _  _ _ _) $$ [HO Hw_3_1_2 Hw_3_2_2 HA_12 Ho_0_3 HA_13]
  · isplitr; · iexact HC
    isplitl [HO]; · iexact HO
    isplitl [Hw_3_1_2]; · iexact Hw_3_1_2
    isplitl [Hw_3_2_2]; · iexact Hw_3_2_2
    isplitl [HA_12]; · iexact HA_12
    isplitl [Ho_0_3]; · iexact Ho_0_3
    iexact HA_13
  iintro  ⟨HO, Hf_3_1_2, Ho_1_3, Hf_3_2_2, Ho_2_3, HA_12, Ho_0_3, HA_13⟩
  try dsimp only
  rw [wp_bind]
  iapply (part24 I κ c _ f4 f5 ) $$ [Ho_2_3 HA_13 HA_12 HW_4 HW_5 HO Hw_0_0_0]
  · isplitr; · iexact HC
    isplitl [Ho_2_3]; · iexact Ho_2_3
    isplitl [HA_13]; · iexact HA_13
    isplitl [HA_12]; · iexact HA_12
    isplitl [HW_4]; · iexact HW_4
    isplitl [HW_5]; · iexact HW_5
    isplitl [HO]; · iexact HO
    iexact Hw_0_0_0
  iintro  ⟨Ho_2_3, HA_13, HA_12, HW_4, HW_5, HO, Hf_0_0_0, Hp_0_0_F⟩
  try dsimp only
  rw [wp_bind]
  iapply (part25 I κ c _  ) $$ [HO Hw_0_1_0 Hw_0_2_0 Hw_2_0_0 Hw_2_1_0]
  · isplitr; · iexact HC
    isplitl [HO]; · iexact HO
    isplitl [Hw_0_1_0]; · iexact Hw_0_1_0
    isplitl [Hw_0_2_0]; · iexact Hw_0_2_0
    isplitl [Hw_2_0_0]; · iexact Hw_2_0_0
    iexact Hw_2_1_0
  iintro  ⟨HO, Hf_0_1_0, Hp_1_0_F, Hf_0_2_0, Hp_2_0_F, Hf_2_0_0, Hp_0_1_Y, Hf_2_1_0, Hp_1_1_Y⟩
  try dsimp only
  rw [wp_bind]
  iapply (part26 I κ c _  ) $$ [HO Hw_2_2_0 Hw_0_0_1 Hw_0_1_1]
  · isplitr; · iexact HC
    isplitl [HO]; · iexact HO
    isplitl [Hw_2_2_0]; · iexact Hw_2_2_0
    isplitl [Hw_0_0_1]; · iexact Hw_0_0_1
    iexact Hw_0_1_1
  iintro  ⟨HO, Hf_2_2_0, Hp_2_1_Y, Hf_0_0_1, Hp_0_1_Z, Hf_0_1_1, Hp_1_1_Z⟩
  try dsimp only
  rw [wp_bind]
  iapply (part27 I κ c _  ) $$ [HO Hw_0_2_1 Hw_2_0_1 Hw_2_1_1]
  · isplitr; · iexact HC
    isplitl [HO]; · iexact HO
    isplitl [Hw_0_2_1]; · iexact Hw_0_2_1
    isplitl [Hw_2_0_1]; · iexact Hw_2_0_1
    iexact Hw_2_1_1
  iintro  ⟨HO, Hf_0_2_1, Hp_2_1_Z, Hf_2_0_1, Hp_0_2_Y, Hf_2_1_1, Hp_1_2_Y⟩
  try dsimp only
  rw [wp_bind]
  iapply (part28 I κ c _  ) $$ [HO Hw_2_2_1 Hw_0_0_2 Hw_0_1_2 Hw_0_2_2]
  · isplitr; · iexact HC
    isplitl [HO]; · iexact HO
    isplitl [Hw_2_2_1]; · iexact Hw_2_2_1
    isplitl [Hw_0_0_2]; · iexact Hw_0_0_2
    isplitl [Hw_0_1_2]; · iexact Hw_0_1_2
    iexact Hw_0_2_2
  iintro  ⟨HO, Hf_2_2_1, Hp_2_2_Y, Hf_0_0_2, Hp_0_2_Z, Hf_0_1_2, Hp_1_2_Z, Hf_0_2_2, Hp_2_2_Z⟩
  try dsimp only
  try simp only [Prog.lift, Prog.bind_op, Prog.bind_ret, Prog.pure_eq_ret, Prog.bind_assoc]
  iapply (step_wait I κ c Q (Ow c 21) 2 0 2 rfl (credC _ _ _) iprop(ownP I c 0 3 qY) (Entails.refl _) (mw_end c _)) $$ [HO Hw_2_0_2]
  · isplitr; · iexact HC
    isplitl [HO]; · iexact HO
    iexact Hw_2_0_2
  iintro ⟨HO, Hf_2_0_2, Hp_0_3_Y⟩
  iapply (step_wait I κ c Q (Ow c 21) 2 1 2 rfl (credK _ _ _) iprop(ownP I c 1 3 qY) (Entails.refl _) (mw_end c _)) $$ [HO Hw_2_1_2]
  · isplitr; · iexact HC
    isplitl [HO]; · iexact HO
    iexact Hw_2_1_2
  iintro ⟨HO, Hf_2_1_2, Hp_1_3_Y⟩
  iapply (step_wait I κ c Q (Ow c 21) 2 2 2 rfl (credK _ _ _) iprop(ownP I c 2 3 qY) (Entails.refl _) (mw_end c _)) $$ [HO Hw_2_2_2]
  · isplitr; · iexact HC
    isplitl [HO]; · iexact HO
    iexact Hw_2_2_2
  iintro ⟨HO, Hf_2_2_2, Hp_2_3_Y⟩
  unfold wpc
  rw [wp_ret]
  imodintro
  iapply Hk
  isplitl [HBD]; · iexact HBD
  isplitl [HW_0]; · iexact HW_0
  isplitl [HW_1]; · iexact HW_1
  isplitl [HW_2]; · iexact HW_2
  isplitl [HW_3]; · iexact HW_3
  isplitl [Hf_1_0_0]; · iexact Hf_1_0_0
  isplitl [Hf_1_1_0]; · iexact Hf_1_1_0
  isplitl [Hf_1_2_0]; · iexact Hf_1_2_0
  isplitl [Hp_1_1_L]; · iexact Hp_1_1_L
  isplitl [Hp_0_1_L]; · iexact Hp_0_1_L
  isplitl [Hp_2_1_L]; · iexact Hp_2_1_L
  isplitl [Hf_1_0_1]; · iexact Hf_1_0_1
  isplitl [Hf_1_1_1]; · iexact Hf_1_1_1
  isplitl [Hf_1_2_1]; · iexact Hf_1_2_1
  isplitl [Hp_1_2_L]; · iexact Hp_1_2_L
  isplitl [Hp_0_2_L]; · iexact Hp_0_2_L
  isplitl [Hp_2_2_L]; · iexact Hp_2_2_L
  isplitl [Hf_1_0_2]; · iexact Hf_1_0_2
  isplitl [Hp_0_3_Z]; · iexact Hp_0_3_Z
  isplitl [Hf_1_1_2]; · iexact Hf_1_1_2
  isplitl [Hp_1_3_Z]; · iexact Hp_1_3_Z
  isplitl [Hf_1_2_2]; · iexact Hf_1_2_2
  isplitl [Hp_2_3_Z]; · iexact Hp_2_3_Z
  isplitl [Hp_0_3_L]; · iexact Hp_0_3_L
  isplitl [Hp_1_3_L]; · iexact Hp_1_3_L
  isplitl [Hp_2_3_L]; · iexact Hp_2_3_L
  isplitl [Hf_3_0_0]; · iexact Hf_3_0_0
  isplitl [Hf_3_1_0]; · iexact Hf_3_1_0
  isplitl [Hf_3_2_0]; · iexact Hf_3_2_0
  isplitl [Ho_2_1]; · iexact Ho_2_1
  isplitl [Ho_0_1]; · iexact Ho_0_1
  isplitl [Ho_1_1]; · iexact Ho_1_1
  isplitl [Hf_3_0_1]; · iexact Hf_3_0_1
  isplitl [Hf_3_1_1]; · iexact Hf_3_1_1
  isplitl [Hf_3_2_1]; · iexact Hf_3_2_1
  isplitl [Ho_2_2]; · iexact Ho_2_2
  isplitl [Ho_0_2]; · iexact Ho_0_2
  isplitl [Ho_1_2]; · iexact Ho_1_2
  isplitl [Hf_3_0_2]; · iexact Hf_3_0_2
  isplitl [Hf_3_1_2]; · iexact Hf_3_1_2
  isplitl [Ho_1_3]; · iexact Ho_1_3
  isplitl [Hf_3_2_2]; · iexact Hf_3_2_2
  isplitl [Ho_0_3]; · iexact Ho_0_3
  isplitl [Ho_2_3]; · iexact Ho_2_3
  isplitl [HA_13]; · iexact HA_13
  isplitl [HA_12]; · iexact HA_12
  isplitl [HW_4]; · iexact HW_4
  isplitl [HW_5]; · iexact HW_5
  isplitl [Hf_0_0_0]; · iexact Hf_0_0_0
  isplitl [Hp_0_0_F]; · iexact Hp_0_0_F
  isplitl [Hf_0_1_0]; · iexact Hf_0_1_0
  isplitl [Hp_1_0_F]; · iexact Hp_1_0_F
  isplitl [Hf_0_2_0]; · iexact Hf_0_2_0
  isplitl [Hp_2_0_F]; · iexact Hp_2_0_F
  isplitl [Hf_2_0_0]; · iexact Hf_2_0_0
  isplitl [Hp_0_1_Y]; · iexact Hp_0_1_Y
  isplitl [Hf_2_1_0]; · iexact Hf_2_1_0
  isplitl [Hp_1_1_Y]; · iexact Hp_1_1_Y
  isplitl [Hf_2_2_0]; · iexact Hf_2_2_0
  isplitl [Hp_2_1_Y]; · iexact Hp_2_1_Y
  isplitl [Hf_0_0_1]; · iexact Hf_0_0_1
  isplitl [Hp_0_1_Z]; · iexact Hp_0_1_Z
  isplitl [Hf_0_1_1]; · iexact Hf_0_1_1
  isplitl [Hp_1_1_Z]; · iexact Hp_1_1_Z
  isplitl [Hf_0_2_1]; · iexact Hf_0_2_1
  isplitl [Hp_2_1_Z]; · iexact Hp_2_1_Z
  isplitl [Hf_2_0_1]; · iexact Hf_2_0_1
  isplitl [Hp_0_2_Y]; · iexact Hp_0_2_Y
  isplitl [Hf_2_1_1]; · iexact Hf_2_1_1
  isplitl [Hp_1_2_Y]; · iexact Hp_1_2_Y
  isplitl [HO]; · iexact HO
  isplitl [Hf_2_2_1]; · iexact Hf_2_2_1
  isplitl [Hp_2_2_Y]; · iexact Hp_2_2_Y
  isplitl [Hf_0_0_2]; · iexact Hf_0_0_2
  isplitl [Hp_0_2_Z]; · iexact Hp_0_2_Z
  isplitl [Hf_0_1_2]; · iexact Hf_0_1_2
  isplitl [Hp_1_2_Z]; · iexact Hp_1_2_Z
  isplitl [Hf_0_2_2]; · iexact Hf_0_2_2
  isplitl [Hp_2_2_Z]; · iexact Hp_2_2_Z
  isplitl [Hf_2_0_2]; · iexact Hf_2_0_2
  isplitl [Hp_0_3_Y]; · iexact Hp_0_3_Y
  isplitl [Hf_2_1_2]; · iexact Hf_2_1_2
  isplitl [Hp_1_3_Y]; · iexact Hp_1_3_Y
  isplitl [Hf_2_2_2]; · iexact Hf_2_2_2
  iexact Hp_2_3_Y

end KProof
-- ==== Proof.Open.lean ====
module

public import proofs.«01_k».proof.Proof.Body

/-! What a device holds when the gather starts, put in order; and the cells opened and closed. -/

@[expose] public section

set_option maxRecDepth 16384

noncomputable section

namespace KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

variable (I : Ins F) (κ : GSem nD τ sig → ℕ) (c : Dev nD)

abbrev KK : Type := Fin 4 × Fin 3 × Fin 3
abbrev TH : Type := Fin 3 × Fin 3

theorem pairs (Φ : TH → sProp 𝕄) : bigSep Finset.univ Φ = iprop(Φ (0, 0) ∗ Φ (1, 0) ∗ Φ (2, 0) ∗ Φ (0, 1) ∗ Φ (1, 1) ∗ Φ (2, 1) ∗ Φ (0, 2) ∗ Φ (1, 2) ∗ Φ (2, 2)) :=
  bigSep_univ_eq_bigSepL [(0, 0), (1, 0), (2, 0), (0, 1), (1, 1), (2, 1), (0, 2), (1, 2), (2, 2)] (by decide) (by decide) Φ
theorem kinds (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The gather's own semaphores. -/
abbrev osem0 (p : KK) : SemLoc sig := .dma (qn p.1 p.2.1 p.2.2)
abbrev cellK (p : KK) : GSem nD τ sig := qCell c p.1 p.2.1 p.2.2

/-- The rights to pay that a device uses. -/
def toks : sProp 𝕄 :=
  iprop((dutyTok ER (barCell (lft c)) 0 (0 : D) ∗ dutyTok ER (barCell (rgt c)) 0 (1 : D) ∗ dutyTok ER (barCell (par c)) 0 (2 : D))
    ∗ (bigSep Finset.univ fun p : TH => dutyTok ER (qCell c 0 p.1 p.2) 0 (0 : D))
    ∗ (bigSep Finset.univ fun p : TH => dutyTok ER (qCell (rgt c) 1 p.1 p.2) 0 (0 : D))
    ∗ (bigSep Finset.univ fun p : TH => dutyTok ER (qCell c 2 p.1 p.2) 0 (0 : D))
    ∗ (bigSep Finset.univ fun p : TH => dutyTok ER (qCell (par c) 3 p.1 p.2) 0 (0 : D)))
/-- What it may wait for. -/
def creds : sProp 𝕄 :=
  iprop(cred (tallyAt (barCell c) () 3)
    ∗ (bigSep Finset.univ fun p : TH => cred (tallyAt (qCell c 1 p.1 p.2) () N))
    ∗ (bigSep Finset.univ fun p : TH => cred (tallyAt (qCell c 3 p.1 p.2) () N)))

/-- What the launch keeps for the gather on device c. -/
def Tk : sProp 𝕄 :=
  iprop(∃ κ, invAll I κ ∗ reachedBar (F := F) ∗ atPos ER (barCell c) 0 ∅ 0 ∗ (bigSep Finset.univ fun p : KK => openTok ER (cellK c p)) ∗ toks (F := F) c ∗ creds (F := F) c)
/-- The same with the cells open. -/
def Xk : sProp 𝕄 :=
  iprop(∃ κ, Ctx I κ ∗ atPos ER (barCell c) 0 ∅ 0 ∗ (bigSep Finset.univ fun p : KK => iprop(atPos ER (cellK c p) 0 ∅ 0 ∗ reached ER (cellK c p) 0)) ∗ toks (F := F) c ∗ creds (F := F) c)

theorem open_one (p : KK) : iprop(Ctx I κ ∗ (openTok ER (cellK c p) ∗ semVal (cellK c p) 0))
    ⊢ iprop(|={Set.univ}=> (atPos ER (cellK c p) 0 ∅ 0 ∗ reached ER (cellK c p) 0) : sProp 𝕄) := by
  iintro ⟨#HC, Ho, Hs⟩
  iapply (Rounds.cell_open ER (gatherRd I) (κ := κ (cellK c p)) (g := cellK c p) (Set.mem_univ _))
  isplitr; · iapply (Ctx_q I κ c p.1 p.2.1 p.2.2); iexact HC
  isplitl [Ho]; · iexact Ho
  iexact Hs

theorem close_one (p : KK) : iprop(Ctx I κ ∗ fin (F := F) c p.1 p.2.1 p.2.2)
    ⊢ iprop(|={Set.univ}=> semVal (cellK c p) 0 : sProp 𝕄) := by
  iintro ⟨#HC, Ha⟩
  unfold fin
  iapply (Rounds.cell_close ER (gatherRd I) (κ := κ (cellK c p)) (g := cellK c p) (Set.mem_univ _) id (R := 0 + 1) (duties_later I _))
  isplitr; · iapply (Ctx_q I κ c p.1 p.2.1 p.2.2); iexact HC
  iexact Ha
theorem close_bar : iprop(Ctx I κ ∗ atPos ER (barCell c) (0 + 1) ∅ 0)
    ⊢ iprop(|={Set.univ}=> semVal (barCell c) 0 : sProp 𝕄) := by
  iintro ⟨#HC, Ha⟩
  iapply (Rounds.cell_close ER (gatherRd I) (κ := κ (barCell c)) (g := barCell c) (Set.mem_univ _) id (R := 0 + 1) (duties_later I _))
  isplitr
  · ihave Hb := (Ctx_bar I κ c) $$ HC
    icases Hb with ⟨#HI, -⟩
    iexact HI
  iexact Ha

theorem close_all : iprop(Ctx I κ ∗ bigSep Finset.univ fun p : KK => fin (F := F) c p.1 p.2.1 p.2.2)
    ⊢ iprop(|={Set.univ}=> Pipeline.ownSems0 osem0 c : sProp 𝕄) :=
  (bigSep_with_persistent (R := Ctx I κ) (Ψ := fun p : KK => iprop(|={Set.univ}=> semVal (cellK c p) 0)) fun p _ => close_one I κ c p).trans (bigSep_fupd _ _)

theorem open_all : iprop(Ctx I κ ∗ (bigSep Finset.univ fun p : KK => openTok ER (cellK c p)) ∗ Pipeline.ownSems0 osem0 c)
    ⊢ iprop(|={Set.univ}=> bigSep Finset.univ fun p : KK => iprop(atPos ER (cellK c p) 0 ∅ 0 ∗ reached ER (cellK c p) 0) : sProp 𝕄) := by
  have h1 : iprop(Ctx I κ ∗ bigSep Finset.univ fun p : KK => iprop(openTok ER (cellK c p) ∗ semVal (cellK c p) 0))
      ⊢ iprop(|={Set.univ}=> bigSep Finset.univ fun p : KK => iprop(atPos ER (cellK c p) 0 ∅ 0 ∗ reached ER (cellK c p) 0) : sProp 𝕄) :=
    (bigSep_with_persistent (R := Ctx I κ) (Ψ := fun p : KK => iprop(|={Set.univ}=> (atPos ER (cellK c p) 0 ∅ 0 ∗ reached ER (cellK c p) 0))) fun p _ => open_one I κ c p).trans (bigSep_fupd _ _)
  refine Entails.trans (sep_mono_right ?_) h1
  unfold Pipeline.ownSems0
  exact Entails.of_eq (bigSep_sep' Finset.univ (fun p : KK => openTok ER (cellK c p)) (fun p : KK => semVal (cellK c p) 0)).symm

theorem Ctx_make : iprop(invAll I κ ∗ reachedBar (F := F) ∗ levAts L lv) ⊢ Ctx I κ := by unfold Ctx; exact .rfl

theorem hopen0 : iprop(Tk I c ∗ Pipeline.ownSems0 osem0 c ∗ levAts L lv) ⊢ iprop(|={Set.univ}=> Xk I c : sProp 𝕄) := by
  unfold Tk Xk
  iintro ⟨⟨%κ, #HI, #HR, Ha, Ho, Ht, Hc⟩, Hs, #HL⟩
  ihave #HC := (Ctx_make I κ) $$ []
  · isplitr; · iexact HI
    isplitr; · iexact HR
    iexact HL
  imod (open_all I κ c) $$ [Ho Hs] with Hx
  · isplitr; · iexact HC
    isplitl [Ho]; · iexact Ho
    iexact Hs
  imodintro
  iexists κ
  isplitr; · iexact HC
  isplitl [Ha]; · iexact Ha
  isplitl [Hx]; · iexact Hx
  isplitl [Ht]; · iexact Ht
  iexact Hc

theorem byKind (Φ : KK → sProp 𝕄) : bigSep Finset.univ Φ
    = iprop((bigSep Finset.univ fun p : TH => Φ (0, p)) ∗ (bigSep Finset.univ fun p : TH => Φ (1, p)) ∗ (bigSep Finset.univ fun p : TH => Φ (2, p)) ∗ (bigSep Finset.univ fun p : TH => Φ (3, p))) := by
  rw [bigSep_univ_prod, kinds]

theorem pairsep (Φ Ψ : TH → sProp 𝕄) : (bigSep Finset.univ fun p => iprop(Φ p ∗ Ψ p)) = iprop(bigSep Finset.univ Φ ∗ bigSep Finset.univ Ψ) := bigSep_sep' _ Φ Ψ

/-- Sorted by what uses it. -/
theorem sorted : iprop((bigSep Finset.univ fun p : KK => iprop(atPos ER (cellK c p) 0 ∅ 0 ∗ reached ER (cellK c p) 0)) ∗ toks (F := F) c ∗ creds (F := F) c)
    ⊢ iprop((dutyTok ER (barCell (lft c)) 0 (0 : D) ∗ dutyTok ER (barCell (rgt c)) 0 (1 : D) ∗ dutyTok ER (barCell (par c)) 0 (2 : D)) ∗ cred (tallyAt (barCell c) () 3)
      ∗ reachedAll (F := F) c 1 ∗ reachedAll (F := F) c 3
      ∗ (bigSep Finset.univ fun p : TH => tokZ (F := F) c p.1 p.2) ∗ (bigSep Finset.univ fun p : TH => tokY (F := F) c p.1 p.2)
      ∗ (bigSep Finset.univ fun p : TH => pend (F := F) c 1 p.1 p.2) ∗ (bigSep Finset.univ fun p : TH => pend (F := F) c 3 p.1 p.2)) := by
  unfold toks creds reachedAll
  rw [byKind (F := F)]
  have hZ : iprop((bigSep Finset.univ fun p : TH => dutyTok ER (qCell c 0 p.1 p.2) 0 (0 : D)) ∗ (bigSep Finset.univ fun p : TH => reached ER (qCell c 0 p.1 p.2) 0)
      ∗ (bigSep Finset.univ fun p : TH => dutyTok ER (qCell (rgt c) 1 p.1 p.2) 0 (0 : D)) ∗ (bigSep Finset.univ fun p : TH => atPos ER (qCell c 0 p.1 p.2) 0 ∅ 0))
      ⊢ (bigSep Finset.univ fun p : TH => tokZ (F := F) c p.1 p.2) := by
    rw [← pairsep (F := F), ← pairsep (F := F), ← pairsep (F := F)]
    exact bigSep_mono fun p _ => by unfold tokZ; exact fun _ h => h
  have hY : iprop((bigSep Finset.univ fun p : TH => dutyTok ER (qCell c 2 p.1 p.2) 0 (0 : D)) ∗ (bigSep Finset.univ fun p : TH => reached ER (qCell c 2 p.1 p.2) 0)
      ∗ (bigSep Finset.univ fun p : TH => dutyTok ER (qCell (par c) 3 p.1 p.2) 0 (0 : D)) ∗ (bigSep Finset.univ fun p : TH => atPos ER (qCell c 2 p.1 p.2) 0 ∅ 0))
      ⊢ (bigSep Finset.univ fun p : TH => tokY (F := F) c p.1 p.2) := by
    rw [← pairsep (F := F), ← pairsep (F := F), ← pairsep (F := F)]
    exact bigSep_mono fun p _ => by unfold tokY; exact fun _ h => h
  have hP : ∀ k : Fin 4, iprop((bigSep Finset.univ fun p : TH => cred (tallyAt (qCell c k p.1 p.2) () N)) ∗ (bigSep Finset.univ fun p : TH => atPos ER (qCell c k p.1 p.2) 0 ∅ 0))
      ⊢ (bigSep Finset.univ fun p : TH => pend (F := F) c k p.1 p.2) := by
    intro k
    rw [← pairsep (F := F)]
    exact bigSep_mono fun p _ => by unfold pend; exact fun _ h => h
  rw [pairsep (F := F), pairsep (F := F), pairsep (F := F), pairsep (F := F)]
  iintro ⟨⟨⟨A0, R0⟩, ⟨A1, R1⟩, ⟨A2, R2⟩, ⟨A3, R3⟩⟩, ⟨HB, T0, T1, T2, T3⟩, ⟨HC, C1, C3⟩⟩
  isplitl [HB]; · iexact HB
  isplitl [HC]; · iexact HC
  isplitl [R1]; · iexact R1
  isplitl [R3]; · iexact R3
  isplitl [T0 R0 T1 A0]
  · iapply hZ
    isplitl [T0]; · iexact T0
    isplitl [R0]; · iexact R0
    isplitl [T1]; · iexact T1
    iexact A0
  isplitl [T2 R2 T3 A2]
  · iapply hY
    isplitl [T2]; · iexact T2
    isplitl [R2]; · iexact R2
    isplitl [T3]; · iexact T3
    iexact A2
  isplitl [C1 A1]
  · iapply (hP 1)
    isplitl [C1]; · iexact C1
    iexact A1
  iapply (hP 3)
  isplitl [C3]; · iexact C3
  iexact A3

/-! ## Buffers and their blocks -/

section Blocks
variable {ℓ : Loc nD τ sig} {S0 S1 S2 S3 : Finset (Idx ℓ)}

theorem cut4 (h0 : Disjoint S0 (S1 ∪ (S2 ∪ S3))) (h1 : Disjoint S1 (S2 ∪ S3)) (h2 : Disjoint S2 S3) (hu : S0 ∪ (S1 ∪ (S2 ∪ S3)) = Finset.univ) (f : Buf (Elt F) ℓ) :
    (ℓ ↦{fullShare} f : sProp 𝕄) ⊢ iprop((ℓ ↦[S0]{fullShare} f) ∗ (ℓ ↦[S1]{fullShare} f) ∗ (ℓ ↦[S2]{fullShare} f) ∗ (ℓ ↦[S3]{fullShare} f)) := by
  rw [← hu]
  exact (pointsTo_union h0).1.trans (sep_mono_right ((pointsTo_union h1).1.trans (sep_mono_right (pointsTo_union h2).1)))
theorem glue4 (h0 : Disjoint S0 (S1 ∪ (S2 ∪ S3))) (h1 : Disjoint S1 (S2 ∪ S3)) (h2 : Disjoint S2 S3) (hu : S0 ∪ (S1 ∪ (S2 ∪ S3)) = Finset.univ) (f0 f1 f2 f3 : Buf (Elt F) ℓ) :
    iprop((ℓ ↦[S0]{fullShare} f0) ∗ (ℓ ↦[S1]{fullShare} f1) ∗ (ℓ ↦[S2]{fullShare} f2) ∗ (ℓ ↦[S3]{fullShare} f3)) ⊢ (iprop(∃ f : Buf (Elt F) ℓ, ℓ ↦{fullShare} f) : sProp 𝕄) := by
  refine (sep_mono_right (sep_mono_right (pointsTo_join h2))).trans ((sep_mono_right (pointsTo_join h1)).trans ((pointsTo_join h0).trans ?_))
  rw [hu]
  iintro H; iexists _; iexact H
end Blocks

theorem dj0 {a b : ℕ} : Disjoint (slotSet a b 0) (slotSet a b 1 ∪ (slotSet a b 2 ∪ slotSet a b 3)) := by
  rw [Finset.disjoint_union_right, Finset.disjoint_union_right]
  exact ⟨slotSet_disjoint (by decide), slotSet_disjoint (by decide), slotSet_disjoint (by decide)⟩
theorem dj1 {a b : ℕ} : Disjoint (slotSet a b 1) (slotSet a b 2 ∪ slotSet a b 3) := by
  rw [Finset.disjoint_union_right]
  exact ⟨slotSet_disjoint (by decide), slotSet_disjoint (by decide)⟩
theorem dj2 {a b : ℕ} : Disjoint (slotSet a b 2) (slotSet a b 3) := slotSet_disjoint (by decide)

theorem own_cut0 : iprop(∃ f : Buf (Elt F) ((c : Thread nD τ).loc cc0_scratch0), ((c : Thread nD τ).loc cc0_scratch0) ↦{fullShare} f)
    ⊢ iprop(ownAny (F := F) c 0 0 ∗ ownAny (F := F) c 0 1 ∗ ownAny (F := F) c 0 2 ∗ ownAny (F := F) c 0 3) := by
  iintro ⟨%f, H⟩
  ihave H := (cut4 (F := F) dj0 dj1 dj2 slotSet_all f) $$ H
  icases H with ⟨H0, H1, H2, H3⟩
  unfold ownAny
  isplitl [H0]; · iexists f; iexact H0
  isplitl [H1]; · iexists f; iexact H1
  isplitl [H2]; · iexists f; iexact H2
  iexists f; iexact H3
theorem own_glue0 : iprop(ownAny (F := F) c 0 0 ∗ ownAny (F := F) c 0 1 ∗ ownAny (F := F) c 0 2 ∗ ownAny (F := F) c 0 3)
    ⊢ iprop(∃ f : Buf (Elt F) ((c : Thread nD τ).loc cc0_scratch0), ((c : Thread nD τ).loc cc0_scratch0) ↦{fullShare} f) := by
  unfold ownAny
  iintro ⟨⟨%f0, H0⟩, ⟨%f1, H1⟩, ⟨%f2, H2⟩, ⟨%f3, H3⟩⟩
  iapply (glue4 (F := F) dj0 dj1 dj2 slotSet_all f0 f1 f2 f3)
  isplitl [H0]; · iexact H0
  isplitl [H1]; · iexact H1
  isplitl [H2]; · iexact H2
  iexact H3
theorem own_cut1 : iprop(∃ f : Buf (Elt F) ((c : Thread nD τ).loc cc0_scratch1), ((c : Thread nD τ).loc cc0_scratch1) ↦{fullShare} f)
    ⊢ iprop(ownAny (F := F) c 1 0 ∗ ownAny (F := F) c 1 1 ∗ ownAny (F := F) c 1 2 ∗ ownAny (F := F) c 1 3) := by
  iintro ⟨%f, H⟩
  ihave H := (cut4 (F := F) dj0 dj1 dj2 slotSet_all f) $$ H
  icases H with ⟨H0, H1, H2, H3⟩
  unfold ownAny
  isplitl [H0]; · iexists f; iexact H0
  isplitl [H1]; · iexists f; iexact H1
  isplitl [H2]; · iexists f; iexact H2
  iexists f; iexact H3
theorem own_glue1 : iprop(ownAny (F := F) c 1 0 ∗ ownAny (F := F) c 1 1 ∗ ownAny (F := F) c 1 2 ∗ ownAny (F := F) c 1 3)
    ⊢ iprop(∃ f : Buf (Elt F) ((c : Thread nD τ).loc cc0_scratch1), ((c : Thread nD τ).loc cc0_scratch1) ↦{fullShare} f) := by
  unfold ownAny
  iintro ⟨⟨%f0, H0⟩, ⟨%f1, H1⟩, ⟨%f2, H2⟩, ⟨%f3, H3⟩⟩
  iapply (glue4 (F := F) dj0 dj1 dj2 slotSet_all f0 f1 f2 f3)
  isplitl [H0]; · iexact H0
  isplitl [H1]; · iexact H1
  isplitl [H2]; · iexact H2
  iexact H3
theorem own_cut2 : iprop(∃ f : Buf (Elt F) ((c : Thread nD τ).loc cc0_scratch2), ((c : Thread nD τ).loc cc0_scratch2) ↦{fullShare} f)
    ⊢ iprop(ownAny (F := F) c 2 0 ∗ ownAny (F := F) c 2 1 ∗ ownAny (F := F) c 2 2 ∗ ownAny (F := F) c 2 3) := by
  iintro ⟨%f, H⟩
  ihave H := (cut4 (F := F) dj0 dj1 dj2 slotSet_all f) $$ H
  icases H with ⟨H0, H1, H2, H3⟩
  unfold ownAny
  isplitl [H0]; · iexists f; iexact H0
  isplitl [H1]; · iexists f; iexact H1
  isplitl [H2]; · iexists f; iexact H2
  iexists f; iexact H3
theorem own_glue2 : iprop(ownAny (F := F) c 2 0 ∗ ownAny (F := F) c 2 1 ∗ ownAny (F := F) c 2 2 ∗ ownAny (F := F) c 2 3)
    ⊢ iprop(∃ f : Buf (Elt F) ((c : Thread nD τ).loc cc0_scratch2), ((c : Thread nD τ).loc cc0_scratch2) ↦{fullShare} f) := by
  unfold ownAny
  iintro ⟨⟨%f0, H0⟩, ⟨%f1, H1⟩, ⟨%f2, H2⟩, ⟨%f3, H3⟩⟩
  iapply (glue4 (F := F) dj0 dj1 dj2 slotSet_all f0 f1 f2 f3)
  isplitl [H0]; · iexact H0
  isplitl [H1]; · iexact H1
  isplitl [H2]; · iexact H2
  iexact H3
theorem oth_cut0 : iprop(∃ f : Buf (Elt F) ((c : Thread nD τ).loc cc0_scratch3), ((c : Thread nD τ).loc cc0_scratch3) ↦{fullShare} f)
    ⊢ iprop(othAny (F := F) c 0 0 ∗ othAny (F := F) c 0 1 ∗ othAny (F := F) c 0 2 ∗ othAny (F := F) c 0 3) := by
  iintro ⟨%f, H⟩
  ihave H := (cut4 (F := F) dj0 dj1 dj2 slotSet_all f) $$ H
  icases H with ⟨H0, H1, H2, H3⟩
  unfold othAny
  isplitl [H0]; · iexists f; iexact H0
  isplitl [H1]; · iexists f; iexact H1
  isplitl [H2]; · iexists f; iexact H2
  iexists f; iexact H3
theorem oth_glue0 : iprop(othAny (F := F) c 0 0 ∗ othAny (F := F) c 0 1 ∗ othAny (F := F) c 0 2 ∗ othAny (F := F) c 0 3)
    ⊢ iprop(∃ f : Buf (Elt F) ((c : Thread nD τ).loc cc0_scratch3), ((c : Thread nD τ).loc cc0_scratch3) ↦{fullShare} f) := by
  unfold othAny
  iintro ⟨⟨%f0, H0⟩, ⟨%f1, H1⟩, ⟨%f2, H2⟩, ⟨%f3, H3⟩⟩
  iapply (glue4 (F := F) dj0 dj1 dj2 slotSet_all f0 f1 f2 f3)
  isplitl [H0]; · iexact H0
  isplitl [H1]; · iexact H1
  isplitl [H2]; · iexact H2
  iexact H3
theorem oth_cut1 : iprop(∃ f : Buf (Elt F) ((c : Thread nD τ).loc cc0_scratch4), ((c : Thread nD τ).loc cc0_scratch4) ↦{fullShare} f)
    ⊢ iprop(othAny (F := F) c 1 0 ∗ othAny (F := F) c 1 1 ∗ othAny (F := F) c 1 2 ∗ othAny (F := F) c 1 3) := by
  iintro ⟨%f, H⟩
  ihave H := (cut4 (F := F) dj0 dj1 dj2 slotSet_all f) $$ H
  icases H with ⟨H0, H1, H2, H3⟩
  unfold othAny
  isplitl [H0]; · iexists f; iexact H0
  isplitl [H1]; · iexists f; iexact H1
  isplitl [H2]; · iexists f; iexact H2
  iexists f; iexact H3
theorem oth_glue1 : iprop(othAny (F := F) c 1 0 ∗ othAny (F := F) c 1 1 ∗ othAny (F := F) c 1 2 ∗ othAny (F := F) c 1 3)
    ⊢ iprop(∃ f : Buf (Elt F) ((c : Thread nD τ).loc cc0_scratch4), ((c : Thread nD τ).loc cc0_scratch4) ↦{fullShare} f) := by
  unfold othAny
  iintro ⟨⟨%f0, H0⟩, ⟨%f1, H1⟩, ⟨%f2, H2⟩, ⟨%f3, H3⟩⟩
  iapply (glue4 (F := F) dj0 dj1 dj2 slotSet_all f0 f1 f2 f3)
  isplitl [H0]; · iexact H0
  isplitl [H1]; · iexact H1
  isplitl [H2]; · iexact H2
  iexact H3
theorem oth_cut2 : iprop(∃ f : Buf (Elt F) ((c : Thread nD τ).loc cc0_scratch5), ((c : Thread nD τ).loc cc0_scratch5) ↦{fullShare} f)
    ⊢ iprop(othAny (F := F) c 2 0 ∗ othAny (F := F) c 2 1 ∗ othAny (F := F) c 2 2 ∗ othAny (F := F) c 2 3) := by
  iintro ⟨%f, H⟩
  ihave H := (cut4 (F := F) dj0 dj1 dj2 slotSet_all f) $$ H
  icases H with ⟨H0, H1, H2, H3⟩
  unfold othAny
  isplitl [H0]; · iexists f; iexact H0
  isplitl [H1]; · iexists f; iexact H1
  isplitl [H2]; · iexists f; iexact H2
  iexists f; iexact H3
theorem oth_glue2 : iprop(othAny (F := F) c 2 0 ∗ othAny (F := F) c 2 1 ∗ othAny (F := F) c 2 2 ∗ othAny (F := F) c 2 3)
    ⊢ iprop(∃ f : Buf (Elt F) ((c : Thread nD τ).loc cc0_scratch5), ((c : Thread nD τ).loc cc0_scratch5) ↦{fullShare} f) := by
  unfold othAny
  iintro ⟨⟨%f0, H0⟩, ⟨%f1, H1⟩, ⟨%f2, H2⟩, ⟨%f3, H3⟩⟩
  iapply (glue4 (F := F) dj0 dj1 dj2 slotSet_all f0 f1 f2 f3)
  isplitl [H0]; · iexact H0
  isplitl [H1]; · iexact H1
  isplitl [H2]; · iexact H2
  iexact H3

theorem ownP_any (t : Fin 3) (h : ℕ) : ownP I c t h fullShare ⊢ ownAny (F := F) c t h := by
  match t with
  | 0 => unfold ownP ownAny; iintro H; iexists _; iexact H
  | 1 => unfold ownP ownAny; iintro H; iexists _; iexact H
  | 2 => unfold ownP ownAny; iintro H; iexists _; iexact H
theorem othP_any (t : Fin 3) (h : ℕ) : othP I c t h fullShare ⊢ othAny (F := F) c t h := by
  match t with
  | 0 => unfold othP othAny; iintro H; iexists _; iexact H
  | 1 => unfold othP othAny; iintro H; iexists _; iexact H
  | 2 => unfold othP othAny; iintro H; iexists _; iexact H

end KProof
-- ==== Proof.Point0.lean ====
module

public import proofs.«01_k».proof.Proof.Open

/-! The gather on one device, from what its call starts with to what it ends with. -/

@[expose] public section

set_option maxRecDepth 16384

noncomputable section

namespace KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig Unit (Elt F) ℕ UU ℕ

variable (I : Ins F) (κ : GSem nD τ sig → ℕ) (c : Dev nD)

theorem barPay_lft : iprop(reachedAll (F := F) c 1 ∗ ownAny (F := F) c 0 1 ∗ ownAny (F := F) c 1 1 ∗ ownAny (F := F) c 2 1 ∗ ownAny (F := F) c 0 2 ∗ ownAny (F := F) c 1 2 ∗ ownAny (F := F) c 2 2 ∗ ownAny (F := F) c 0 3 ∗ ownAny (F := F) c 1 3 ∗ ownAny (F := F) c 2 3) ⊢ barPay (F := F) (lft c) 0 := by
  unfold barPay; simp only [rgt_lft]; iintro H; iexact H
theorem barPay_par : iprop(reachedAll (F := F) c 3 ∗ othAny (F := F) c 0 1 ∗ othAny (F := F) c 1 1 ∗ othAny (F := F) c 2 1 ∗ othAny (F := F) c 0 2 ∗ othAny (F := F) c 1 2 ∗ othAny (F := F) c 2 2 ∗ othAny (F := F) c 0 3 ∗ othAny (F := F) c 1 3 ∗ othAny (F := F) c 2 3) ⊢ barPay (F := F) (par c) 2 := by
  unfold barPay; simp only [par_par]; iintro H; iexact H
theorem fins : iprop((fin (F := F) c 0 0 0 ∗ fin (F := F) c 0 1 0 ∗ fin (F := F) c 0 2 0 ∗ fin (F := F) c 0 0 1 ∗ fin (F := F) c 0 1 1 ∗ fin (F := F) c 0 2 1 ∗ fin (F := F) c 0 0 2 ∗ fin (F := F) c 0 1 2 ∗ fin (F := F) c 0 2 2) ∗ (fin (F := F) c 1 0 0 ∗ fin (F := F) c 1 1 0 ∗ fin (F := F) c 1 2 0 ∗ fin (F := F) c 1 0 1 ∗ fin (F := F) c 1 1 1 ∗ fin (F := F) c 1 2 1 ∗ fin (F := F) c 1 0 2 ∗ fin (F := F) c 1 1 2 ∗ fin (F := F) c 1 2 2) ∗ (fin (F := F) c 2 0 0 ∗ fin (F := F) c 2 1 0 ∗ fin (F := F) c 2 2 0 ∗ fin (F := F) c 2 0 1 ∗ fin (F := F) c 2 1 1 ∗ fin (F := F) c 2 2 1 ∗ fin (F := F) c 2 0 2 ∗ fin (F := F) c 2 1 2 ∗ fin (F := F) c 2 2 2) ∗ (fin (F := F) c 3 0 0 ∗ fin (F := F) c 3 1 0 ∗ fin (F := F) c 3 2 0 ∗ fin (F := F) c 3 0 1 ∗ fin (F := F) c 3 1 1 ∗ fin (F := F) c 3 2 1 ∗ fin (F := F) c 3 0 2 ∗ fin (F := F) c 3 1 2 ∗ fin (F := F) c 3 2 2)) ⊢ (bigSep Finset.univ fun p : KK => fin (F := F) c p.1 p.2.1 p.2.2) := by
  rw [byKind (F := F), pairs (F := F), pairs (F := F), pairs (F := F), pairs (F := F)]
theorem ownP_join_any (t : Fin 3) (h : ℕ) : iprop(ownP I c t h qZ ∗ ownP I c t h qY ∗ ownP I c t h qL) ⊢ ownAny (F := F) c t h :=
  (ownP_join I c t h).trans (ownP_any I c t h)

set_option maxHeartbeats 8000000 in
theorem gather_point (Q : PUnit → sProp 𝕄) (f4 f5 : Vec F S1024x2048 .bf16) :
    iprop(Pipeline.scopedRest (Ix := Unit) (Val := Elt F) (Name := ℕ) (U := UU) (Lvl := ℕ) spec0 c ∗ Xk I c ∗ owesE c (Ow c 0) ∗ pt c cc0_stg0_0 (I.x c) ∗ pt c cc0_stg1_0 (I.wd c) ∗ pt c cc0_stg2_0 (I.wk c) ∗ pt c cc0_stg3_0 (I.wv c) ∗ pt c cc0_stg4_0 f4 ∗ pt c cc0_stg5_0 f5)
      ⊢ iprop(((Pipeline.scopedRest (Ix := Unit) (Val := Elt F) (Name := ℕ) (U := UU) (Lvl := ℕ) spec0 c ∗ semVal (barCell c) 0 ∗ Pipeline.ownSems0 osem0 c ∗ owesE c (Ow c 21) ∗ pt c cc0_stg0_0 (I.x c) ∗ pt c cc0_stg1_0 (I.wd c) ∗ pt c cc0_stg2_0 (I.wk c) ∗ pt c cc0_stg3_0 (I.wv c) ∗ pt c cc0_stg4_0 (outK I c) ∗ pt c cc0_stg5_0 (outV I c)) -∗ Q ⟨⟩)
        -∗ wpc c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11) Q) := by
  unfold Xk
  rw [scopedRest0_eq]
  iintro ⟨⟨HS0, HS1, HS2, HS3, HS4, HS5, ⟨%fA, HA_12⟩, ⟨%fB, HA_13⟩, HX⟩, ⟨%κ, #HC, HBA, Hq, Ht, Hc⟩, HO, HW_0, HW_1, HW_2, HW_3, HW_4, HW_5⟩ Hk
  ihave Hs := (sorted (F := F) c) $$ [Hq Ht Hc]
  · isplitl [Hq]; · iexact Hq
    isplitl [Ht]; · iexact Ht
    iexact Hc
  icases Hs with ⟨⟨HT_0, HT_1, HT_2⟩, HBC, #HR1, #HR3, HTZ, HTY, HP1, HP3⟩
  ihave HTZ := (Entails.of_eq (pairs (F := F) fun p : TH => tokZ (F := F) c p.1 p.2)) $$ HTZ
  icases HTZ with ⟨Htz_0_0, Htz_1_0, Htz_2_0, Htz_0_1, Htz_1_1, Htz_2_1, Htz_0_2, Htz_1_2, Htz_2_2⟩
  ihave HTY := (Entails.of_eq (pairs (F := F) fun p : TH => tokY (F := F) c p.1 p.2)) $$ HTY
  icases HTY with ⟨Hty_0_0, Hty_1_0, Hty_2_0, Hty_0_1, Hty_1_1, Hty_2_1, Hty_0_2, Hty_1_2, Hty_2_2⟩
  ihave HP1 := (Entails.of_eq (pairs (F := F) fun p : TH => pend (F := F) c 1 p.1 p.2)) $$ HP1
  icases HP1 with ⟨Hw_1_0_0, Hw_1_1_0, Hw_1_2_0, Hw_1_0_1, Hw_1_1_1, Hw_1_2_1, Hw_1_0_2, Hw_1_1_2, Hw_1_2_2⟩
  ihave HP3 := (Entails.of_eq (pairs (F := F) fun p : TH => pend (F := F) c 3 p.1 p.2)) $$ HP3
  icases HP3 with ⟨Hw_3_0_0, Hw_3_1_0, Hw_3_2_0, Hw_3_0_1, Hw_3_1_1, Hw_3_2_1, Hw_3_0_2, Hw_3_1_2, Hw_3_2_2⟩
  ihave HS0 := (own_cut0 (F := F) c) $$ HS0
  icases HS0 with ⟨Ha_0, Hn_0_1, Hn_0_2, Hn_0_3⟩
  ihave HS1 := (own_cut1 (F := F) c) $$ HS1
  icases HS1 with ⟨Ha_1, Hn_1_1, Hn_1_2, Hn_1_3⟩
  ihave HS2 := (own_cut2 (F := F) c) $$ HS2
  icases HS2 with ⟨Ha_2, Hn_2_1, Hn_2_2, Hn_2_3⟩
  ihave HS3 := (oth_cut0 (F := F) c) $$ HS3
  icases HS3 with ⟨Hb_0, Hm_0_1, Hm_0_2, Hm_0_3⟩
  ihave HS4 := (oth_cut1 (F := F) c) $$ HS4
  icases HS4 with ⟨Hb_1, Hm_1_1, Hm_1_2, Hm_1_3⟩
  ihave HS5 := (oth_cut2 (F := F) c) $$ HS5
  icases HS5 with ⟨Hb_2, Hm_2_1, Hm_2_2, Hm_2_3⟩
  ihave HP_0 := (barPay_lft (F := F) c) $$ [Hn_0_1 Hn_1_1 Hn_2_1 Hn_0_2 Hn_1_2 Hn_2_2 Hn_0_3 Hn_1_3 Hn_2_3]
  · isplitr; · iexact HR1
    isplitl [Hn_0_1]; · iexact Hn_0_1
    isplitl [Hn_1_1]; · iexact Hn_1_1
    isplitl [Hn_2_1]; · iexact Hn_2_1
    isplitl [Hn_0_2]; · iexact Hn_0_2
    isplitl [Hn_1_2]; · iexact Hn_1_2
    isplitl [Hn_2_2]; · iexact Hn_2_2
    isplitl [Hn_0_3]; · iexact Hn_0_3
    isplitl [Hn_1_3]; · iexact Hn_1_3
    iexact Hn_2_3
  ihave HP_2 := (barPay_par (F := F) c) $$ [Hm_0_1 Hm_1_1 Hm_2_1 Hm_0_2 Hm_1_2 Hm_2_2 Hm_0_3 Hm_1_3 Hm_2_3]
  · isplitr; · iexact HR3
    isplitl [Hm_0_1]; · iexact Hm_0_1
    isplitl [Hm_1_1]; · iexact Hm_1_1
    isplitl [Hm_2_1]; · iexact Hm_2_1
    isplitl [Hm_0_2]; · iexact Hm_0_2
    isplitl [Hm_1_2]; · iexact Hm_1_2
    isplitl [Hm_2_2]; · iexact Hm_2_2
    isplitl [Hm_0_3]; · iexact Hm_0_3
    isplitl [Hm_1_3]; · iexact Hm_1_3
    iexact Hm_2_3
  unfold wpc
  iapply (wp_fupd _ _ _ _ _)
  iapply (gather_body I κ c (fun _ => iprop(|={Set.univ}=> Q ⟨⟩)) fA fB f4 f5) $$ [HO HT_0 HP_0 HT_1 HT_2 HP_2 HBC HBA HW_0 HW_1 HW_2 HW_3 Ha_0 Ha_1 Ha_2 Htz_0_0 Htz_1_0 Htz_2_0 HA_12 HA_13 Hw_1_0_0 Hw_1_1_0 Hw_1_2_0 Hty_0_0 Hty_1_0 Hty_2_0 Htz_0_1 Htz_1_1 Htz_2_1 Hw_1_0_1 Hw_1_1_1 Hw_1_2_1 Hty_0_1 Hty_1_1 Hty_2_1 Htz_0_2 Htz_1_2 Htz_2_2 Hw_1_0_2 Hw_1_1_2 Hw_1_2_2 Hty_0_2 Hty_1_2 Hty_2_2 Hw_3_0_0 Hw_3_1_0 Hw_3_2_0 Hw_3_0_1 Hw_3_1_1 Hw_3_2_1 Hw_3_0_2 Hw_3_1_2 Hw_3_2_2 HW_4 HW_5]
  · isplitr; · iexact HC
    isplitl [HO]; · iexact HO
    isplitl [HT_0]; · iexact HT_0
    isplitl [HP_0]; · iexact HP_0
    isplitl [HT_1]; · iexact HT_1
    isplitl [HT_2]; · iexact HT_2
    isplitl [HP_2]; · iexact HP_2
    isplitl [HBC]; · iexact HBC
    isplitl [HBA]; · iexact HBA
    isplitl [HW_0]; · iexact HW_0
    isplitl [HW_1]; · iexact HW_1
    isplitl [HW_2]; · iexact HW_2
    isplitl [HW_3]; · iexact HW_3
    isplitl [Ha_0]; · iexact Ha_0
    isplitl [Ha_1]; · iexact Ha_1
    isplitl [Ha_2]; · iexact Ha_2
    isplitl [Htz_0_0]; · iexact Htz_0_0
    isplitl [Htz_1_0]; · iexact Htz_1_0
    isplitl [Htz_2_0]; · iexact Htz_2_0
    isplitl [HA_12]; · iexact HA_12
    isplitl [HA_13]; · iexact HA_13
    isplitl [Hw_1_0_0]; · iexact Hw_1_0_0
    isplitl [Hw_1_1_0]; · iexact Hw_1_1_0
    isplitl [Hw_1_2_0]; · iexact Hw_1_2_0
    isplitl [Hty_0_0]; · iexact Hty_0_0
    isplitl [Hty_1_0]; · iexact Hty_1_0
    isplitl [Hty_2_0]; · iexact Hty_2_0
    isplitl [Htz_0_1]; · iexact Htz_0_1
    isplitl [Htz_1_1]; · iexact Htz_1_1
    isplitl [Htz_2_1]; · iexact Htz_2_1
    isplitl [Hw_1_0_1]; · iexact Hw_1_0_1
    isplitl [Hw_1_1_1]; · iexact Hw_1_1_1
    isplitl [Hw_1_2_1]; · iexact Hw_1_2_1
    isplitl [Hty_0_1]; · iexact Hty_0_1
    isplitl [Hty_1_1]; · iexact Hty_1_1
    isplitl [Hty_2_1]; · iexact Hty_2_1
    isplitl [Htz_0_2]; · iexact Htz_0_2
    isplitl [Htz_1_2]; · iexact Htz_1_2
    isplitl [Htz_2_2]; · iexact Htz_2_2
    isplitl [Hw_1_0_2]; · iexact Hw_1_0_2
    isplitl [Hw_1_1_2]; · iexact Hw_1_1_2
    isplitl [Hw_1_2_2]; · iexact Hw_1_2_2
    isplitl [Hty_0_2]; · iexact Hty_0_2
    isplitl [Hty_1_2]; · iexact Hty_1_2
    isplitl [Hty_2_2]; · iexact Hty_2_2
    isplitl [Hw_3_0_0]; · iexact Hw_3_0_0
    isplitl [Hw_3_1_0]; · iexact Hw_3_1_0
    isplitl [Hw_3_2_0]; · iexact Hw_3_2_0
    isplitl [Hw_3_0_1]; · iexact Hw_3_0_1
    isplitl [Hw_3_1_1]; · iexact Hw_3_1_1
    isplitl [Hw_3_2_1]; · iexact Hw_3_2_1
    isplitl [Hw_3_0_2]; · iexact Hw_3_0_2
    isplitl [Hw_3_1_2]; · iexact Hw_3_1_2
    isplitl [Hw_3_2_2]; · iexact Hw_3_2_2
    isplitl [HW_4]; · iexact HW_4
    iexact HW_5
  iintro ⟨HBD, HW_0, HW_1, HW_2, HW_3, Hf_1_0_0, Hf_1_1_0, Hf_1_2_0, Hp_1_1_L, Hp_0_1_L, Hp_2_1_L, Hf_1_0_1, Hf_1_1_1, Hf_1_2_1, Hp_1_2_L, Hp_0_2_L, Hp_2_2_L, Hf_1_0_2, Hp_0_3_Z, Hf_1_1_2, Hp_1_3_Z, Hf_1_2_2, Hp_2_3_Z, Hp_0_3_L, Hp_1_3_L, Hp_2_3_L, Hf_3_0_0, Hf_3_1_0, Hf_3_2_0, Ho_2_1, Ho_0_1, Ho_1_1, Hf_3_0_1, Hf_3_1_1, Hf_3_2_1, Ho_2_2, Ho_0_2, Ho_1_2, Hf_3_0_2, Hf_3_1_2, Ho_1_3, Hf_3_2_2, Ho_0_3, Ho_2_3, HA_13, HA_12, HW_4, HW_5, Hf_0_0_0, Hp_0_0_F, Hf_0_1_0, Hp_1_0_F, Hf_0_2_0, Hp_2_0_F, Hf_2_0_0, Hp_0_1_Y, Hf_2_1_0, Hp_1_1_Y, Hf_2_2_0, Hp_2_1_Y, Hf_0_0_1, Hp_0_1_Z, Hf_0_1_1, Hp_1_1_Z, Hf_0_2_1, Hp_2_1_Z, Hf_2_0_1, Hp_0_2_Y, Hf_2_1_1, Hp_1_2_Y, HO, Hf_2_2_1, Hp_2_2_Y, Hf_0_0_2, Hp_0_2_Z, Hf_0_1_2, Hp_1_2_Z, Hf_0_2_2, Hp_2_2_Z, Hf_2_0_2, Hp_0_3_Y, Hf_2_1_2, Hp_1_3_Y, Hf_2_2_2, Hp_2_3_Y⟩
  imod (close_bar I κ c) $$ [HBD] with HBV
  · isplitr; · iexact HC
    iexact HBD
  ihave HF := (fins (F := F) c) $$ [Hf_0_0_0 Hf_0_1_0 Hf_0_2_0 Hf_0_0_1 Hf_0_1_1 Hf_0_2_1 Hf_0_0_2 Hf_0_1_2 Hf_0_2_2 Hf_1_0_0 Hf_1_1_0 Hf_1_2_0 Hf_1_0_1 Hf_1_1_1 Hf_1_2_1 Hf_1_0_2 Hf_1_1_2 Hf_1_2_2 Hf_2_0_0 Hf_2_1_0 Hf_2_2_0 Hf_2_0_1 Hf_2_1_1 Hf_2_2_1 Hf_2_0_2 Hf_2_1_2 Hf_2_2_2 Hf_3_0_0 Hf_3_1_0 Hf_3_2_0 Hf_3_0_1 Hf_3_1_1 Hf_3_2_1 Hf_3_0_2 Hf_3_1_2 Hf_3_2_2]
  · isplitl [Hf_0_0_0 Hf_0_1_0 Hf_0_2_0 Hf_0_0_1 Hf_0_1_1 Hf_0_2_1 Hf_0_0_2 Hf_0_1_2 Hf_0_2_2]
    · isplitl [Hf_0_0_0]; · iexact Hf_0_0_0
      isplitl [Hf_0_1_0]; · iexact Hf_0_1_0
      isplitl [Hf_0_2_0]; · iexact Hf_0_2_0
      isplitl [Hf_0_0_1]; · iexact Hf_0_0_1
      isplitl [Hf_0_1_1]; · iexact Hf_0_1_1
      isplitl [Hf_0_2_1]; · iexact Hf_0_2_1
      isplitl [Hf_0_0_2]; · iexact Hf_0_0_2
      isplitl [Hf_0_1_2]; · iexact Hf_0_1_2
      iexact Hf_0_2_2
    isplitl [Hf_1_0_0 Hf_1_1_0 Hf_1_2_0 Hf_1_0_1 Hf_1_1_1 Hf_1_2_1 Hf_1_0_2 Hf_1_1_2 Hf_1_2_2]
    · isplitl [Hf_1_0_0]; · iexact Hf_1_0_0
      isplitl [Hf_1_1_0]; · iexact Hf_1_1_0
      isplitl [Hf_1_2_0]; · iexact Hf_1_2_0
      isplitl [Hf_1_0_1]; · iexact Hf_1_0_1
      isplitl [Hf_1_1_1]; · iexact Hf_1_1_1
      isplitl [Hf_1_2_1]; · iexact Hf_1_2_1
      isplitl [Hf_1_0_2]; · iexact Hf_1_0_2
      isplitl [Hf_1_1_2]; · iexact Hf_1_1_2
      iexact Hf_1_2_2
    isplitl [Hf_2_0_0 Hf_2_1_0 Hf_2_2_0 Hf_2_0_1 Hf_2_1_1 Hf_2_2_1 Hf_2_0_2 Hf_2_1_2 Hf_2_2_2]
    · isplitl [Hf_2_0_0]; · iexact Hf_2_0_0
      isplitl [Hf_2_1_0]; · iexact Hf_2_1_0
      isplitl [Hf_2_2_0]; · iexact Hf_2_2_0
      isplitl [Hf_2_0_1]; · iexact Hf_2_0_1
      isplitl [Hf_2_1_1]; · iexact Hf_2_1_1
      isplitl [Hf_2_2_1]; · iexact Hf_2_2_1
      isplitl [Hf_2_0_2]; · iexact Hf_2_0_2
      isplitl [Hf_2_1_2]; · iexact Hf_2_1_2
      iexact Hf_2_2_2
    isplitl [Hf_3_0_0]; · iexact Hf_3_0_0
    isplitl [Hf_3_1_0]; · iexact Hf_3_1_0
    isplitl [Hf_3_2_0]; · iexact Hf_3_2_0
    isplitl [Hf_3_0_1]; · iexact Hf_3_0_1
    isplitl [Hf_3_1_1]; · iexact Hf_3_1_1
    isplitl [Hf_3_2_1]; · iexact Hf_3_2_1
    isplitl [Hf_3_0_2]; · iexact Hf_3_0_2
    isplitl [Hf_3_1_2]; · iexact Hf_3_1_2
    iexact Hf_3_2_2
  imod (close_all I κ c) $$ [HF] with HOS
  · isplitr; · iexact HC
    iexact HF
  ihave HS0_0 := (ownP_any I c 0 0) $$ Hp_0_0_F
  ihave HS1_0 := (ownP_join_any I c 0 1) $$ [Hp_0_1_Z Hp_0_1_Y Hp_0_1_L]
  · isplitl [Hp_0_1_Z]; · iexact Hp_0_1_Z
    isplitl [Hp_0_1_Y]; · iexact Hp_0_1_Y
    iexact Hp_0_1_L
  ihave HS2_0 := (ownP_join_any I c 0 2) $$ [Hp_0_2_Z Hp_0_2_Y Hp_0_2_L]
  · isplitl [Hp_0_2_Z]; · iexact Hp_0_2_Z
    isplitl [Hp_0_2_Y]; · iexact Hp_0_2_Y
    iexact Hp_0_2_L
  ihave HS3_0 := (ownP_join_any I c 0 3) $$ [Hp_0_3_Z Hp_0_3_Y Hp_0_3_L]
  · isplitl [Hp_0_3_Z]; · iexact Hp_0_3_Z
    isplitl [Hp_0_3_Y]; · iexact Hp_0_3_Y
    iexact Hp_0_3_L
  ihave HG0 := (own_glue0 (F := F) c) $$ [HS0_0 HS1_0 HS2_0 HS3_0]
  · isplitl [HS0_0]; · iexact HS0_0
    isplitl [HS1_0]; · iexact HS1_0
    isplitl [HS2_0]; · iexact HS2_0
    iexact HS3_0
  ihave HS0_1 := (ownP_any I c 1 0) $$ Hp_1_0_F
  ihave HS1_1 := (ownP_join_any I c 1 1) $$ [Hp_1_1_Z Hp_1_1_Y Hp_1_1_L]
  · isplitl [Hp_1_1_Z]; · iexact Hp_1_1_Z
    isplitl [Hp_1_1_Y]; · iexact Hp_1_1_Y
    iexact Hp_1_1_L
  ihave HS2_1 := (ownP_join_any I c 1 2) $$ [Hp_1_2_Z Hp_1_2_Y Hp_1_2_L]
  · isplitl [Hp_1_2_Z]; · iexact Hp_1_2_Z
    isplitl [Hp_1_2_Y]; · iexact Hp_1_2_Y
    iexact Hp_1_2_L
  ihave HS3_1 := (ownP_join_any I c 1 3) $$ [Hp_1_3_Z Hp_1_3_Y Hp_1_3_L]
  · isplitl [Hp_1_3_Z]; · iexact Hp_1_3_Z
    isplitl [Hp_1_3_Y]; · iexact Hp_1_3_Y
    iexact Hp_1_3_L
  ihave HG1 := (own_glue1 (F := F) c) $$ [HS0_1 HS1_1 HS2_1 HS3_1]
  · isplitl [HS0_1]; · iexact HS0_1
    isplitl [HS1_1]; · iexact HS1_1
    isplitl [HS2_1]; · iexact HS2_1
    iexact HS3_1
  ihave HS0_2 := (ownP_any I c 2 0) $$ Hp_2_0_F
  ihave HS1_2 := (ownP_join_any I c 2 1) $$ [Hp_2_1_Z Hp_2_1_Y Hp_2_1_L]
  · isplitl [Hp_2_1_Z]; · iexact Hp_2_1_Z
    isplitl [Hp_2_1_Y]; · iexact Hp_2_1_Y
    iexact Hp_2_1_L
  ihave HS2_2 := (ownP_join_any I c 2 2) $$ [Hp_2_2_Z Hp_2_2_Y Hp_2_2_L]
  · isplitl [Hp_2_2_Z]; · iexact Hp_2_2_Z
    isplitl [Hp_2_2_Y]; · iexact Hp_2_2_Y
    iexact Hp_2_2_L
  ihave HS3_2 := (ownP_join_any I c 2 3) $$ [Hp_2_3_Z Hp_2_3_Y Hp_2_3_L]
  · isplitl [Hp_2_3_Z]; · iexact Hp_2_3_Z
    isplitl [Hp_2_3_Y]; · iexact Hp_2_3_Y
    iexact Hp_2_3_L
  ihave HG2 := (own_glue2 (F := F) c) $$ [HS0_2 HS1_2 HS2_2 HS3_2]
  · isplitl [HS0_2]; · iexact HS0_2
    isplitl [HS1_2]; · iexact HS1_2
    isplitl [HS2_2]; · iexact HS2_2
    iexact HS3_2
  ihave HM1_0 := (othP_any I c 0 1) $$ Ho_0_1
  ihave HM2_0 := (othP_any I c 0 2) $$ Ho_0_2
  ihave HM3_0 := (othP_any I c 0 3) $$ Ho_0_3
  ihave HG3 := (oth_glue0 (F := F) c) $$ [Hb_0 HM1_0 HM2_0 HM3_0]
  · isplitl [Hb_0]; · iexact Hb_0
    isplitl [HM1_0]; · iexact HM1_0
    isplitl [HM2_0]; · iexact HM2_0
    iexact HM3_0
  ihave HM1_1 := (othP_any I c 1 1) $$ Ho_1_1
  ihave HM2_1 := (othP_any I c 1 2) $$ Ho_1_2
  ihave HM3_1 := (othP_any I c 1 3) $$ Ho_1_3
  ihave HG4 := (oth_glue1 (F := F) c) $$ [Hb_1 HM1_1 HM2_1 HM3_1]
  · isplitl [Hb_1]; · iexact Hb_1
    isplitl [HM1_1]; · iexact HM1_1
    isplitl [HM2_1]; · iexact HM2_1
    iexact HM3_1
  ihave HM1_2 := (othP_any I c 2 1) $$ Ho_2_1
  ihave HM2_2 := (othP_any I c 2 2) $$ Ho_2_2
  ihave HM3_2 := (othP_any I c 2 3) $$ Ho_2_3
  ihave HG5 := (oth_glue2 (F := F) c) $$ [Hb_2 HM1_2 HM2_2 HM3_2]
  · isplitl [Hb_2]; · iexact Hb_2
    isplitl [HM1_2]; · iexact HM1_2
    isplitl [HM2_2]; · iexact HM2_2
    iexact HM3_2
  imodintro
  iapply Hk
  isplitl [HG0 HG1 HG2 HG3 HG4 HG5 HA_12 HA_13 HX]
  · isplitl [HG0]; · iexact HG0
    isplitl [HG1]; · iexact HG1
    isplitl [HG2]; · iexact HG2
    isplitl [HG3]; · iexact HG3
    isplitl [HG4]; · iexact HG4
    isplitl [HG5]; · iexact HG5
    isplitl [HA_12]; · iexists _; iexact HA_12
    isplitl [HA_13]; · iexists _; iexact HA_13
    iexact HX
  isplitl [HBV]; · iexact HBV
  isplitl [HOS]; · iexact HOS
  isplitl [HO]; · iexact HO
  isplitl [HW_0]; · iexact HW_0
  isplitl [HW_1]; · iexact HW_1
  isplitl [HW_2]; · iexact HW_2
  isplitl [HW_3]; · iexact HW_3
  isplitl [HW_4]; · iexact HW_4
  iexact HW_5

end KProof
-- ==== Proof.Region0.lean ====
module

public import proofs.«01_k».proof.Proof.Point0
public import proofs.«01_k».proof.Proof.Gen.KernelIdeal.Regions
public import proofs.«01_k».proof.Proof.Gen.KernelIdeal.Points
public import Idealize.ShloMosaic.Lib.Pipeline.FrameBody

/-! The gather's call as one stage of the program. -/

@[expose] public section

set_option maxRecDepth 16384

noncomputable section

namespace KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ UU ℕ

variable (m : (ℓ : Loc nD τ sig) → Buf (Elt F) ℓ)

/-- Window w's block, as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- Each device's inputs of the gather. -/
def insOf : Ins F where
  x c := blk0 m c 0 t0_0
  wd c := blk0 m c 1 t0_0
  wk c := blk0 m c 2 t0_0
  wv c := blk0 m c 3 t0_0

/-- The gather's own state: before it, and after it. -/
def phi0 (c : Dev nD) : ℕ → sProp 𝕄
  | 0 => iprop(Pipeline.scopedRest spec0 c ∗ (∃ r, prngReg c r) ∗ Xk (insOf m) c)
  | _ + 1 => iprop(Pipeline.scopedRest spec0 c ∗ (∃ r, prngReg c r) ∗ Pipeline.ownSems0 osem0 c ∗ semVal (barCell c) 0)

def dat0 (c : Dev nD) : Dat τ (Elt F) Unit ℕ UU ℕ cfg0 c where
  A w := V1 m c (Pipeline.arrRef spec0 w)
  after w t := match w with
    | ⟨0, _⟩ => blk0 m c 0 t
    | ⟨1, _⟩ => blk0 m c 1 t
    | ⟨2, _⟩ => blk0 m c 2 t
    | ⟨3, _⟩ => blk0 m c 3 t
    | ⟨4, _⟩ => outK (insOf m) c
    | ⟨5, _⟩ => outV (insOf m) c
  Φ t := phi0 m c t.val
  q _ := fullShare
  owed t := if t.val = 0 then Ow c 0 else 0

theorem A0_eq (c : Dev nD) (w : Fin cfg0.W) : (dat0 m c).A w = V1 m c (Pipeline.arrRef spec0 w) := by dsimp only [dat0]
theorem after0_0 (c : Dev nD) (t : Fin cfg0.N) : (dat0 m c).after 0 t = blk0 m c 0 t := by dsimp only [dat0]
theorem before0_0 (c : Dev nD) (t : Fin cfg0.N) (d) : (dat0 m c).before 0 t d = blk0 m c 0 t :=
  ((dat0 m c).before_in_eq_fetched 0 rfl (fun _ => rfl) (fun _ _ _ => rfl) (fun t => by rw [after0_0]; unfold Dat.blockOf blk0; rw [A0_eq]; try rfl) t d).trans
    (by unfold Dat.fetched Dat.blockOf blk0; rw [A0_eq]; try rfl)
theorem after0_1 (c : Dev nD) (t : Fin cfg0.N) : (dat0 m c).after 1 t = blk0 m c 1 t := by dsimp only [dat0]
theorem before0_1 (c : Dev nD) (t : Fin cfg0.N) (d) : (dat0 m c).before 1 t d = blk0 m c 1 t :=
  ((dat0 m c).before_in_eq_fetched 1 rfl (fun _ => rfl) (fun _ _ _ => rfl) (fun t => by rw [after0_1]; unfold Dat.blockOf blk0; rw [A0_eq]; try rfl) t d).trans
    (by unfold Dat.fetched Dat.blockOf blk0; rw [A0_eq]; try rfl)
theorem after0_2 (c : Dev nD) (t : Fin cfg0.N) : (dat0 m c).after 2 t = blk0 m c 2 t := by dsimp only [dat0]
theorem before0_2 (c : Dev nD) (t : Fin cfg0.N) (d) : (dat0 m c).before 2 t d = blk0 m c 2 t :=
  ((dat0 m c).before_in_eq_fetched 2 rfl (fun _ => rfl) (fun _ _ _ => rfl) (fun t => by rw [after0_2]; unfold Dat.blockOf blk0; rw [A0_eq]; try rfl) t d).trans
    (by unfold Dat.fetched Dat.blockOf blk0; rw [A0_eq]; try rfl)
theorem after0_3 (c : Dev nD) (t : Fin cfg0.N) : (dat0 m c).after 3 t = blk0 m c 3 t := by dsimp only [dat0]
theorem before0_3 (c : Dev nD) (t : Fin cfg0.N) (d) : (dat0 m c).before 3 t d = blk0 m c 3 t :=
  ((dat0 m c).before_in_eq_fetched 3 rfl (fun _ => rfl) (fun _ _ _ => rfl) (fun t => by rw [after0_3]; unfold Dat.blockOf blk0; rw [A0_eq]; try rfl) t d).trans
    (by unfold Dat.fetched Dat.blockOf blk0; rw [A0_eq]; try rfl)
theorem after0_4 (c : Dev nD) (t : Fin cfg0.N) : (dat0 m c).after 4 t = outK (insOf m) c := by dsimp only [dat0]
theorem after0_5 (c : Dev nD) (t : Fin cfg0.N) : (dat0 m c).after 5 t = outV (insOf m) c := by dsimp only [dat0]

theorem owed0_first (c : Dev nD) : (dat0 m c).owed t0_0.castSucc = Ow c 0 := by
  show (if (t0_0.castSucc : Fin (cfg0.N + 1)).val = 0 then Ow c 0 else 0) = Ow c 0; exact if_pos rfl
theorem owed0_zero (c : Dev nD) : (dat0 m c).owed 0 = Ow c 0 := by
  show (if ((0 : Fin (cfg0.N + 1)).val = 0) then Ow c 0 else 0) = Ow c 0; exact if_pos rfl
theorem owed0_last (c : Dev nD) : (dat0 m c).owed (Fin.last _) = 0 := by
  show (if (Fin.last cfg0.N).val = 0 then Ow c 0 else 0) = 0
  rw [Fin.val_last, if_neg (by rw [show cfg0.N = 1 from N_0]; decide)]
theorem owed0_succ (c : Dev nD) : (dat0 m c).owed t0_0.succ = Ow c 21 := by
  show (if (t0_0.succ : Fin (cfg0.N + 1)).val = 0 then Ow c 0 else 0) = 0
  rw [Fin.val_succ, if_neg (Nat.succ_ne_zero _)]

theorem owesAt_of {cfg : Cfg sig Λ₀} {c : Dev nD} (dat : Dat τ (Elt F) Unit ℕ UU ℕ cfg c) (t : Fin (cfg.N + 1))
    (O : CellTallies nD τ sig Unit) (h0 : dat.owed t = O) (hr : dat.recorded t = Set.univ := by first | rfl | skip) :
    (owesE c O : sProp 𝕄) ⊢ (dat.owesAt () t : sProp 𝕄) := by
  unfold owesE Dat.owesAt Pipeline.owesWithin Dat.bound; rw [h0, hr]
  iintro ⟨%W, HO⟩; iexists W; isplitr; · ipureintro; exact fun _ _ => Or.inl trivial
  iexact HO
theorem owesAt_to {cfg : Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ (owesE c O : sProp 𝕄) := by
  unfold owesE Dat.owesAt Pipeline.owesWithin; rw [h0]
  iintro ⟨%W, -, HO⟩; iexists W; iexact HO

def pre0 (c : Dev nD) : sProp 𝕄 :=
  iprop((dat0 m c).Φ t0_0.castSucc ∗ (dat0 m c).owesAt () t0_0.castSucc ∗ (∃ d, owns (c : Thread nD τ) (st0_0 t0_0) fullShare ((dat0 m c).before 0 t0_0 d)) ∗ (∃ d, owns (c : Thread nD τ) (st0_1 t0_0) fullShare ((dat0 m c).before 1 t0_0 d)) ∗ (∃ d, owns (c : Thread nD τ) (st0_2 t0_0) fullShare ((dat0 m c).before 2 t0_0 d)) ∗ (∃ d, owns (c : Thread nD τ) (st0_3 t0_0) fullShare ((dat0 m c).before 3 t0_0 d)) ∗ (∃ d, owns (c : Thread nD τ) (st0_4 t0_0) fullShare ((dat0 m c).before 4 t0_0 d)) ∗ (∃ d, owns (c : Thread nD τ) (st0_5 t0_0) fullShare ((dat0 m c).before 5 t0_0 d)))
def post0 (c : Dev nD) : sProp 𝕄 :=
  iprop((dat0 m c).Φ t0_0.succ ∗ (dat0 m c).owesAt () t0_0.succ ∗ (dat0 m c).leavesExact 0 t0_0 ∗ (dat0 m c).leavesExact 1 t0_0 ∗ (dat0 m c).leavesExact 2 t0_0 ∗ (dat0 m c).leavesExact 3 t0_0 ∗ (dat0 m c).leavesExact 4 t0_0 ∗ (dat0 m c).leavesExact 5 t0_0)

set_option maxHeartbeats 8000000 in
theorem sound0 (c : Dev nD) : pre0 m c ⊢ wpc c (bodyAt0 t0_0) (fun _ => post0 m c) := by
  unfold pre0 post0
  simp only [before0_0, before0_1, before0_2, before0_3]
  rw [show (dat0 m c).Φ t0_0.castSucc = iprop(Pipeline.scopedRest spec0 c ∗ (∃ r, prngReg c r) ∗ Xk (insOf m) c) from rfl,
    show (dat0 m c).Φ t0_0.succ = iprop(Pipeline.scopedRest spec0 c ∗ (∃ r, prngReg c r) ∗ Pipeline.ownSems0 osem0 c ∗ semVal (barCell c) 0) from rfl]
  rw [show (dat0 m c).leavesExact 0 t0_0 = owns (c : Thread nD τ) (st0_0 t0_0) fullShare ((dat0 m c).after 0 t0_0) from rfl, after0_0]
  rw [show (dat0 m c).leavesExact 1 t0_0 = owns (c : Thread nD τ) (st0_1 t0_0) fullShare ((dat0 m c).after 1 t0_0) from rfl, after0_1]
  rw [show (dat0 m c).leavesExact 2 t0_0 = owns (c : Thread nD τ) (st0_2 t0_0) fullShare ((dat0 m c).after 2 t0_0) from rfl, after0_2]
  rw [show (dat0 m c).leavesExact 3 t0_0 = owns (c : Thread nD τ) (st0_3 t0_0) fullShare ((dat0 m c).after 3 t0_0) from rfl, after0_3]
  rw [show (dat0 m c).leavesExact 4 t0_0 = owns (c : Thread nD τ) (st0_4 t0_0) fullShare ((dat0 m c).after 4 t0_0) from rfl, after0_4]
  rw [show (dat0 m c).leavesExact 5 t0_0 = owns (c : Thread nD τ) (st0_5 t0_0) fullShare ((dat0 m c).after 5 t0_0) from rfl, after0_5]
  rw [show st0_0 t0_0 = Memref.whole cc0_stg0_0 from rfl]
  rw [show st0_1 t0_0 = Memref.whole cc0_stg1_0 from rfl]
  rw [show st0_2 t0_0 = Memref.whole cc0_stg2_0 from rfl]
  rw [show st0_3 t0_0 = Memref.whole cc0_stg3_0 from rfl]
  rw [show st0_4 t0_0 = Memref.whole cc0_stg4_0 from rfl]
  rw [show st0_5 t0_0 = Memref.whole cc0_stg5_0 from rfl]
  simp only [owns_whole]
  iintro ⟨⟨HS, Hg, HX⟩, HO, ⟨%d0, H0⟩, ⟨%d1, H1⟩, ⟨%d2, H2⟩, ⟨%d3, H3⟩, ⟨%d4, H4⟩, ⟨%d5, H5⟩⟩
  ihave HO := (owesAt_to (dat0 m c) _ (Ow c 0) (owed0_first m c)) $$ HO
  iapply (gather_point (insOf m) c (fun _ => _) _ _) $$ [HS HX HO H0 H1 H2 H3 H4 H5]
  · isplitl [HS]; · iexact HS
    isplitl [HX]; · iexact HX
    isplitl [HO]; · iexact HO
    isplitl [H0]; · iexact H0
    isplitl [H1]; · iexact H1
    isplitl [H2]; · iexact H2
    isplitl [H3]; · iexact H3
    isplitl [H4]; · iexact H4
    iexact H5
  iintro ⟨HS, HB, HV, HO, H0, H1, H2, H3, H4, H5⟩
  isplitl [HS Hg HV HB]
  · isplitl [HS]; · iexact HS
    isplitl [Hg]; · iexact Hg
    isplitl [HV]; · iexact HV
    iexact HB
  isplitl [HO]; · iapply (owesAt_of (dat0 m c) _ (Ow c 21) (owed0_succ m c)); iexact HO
  isplitl [H0]; · iexact H0
  isplitl [H1]; · iexact H1
  isplitl [H2]; · iexact H2
  isplitl [H3]; · iexact H3
  isplitl [H4]; · iexact H4
  iexact H5

theorem obl0 (c : Dev nD) : BodyObligation (dat0 m c) (defs₀ (F := F)) 𝒱₀ () Set.univ := fun t => by
  obtain rfl := fin_N0 t
  rw [bigSep_W0, bigSep_W0]
  unfold defs₀
  rw [Defs.onTc_tc]
  exact triple_restated (sound0 m c) rfl .rfl fun _ => .rfl

theorem Ow_lv (c : Dev nD) (n : ℕ) (g : GSem nD τ sig) (u : Unit) (h : 0 < Ow c n g u) : u ∈ L g ∧ (0 : ℕ) < lv g u := by
  obtain ⟨p, hp, rfl⟩ := owed_mem _ g u h
  have hp := List.mem_of_mem_drop hp
  simp only [pays, List.mem_cons, List.not_mem_nil, or_false] at hp
  rcases hp with rfl | rfl | rfl | rfl | rfl | rfl | rfl | rfl | rfl | rfl | rfl | rfl | rfl | rfl | rfl | rfl | rfl | rfl | rfl | rfl | rfl <;>
    exact ⟨by rw [L_tc]; exact Finset.mem_singleton_self _, by first | (rw [lv_q]; decide) | exact Nat.one_pos⟩

end KProof
-- ==== Proof.Step1.lean ====
module

public import proofs.«01_k».proof.Proof.Region0
public import Idealize.ShloMosaic.Lib.Pipeline.FrameBody
public import Idealize.ShloMosaic.Lib.VecWindow

/-! The attention call's body: what one step of four heads computes. -/

@[expose] public section

set_option maxRecDepth 16384

noncomputable section

namespace KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Cert.KernelIdeal Cert.KernelIdeal.Gen

variable {F : FTy → Type} [FloatOps F]
local notation "𝕄" => MT nD τ sig Unit (Elt F) ℕ UU ℕ

/-- What one step adds to the result: its four heads' share. -/
def share1 (x : Vec F S1024x2048 .bf16) (wq : Vec F S2048x512 .bf16) (wqr : Vec F S2048x128 .bf16) (wo : Vec F S512x2048 .bf16)
    (K V : Vec F S1024x512 .bf16) (kr : Vec F S1024x32 .bf16) : FVec F S1024x2048 .f32 :=
  k1_pay1 (k1_pay4 wo) (k1_pay9 V) (k1_pay12 (k1_pay10 x wq wqr kr K) (k1_pay11 V) (constant S1024x129 .f32 0x00000000#32))
    (k1_pay13 (k1_pay5 x wq) (k1_pay6 x wqr) kr (k1_pay8 K) (k1_pay9 V)) (k1_pay14 (k1_pay5 x wq) (k1_pay6 x wqr) kr (k1_pay8 K) (k1_pay9 V))
    (k1_pay15 (k1_pay5 x wq) (k1_pay6 x wqr)) (k1_pay16 kr (k1_pay8 K))

/-- The running sum after one more step. -/
def more1 (x : Vec F S1024x2048 .bf16) (wq : Vec F S2048x512 .bf16) (wqr : Vec F S2048x128 .bf16) (wo : Vec F S512x2048 .bf16)
    (K V : Vec F S1024x512 .bf16) (kr : Vec F S1024x32 .bf16) (o : Vec F S1024x2048 .f32) : FVec F S1024x2048 .f32 :=
  k1_pay2 (k1_pay4 wo) (k1_pay9 V) (k1_pay12 (k1_pay10 x wq wqr kr K) (k1_pay11 V) (constant S1024x129 .f32 0x00000000#32))
    (k1_pay13 (k1_pay5 x wq) (k1_pay6 x wqr) kr (k1_pay8 K) (k1_pay9 V)) (k1_pay14 (k1_pay5 x wq) (k1_pay6 x wqr) kr (k1_pay8 K) (k1_pay9 V))
    (k1_pay15 (k1_pay5 x wq) (k1_pay6 x wqr)) (k1_pay16 kr (k1_pay8 K)) o

abbrev first1 (i : grid1.Coords) : Prop := (Scalar.cmpi .ne (Scalar.extui (Scalar.cmpi .eq (BitVec.ofNat 32 (i 0).val) 0#32)) 0#32) = 1#1

set_option maxHeartbeats 4000000 in
theorem step1_A (c : Dev nD) (i : grid1.Coords) (arg1 : Memref sig .tc .vmem S1024x2048 .bf16) (harg1 : arg1.IsWhole) (arg2 : Memref sig .tc .vmem S2048x512 .bf16) (harg2 : arg2.IsWhole) (arg3 : Memref sig .tc .vmem S2048x128 .bf16) (harg3 : arg3.IsWhole) (arg4 : Memref sig .tc .vmem S2048x32 .bf16) (harg4 : arg4.IsWhole) (arg5 : Memref sig .tc .vmem S512x2048 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x2048 .f32) (harg8 : arg8.IsWhole) (arg9 : Memref sig .tc .vmem S1024x32 .bf16) (harg9 : arg9.IsWhole) (hc0 : first1 i) (hc1 : k1_cond2 i = 1#1) (hc2 : ¬(k1_cond3 i = 1#1))
    (x0 : Vec F S1024x2048 .bf16) (x1 : Vec F S2048x512 .bf16) (x2 : Vec F S2048x128 .bf16) (x3 : Vec F S2048x32 .bf16) (x4 : Vec F S512x2048 .bf16) (x5 : Vec F S1024x512 .bf16) (x6 : Vec F S1024x512 .bf16) (xo : Vec F S1024x2048 .f32) (xs : Vec F S1024x32 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (share1 x0 x1 x2 x4 x5 x6 (k1_pay7 x0 x3)) ∗ owns (c : Thread nD τ) arg9 fullShare ((k1_pay7 x0 x3))) -∗ K ⟨⟩))
      ⊢ wpc c (cc1_body i arg1 harg1 arg2 harg2 arg3 harg3 arg4 harg4 arg5 harg5 arg6 harg6 arg7 harg7 arg8 harg8 arg9 harg9) K := by
  unfold wpc
  simp only [cc1_body_eq_skeleton]; unfold cc1_body_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine (View.read_writes_full arg8.view _ inb_S1024x2048_S1024x2048_0_0 _ []).trans ?_
    have e0 : (arg1.view.readAt (Elt F) (Rect.unit ![0, 0] S1024x2048.size inb_S1024x2048_S1024x2048_0_0).toLoadRect (harg1.unread x0)) = x0 := (View.readAt_full arg1.view _ inb_S1024x2048_S1024x2048_0_0).trans (harg1.read_unread x0)
    have e1 : (arg2.view.readAt (Elt F) (Rect.unit ![0, 0] S2048x512.size inb_S2048x512_S2048x512_0_0).toLoadRect (harg2.unread x1)) = x1 := (View.readAt_full arg2.view _ inb_S2048x512_S2048x512_0_0).trans (harg2.read_unread x1)
    have e2 : (arg3.view.readAt (Elt F) (Rect.unit ![0, 0] S2048x128.size inb_S2048x128_S2048x128_0_0).toLoadRect (harg3.unread x2)) = x2 := (View.readAt_full arg3.view _ inb_S2048x128_S2048x128_0_0).trans (harg3.read_unread x2)
    have e3 : (arg4.view.readAt (Elt F) (Rect.unit ![0, 0] S2048x32.size inb_S2048x32_S2048x32_0_0).toLoadRect (harg4.unread x3)) = x3 := (View.readAt_full arg4.view _ inb_S2048x32_S2048x32_0_0).trans (harg4.read_unread x3)
    have e4 : (arg5.view.readAt (Elt F) (Rect.unit ![0, 0] S512x2048.size inb_S512x2048_S512x2048_0_0).toLoadRect (harg5.unread x4)) = x4 := (View.readAt_full arg5.view _ inb_S512x2048_S512x2048_0_0).trans (harg5.read_unread x4)
    have e5 : (arg6.view.readAt (Elt F) (Rect.unit ![0, 0] S1024x512.size inb_S1024x512_S1024x512_0_0).toLoadRect (harg6.unread x5)) = x5 := (View.readAt_full arg6.view _ inb_S1024x512_S1024x512_0_0).trans (harg6.read_unread x5)
    have e6 : (arg7.view.readAt (Elt F) (Rect.unit ![0, 0] S1024x512.size inb_S1024x512_S1024x512_0_0).toLoadRect (harg7.unread x6)) = x6 := (View.readAt_full arg7.view _ inb_S1024x512_S1024x512_0_0).trans (harg7.read_unread x6)
    show share1 (arg1.view.readAt (Elt F) (Rect.unit ![0, 0] S1024x2048.size inb_S1024x2048_S1024x2048_0_0).toLoadRect (harg1.unread x0)) (arg2.view.readAt (Elt F) (Rect.unit ![0, 0] S2048x512.size inb_S2048x512_S2048x512_0_0).toLoadRect (harg2.unread x1)) (arg3.view.readAt (Elt F) (Rect.unit ![0, 0] S2048x128.size inb_S2048x128_S2048x128_0_0).toLoadRect (harg3.unread x2)) (arg5.view.readAt (Elt F) (Rect.unit ![0, 0] S512x2048.size inb_S512x2048_S512x2048_0_0).toLoadRect (harg5.unread x4)) (arg6.view.readAt (Elt F) (Rect.unit ![0, 0] S1024x512.size inb_S1024x512_S1024x512_0_0).toLoadRect (harg6.unread x5)) (arg7.view.readAt (Elt F) (Rect.unit ![0, 0] S1024x512.size inb_S1024x512_S1024x512_0_0).toLoadRect (harg7.unread x6)) (arg9.view.readCov [⟨(Rect.unit ![0, 0] S1024x32.size inb_S1024x32_S1024x32_0_0), k1_pay7 (arg1.view.readAt (Elt F) (Rect.unit ![0, 0] S1024x2048.size inb_S1024x2048_S1024x2048_0_0).toLoadRect (harg1.unread x0)) (arg4.view.readAt (Elt F) (Rect.unit ![0, 0] S2048x32.size inb_S2048x32_S2048x32_0_0).toLoadRect (harg4.unread x3))⟩] (Rect.unit ![0, 0] S1024x32.size inb_S1024x32_S1024x32_0_0).toLoadRect) = _
    rw [View.readCov_full arg9.view inb_S1024x32_S1024x32_0_0, e0, e1, e2, e3, e4, e5, e6]
  iexists _; isplitr; swap; · iexact HS0
  ipureintro
  refine (View.read_writes_full arg9.view _ inb_S1024x32_S1024x32_0_0 _ []).trans ?_
  have e0 : (arg1.view.readAt (Elt F) (Rect.unit ![0, 0] S1024x2048.size inb_S1024x2048_S1024x2048_0_0).toLoadRect (harg1.unread x0)) = x0 := (View.readAt_full arg1.view _ inb_S1024x2048_S1024x2048_0_0).trans (harg1.read_unread x0)
  have e3 : (arg4.view.readAt (Elt F) (Rect.unit ![0, 0] S2048x32.size inb_S2048x32_S2048x32_0_0).toLoadRect (harg4.unread x3)) = x3 := (View.readAt_full arg4.view _ inb_S2048x32_S2048x32_0_0).trans (harg4.read_unread x3)
  show k1_pay7 (arg1.view.readAt (Elt F) (Rect.unit ![0, 0] S1024x2048.size inb_S1024x2048_S1024x2048_0_0).toLoadRect (harg1.unread x0)) (arg4.view.readAt (Elt F) (Rect.unit ![0, 0] S2048x32.size inb_S2048x32_S2048x32_0_0).toLoadRect (harg4.unread x3)) = _
  rw [e0, e3]

set_option maxHeartbeats 4000000 in
theorem step1_B (c : Dev nD) (i : grid1.Coords) (arg1 : Memref sig .tc .vmem S1024x2048 .bf16) (harg1 : arg1.IsWhole) (arg2 : Memref sig .tc .vmem S2048x512 .bf16) (harg2 : arg2.IsWhole) (arg3 : Memref sig .tc .vmem S2048x128 .bf16) (harg3 : arg3.IsWhole) (arg4 : Memref sig .tc .vmem S2048x32 .bf16) (harg4 : arg4.IsWhole) (arg5 : Memref sig .tc .vmem S512x2048 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x2048 .f32) (harg8 : arg8.IsWhole) (arg9 : Memref sig .tc .vmem S1024x32 .bf16) (harg9 : arg9.IsWhole) (hc0 : ¬first1 i) (hc1 : ¬(k1_cond2 i = 1#1)) (hc2 : k1_cond3 i = 1#1)
    (x0 : Vec F S1024x2048 .bf16) (x1 : Vec F S2048x512 .bf16) (x2 : Vec F S2048x128 .bf16) (x3 : Vec F S2048x32 .bf16) (x4 : Vec F S512x2048 .bf16) (x5 : Vec F S1024x512 .bf16) (x6 : Vec F S1024x512 .bf16) (xo : Vec F S1024x2048 .f32) (xs : Vec F S1024x32 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (more1 x0 x1 x2 x4 x5 x6 xs xo) ∗ owns (c : Thread nD τ) arg9 fullShare (xs)) -∗ K ⟨⟩))
      ⊢ wpc c (cc1_body i arg1 harg1 arg2 harg2 arg3 harg3 arg4 harg4 arg5 harg5 arg6 harg6 arg7 harg7 arg8 harg8 arg9 harg9) K := by
  unfold wpc
  simp only [cc1_body_eq_skeleton]; unfold cc1_body_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine (View.read_writes_full arg8.view _ inb_S1024x2048_S1024x2048_0_0 _ []).trans ?_
    have e0 : (arg1.view.readAt (Elt F) (Rect.unit ![0, 0] S1024x2048.size inb_S1024x2048_S1024x2048_0_0).toLoadRect (harg1.unread x0)) = x0 := (View.readAt_full arg1.view _ inb_S1024x2048_S1024x2048_0_0).trans (harg1.read_unread x0)
    have e1 : (arg2.view.readAt (Elt F) (Rect.unit ![0, 0] S2048x512.size inb_S2048x512_S2048x512_0_0).toLoadRect (harg2.unread x1)) = x1 := (View.readAt_full arg2.view _ inb_S2048x512_S2048x512_0_0).trans (harg2.read_unread x1)
    have e2 : (arg3.view.readAt (Elt F) (Rect.unit ![0, 0] S2048x128.size inb_S2048x128_S2048x128_0_0).toLoadRect (harg3.unread x2)) = x2 := (View.readAt_full arg3.view _ inb_S2048x128_S2048x128_0_0).trans (harg3.read_unread x2)
    have e4 : (arg5.view.readAt (Elt F) (Rect.unit ![0, 0] S512x2048.size inb_S512x2048_S512x2048_0_0).toLoadRect (harg5.unread x4)) = x4 := (View.readAt_full arg5.view _ inb_S512x2048_S512x2048_0_0).trans (harg5.read_unread x4)
    have e5 : (arg6.view.readAt (Elt F) (Rect.unit ![0, 0] S1024x512.size inb_S1024x512_S1024x512_0_0).toLoadRect (harg6.unread x5)) = x5 := (View.readAt_full arg6.view _ inb_S1024x512_S1024x512_0_0).trans (harg6.read_unread x5)
    have e6 : (arg7.view.readAt (Elt F) (Rect.unit ![0, 0] S1024x512.size inb_S1024x512_S1024x512_0_0).toLoadRect (harg7.unread x6)) = x6 := (View.readAt_full arg7.view _ inb_S1024x512_S1024x512_0_0).trans (harg7.read_unread x6)
    have e7 : (arg8.view.readAt (Elt F) (Rect.unit ![0, 0] S1024x2048.size inb_S1024x2048_S1024x2048_0_0).toLoadRect (harg8.unread xo)) = xo := (View.readAt_full arg8.view _ inb_S1024x2048_S1024x2048_0_0).trans (harg8.read_unread xo)
    have e8 : (arg9.view.readAt (Elt F) (Rect.unit ![0, 0] S1024x32.size inb_S1024x32_S1024x32_0_0).toLoadRect (harg9.unread xs)) = xs := (View.readAt_full arg9.view _ inb_S1024x32_S1024x32_0_0).trans (harg9.read_unread xs)
    show more1 (arg1.view.readAt (Elt F) (Rect.unit ![0, 0] S1024x2048.size inb_S1024x2048_S1024x2048_0_0).toLoadRect (harg1.unread x0)) (arg2.view.readAt (Elt F) (Rect.unit ![0, 0] S2048x512.size inb_S2048x512_S2048x512_0_0).toLoadRect (harg2.unread x1)) (arg3.view.readAt (Elt F) (Rect.unit ![0, 0] S2048x128.size inb_S2048x128_S2048x128_0_0).toLoadRect (harg3.unread x2)) (arg5.view.readAt (Elt F) (Rect.unit ![0, 0] S512x2048.size inb_S512x2048_S512x2048_0_0).toLoadRect (harg5.unread x4)) (arg6.view.readAt (Elt F) (Rect.unit ![0, 0] S1024x512.size inb_S1024x512_S1024x512_0_0).toLoadRect (harg6.unread x5)) (arg7.view.readAt (Elt F) (Rect.unit ![0, 0] S1024x512.size inb_S1024x512_S1024x512_0_0).toLoadRect (harg7.unread x6)) (arg9.view.readAt (Elt F) (Rect.unit ![0, 0] S1024x32.size inb_S1024x32_S1024x32_0_0).toLoadRect (harg9.unread xs)) (arg8.view.readAt (Elt F) (Rect.unit ![0, 0] S1024x2048.size inb_S1024x2048_S1024x2048_0_0).toLoadRect (harg8.unread xo)) = _
    rw [e0, e1, e2, e4, e5, e6, e7, e8]
  iexists _; isplitr; · ipureintro; exact harg9.read_unread _
  iexact HS0

end KProof
-- ==== Proof.Region1.lean ====
module

public import proofs.«01_k».proof.Proof.Step1
public import Idealize.ShloMosaic.Lib.Pipeline.FrameBody
public import Idealize.ShloMosaic.Lib.Pipeline.TableIdle
public import Idealize.ShloMosaic.Lib.VecWindow

/-! The attention call as one stage of the program. -/

@[expose] public section

set_option maxRecDepth 16384

noncomputable section

namespace KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Cert.KernelIdeal Cert.KernelIdeal.Gen

variable {F : FTy → Type} [FloatOps F]
local notation "𝕄" => MT nD τ sig Unit (Elt F) ℕ UU ℕ

variable (m : (ℓ : Loc nD τ sig) → Buf (Elt F) ℓ)

/-- What a device's buffers hold once the gather is done. -/
abbrev W2 (c : Dev nD) : Valuation τ sig (Elt F) :=
  Function.update (Function.update (V1 m c) main_v3_0 (outK (insOf m) c)) main_v3_1 (outV (insOf m) c)

theorem W2_of (c : Dev nD) (r : Ref sig .tc) (h : r ∉ ([main_v3_0, main_v3_1] : List (Ref sig .tc))) : W2 m c r = V1 m c r := by
  simp only [W2, Function.update_of_ne (StableHlo.devRef_ne_of_ne (List.ne_of_not_mem_cons h) : (Proc.devRef .tc r : DevRef τ sig) ≠ Proc.devRef .tc main_v3_0), Function.update_of_ne (StableHlo.devRef_ne_of_ne (List.ne_of_not_mem_cons (List.not_mem_of_not_mem_cons h)) : (Proc.devRef .tc r : DevRef τ sig) ≠ Proc.devRef .tc main_v3_1)]

/-- Window w's block at step t, as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (W2 m c (Pipeline.arrRef spec1 w))

/-- Step n, counted round. -/
def nth1 (n : ℕ) : Fin cfg1.N := ⟨n % 4, by rw [show cfg1.N = 4 from N_1]; omega⟩
theorem nth1_val (t : Fin cfg1.N) : nth1 t.val = t := Fin.ext (by show t.val % 4 = t.val; have := Nat.lt_of_lt_of_eq t.isLt (show cfg1.N = 4 from N_1); omega)

/-- The rotary key, computed once. -/
def kr1 (c : Dev nD) : Vec F S1024x32 .bf16 := k1_pay7 (blk1 m c 0 t1_0) (blk1 m c 3 t1_0)

/-- The running sum after step n. -/
def acc1 (c : Dev nD) : ℕ → Vec F S1024x2048 .f32
  | 0 => share1 (blk1 m c 0 t1_0) (blk1 m c 1 t1_0) (blk1 m c 2 t1_0) (blk1 m c 4 t1_0) (blk1 m c 5 t1_0) (blk1 m c 6 t1_0) (kr1 m c)
  | n + 1 => more1 (blk1 m c 0 (nth1 (n + 1))) (blk1 m c 1 (nth1 (n + 1))) (blk1 m c 2 (nth1 (n + 1))) (blk1 m c 4 (nth1 (n + 1)))
      (blk1 m c 5 (nth1 (n + 1))) (blk1 m c 6 (nth1 (n + 1))) (kr1 m c) (acc1 c n)

abbrev krM : Memref sig .tc .vmem S1024x32 .bf16 := Memref.whole cc1_scratch0

/-- The other call's buffers. -/
def keep1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f))

theorem rest1_split (c : Dev nD) : (Pipeline.scopedRest (Ix := Unit) (Val := Elt F) (Name := ℕ) (U := UU) (Lvl := ℕ) spec1 c : sProp 𝕄)
    ⊢ iprop(keep1 c ∗ ∃ x : Vec F S1024x32 .bf16, owns (c : Thread nD τ) krM fullShare x) := by
  rw [scopedRest1_eq]; unfold keep1; simp only [owns_whole]
  iintro ⟨H0, H1, H2, H3, H4, H5, H6, H7, H8, H9, H10, H11, H12, H13, H14⟩
  isplitr [H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iexact H14
theorem rest1_join (c : Dev nD) (x : Vec F S1024x32 .bf16) : iprop(keep1 c ∗ owns (c : Thread nD τ) krM fullShare x)
    ⊢ (Pipeline.scopedRest (Ix := Unit) (Val := Elt F) (Name := ℕ) (U := UU) (Lvl := ℕ) spec1 c : sProp 𝕄) := by
  rw [scopedRest1_eq]; unfold keep1; simp only [owns_whole]
  iintro ⟨⟨H0, H1, H2, H3, H4, H5, H6, H7, H8, H9, H10, H11, H12, H13⟩, H14⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists x; iexact H14

/-- The call's own state before step n. -/
def phi1 (c : Dev nD) : ℕ → sProp 𝕄
  | 0 => iprop(keep1 c ∗ (∃ x : Vec F S1024x32 .bf16, owns (c : Thread nD τ) krM fullShare x) ∗ ∃ r, prngReg c r)
  | _ + 1 => iprop(keep1 c ∗ owns (c : Thread nD τ) krM fullShare (kr1 m c) ∗ ∃ r, prngReg c r)

def dat1 (c : Dev nD) : Dat τ (Elt F) Unit ℕ UU ℕ cfg1 c where
  A w := W2 m c (Pipeline.arrRef spec1 w)
  after w t := match w with
    | ⟨0, _⟩ => blk1 m c 0 t
    | ⟨1, _⟩ => blk1 m c 1 t
    | ⟨2, _⟩ => blk1 m c 2 t
    | ⟨3, _⟩ => blk1 m c 3 t
    | ⟨4, _⟩ => blk1 m c 4 t
    | ⟨5, _⟩ => blk1 m c 5 t
    | ⟨6, _⟩ => blk1 m c 6 t
    | ⟨7, _⟩ => acc1 m c t.val
  Φ t := phi1 m c t.val
  q _ := fullShare
  owed _ := 0

theorem A1_eq (c : Dev nD) (w : Fin cfg1.W) : (dat1 m c).A w = W2 m c (Pipeline.arrRef spec1 w) := by dsimp only [dat1]
theorem after1_0 (c : Dev nD) (t : Fin cfg1.N) : (dat1 m c).after 0 t = blk1 m c 0 t := by dsimp only [dat1]
theorem before1_0 (c : Dev nD) (t : Fin cfg1.N) (d) : (dat1 m c).before 0 t d = blk1 m c 0 t :=
  ((dat1 m c).before_in_eq_fetched 0 rfl (fun _ => rfl) (fun _ _ _ => rfl) (fun t => by rw [after1_0]; unfold Dat.blockOf blk1; rw [A1_eq]; try rfl) t d).trans
    (by unfold Dat.fetched Dat.blockOf blk1; rw [A1_eq]; try rfl)
theorem live1_0 (t : Fin cfg1.N) : cfg1.idle 0 (grid1.coords t) = false := rfl
theorem after1_1 (c : Dev nD) (t : Fin cfg1.N) : (dat1 m c).after 1 t = blk1 m c 1 t := by dsimp only [dat1]
theorem before1_1 (c : Dev nD) (t : Fin cfg1.N) (d) : (dat1 m c).before 1 t d = blk1 m c 1 t :=
  ((dat1 m c).before_in_eq_fetched 1 rfl (fun _ => rfl) (fun _ _ _ => rfl) (fun t => by rw [after1_1]; unfold Dat.blockOf blk1; rw [A1_eq]; try rfl) t d).trans
    (by unfold Dat.fetched Dat.blockOf blk1; rw [A1_eq]; try rfl)
theorem live1_1 (t : Fin cfg1.N) : cfg1.idle 1 (grid1.coords t) = false := rfl
theorem after1_2 (c : Dev nD) (t : Fin cfg1.N) : (dat1 m c).after 2 t = blk1 m c 2 t := by dsimp only [dat1]
theorem before1_2 (c : Dev nD) (t : Fin cfg1.N) (d) : (dat1 m c).before 2 t d = blk1 m c 2 t :=
  ((dat1 m c).before_in_eq_fetched 2 rfl (fun _ => rfl) (fun _ _ _ => rfl) (fun t => by rw [after1_2]; unfold Dat.blockOf blk1; rw [A1_eq]; try rfl) t d).trans
    (by unfold Dat.fetched Dat.blockOf blk1; rw [A1_eq]; try rfl)
theorem live1_2 (t : Fin cfg1.N) : cfg1.idle 2 (grid1.coords t) = false := rfl
theorem after1_3 (c : Dev nD) (t : Fin cfg1.N) : (dat1 m c).after 3 t = blk1 m c 3 t := by dsimp only [dat1]
theorem before1_3 (c : Dev nD) (t : Fin cfg1.N) (d) : (dat1 m c).before 3 t d = blk1 m c 3 t :=
  ((dat1 m c).before_in_eq_fetched 3 rfl (fun _ => rfl) (fun _ _ _ => rfl) (fun t => by rw [after1_3]; unfold Dat.blockOf blk1; rw [A1_eq]; try rfl) t d).trans
    (by unfold Dat.fetched Dat.blockOf blk1; rw [A1_eq]; try rfl)
theorem live1_3 (t : Fin cfg1.N) : cfg1.idle 3 (grid1.coords t) = false := rfl
theorem after1_4 (c : Dev nD) (t : Fin cfg1.N) : (dat1 m c).after 4 t = blk1 m c 4 t := by dsimp only [dat1]
theorem before1_4 (c : Dev nD) (t : Fin cfg1.N) (d) : (dat1 m c).before 4 t d = blk1 m c 4 t :=
  ((dat1 m c).before_in_eq_fetched 4 rfl (fun _ => rfl) (fun _ _ _ => rfl) (fun t => by rw [after1_4]; unfold Dat.blockOf blk1; rw [A1_eq]; try rfl) t d).trans
    (by unfold Dat.fetched Dat.blockOf blk1; rw [A1_eq]; try rfl)
theorem live1_4 (t : Fin cfg1.N) : cfg1.idle 4 (grid1.coords t) = false := rfl
theorem after1_5 (c : Dev nD) (t : Fin cfg1.N) : (dat1 m c).after 5 t = blk1 m c 5 t := by dsimp only [dat1]
theorem before1_5 (c : Dev nD) (t : Fin cfg1.N) (d) : (dat1 m c).before 5 t d = blk1 m c 5 t :=
  ((dat1 m c).before_in_eq_fetched 5 rfl (fun _ => rfl) (fun _ _ _ => rfl) (fun t => by rw [after1_5]; unfold Dat.blockOf blk1; rw [A1_eq]; try rfl) t d).trans
    (by unfold Dat.fetched Dat.blockOf blk1; rw [A1_eq]; try rfl)
theorem live1_5 (t : Fin cfg1.N) : cfg1.idle 5 (grid1.coords t) = false := rfl
theorem after1_6 (c : Dev nD) (t : Fin cfg1.N) : (dat1 m c).after 6 t = blk1 m c 6 t := by dsimp only [dat1]
theorem before1_6 (c : Dev nD) (t : Fin cfg1.N) (d) : (dat1 m c).before 6 t d = blk1 m c 6 t :=
  ((dat1 m c).before_in_eq_fetched 6 rfl (fun _ => rfl) (fun _ _ _ => rfl) (fun t => by rw [after1_6]; unfold Dat.blockOf blk1; rw [A1_eq]; try rfl) t d).trans
    (by unfold Dat.fetched Dat.blockOf blk1; rw [A1_eq]; try rfl)
theorem live1_6 (t : Fin cfg1.N) : cfg1.idle 6 (grid1.coords t) = false := rfl
theorem after1_7 (c : Dev nD) (t : Fin cfg1.N) : (dat1 m c).after 7 t = acc1 m c t.val := by dsimp only [dat1]
theorem live1_7 : ∀ t : Fin cfg1.N, cfg1.idle 7 (grid1.coords t) = false := by decide +kernel

/-- Whether the result's staging buffer is new at step n. -/
def new7 : ℕ → Bool
  | 0 => true
  | n + 1 => (0x8 : ℕ).testBit n
theorem new7_step : ∀ t : Fin cfg1.N,
    new7 (t.val + 1) = ((cfg1.win 7).flush t || (cfg1.idle 7 (cfg1.grid.coords t) && new7 t.val)) := by decide +kernel
theorem fresh7 (t : Fin cfg1.N) : cfg1.fresh 7 t.val = new7 t.val :=
  Pipeline.Cfg.fresh_tab cfg1 7 new7 rfl new7_step t.val (Nat.le_of_lt t.isLt)
theorem old7 : ∀ t : Fin cfg1.N, t.val ≠ 0 → cfg1.fresh 7 t.val = false := by
  intro t; rw [fresh7 t]; revert t; decide +kernel

theorem cond_first : ∀ t : Fin cfg1.N, first1 (grid1.coords t) ↔ t.val = 0 := by decide +kernel
theorem cond_store : ∀ t : Fin cfg1.N, k1_cond2 (grid1.coords t) = 1#1 ↔ t.val = 0 := by decide +kernel
theorem cond_add : ∀ t : Fin cfg1.N, k1_cond3 (grid1.coords t) = 1#1 ↔ t.val ≠ 0 := by decide +kernel

theorem before1_7 (c : Dev nD) (t : Fin cfg1.N) (h : t.val ≠ 0) (d) : (dat1 m c).before 7 t d = acc1 m c (t.val - 1) := by
  rw [Dat.before_out_traj _ 7 rfl (fun _ _ => rfl) (fun t _ hi _ => absurd ((live1_7 t).symm.trans hi) Bool.false_ne_true) t.val t rfl d,
    if_neg (by rw [old7 t h]; exact Bool.false_ne_true)]
  dsimp only [dat1]

def pre1 (c : Dev nD) (t : Fin cfg1.N) : sProp 𝕄 :=
  iprop((dat1 m c).Φ t.castSucc ∗ (dat1 m c).owesAt () t.castSucc ∗ (∃ d, owns (c : Thread nD τ) (st1_0 t) fullShare ((dat1 m c).before 0 t d)) ∗ (∃ d, owns (c : Thread nD τ) (st1_1 t) fullShare ((dat1 m c).before 1 t d)) ∗ (∃ d, owns (c : Thread nD τ) (st1_2 t) fullShare ((dat1 m c).before 2 t d)) ∗ (∃ d, owns (c : Thread nD τ) (st1_3 t) fullShare ((dat1 m c).before 3 t d)) ∗ (∃ d, owns (c : Thread nD τ) (st1_4 t) fullShare ((dat1 m c).before 4 t d)) ∗ (∃ d, owns (c : Thread nD τ) (st1_5 t) fullShare ((dat1 m c).before 5 t d)) ∗ (∃ d, owns (c : Thread nD τ) (st1_6 t) fullShare ((dat1 m c).before 6 t d)) ∗ (∃ d, owns (c : Thread nD τ) (st1_7 t) fullShare ((dat1 m c).before 7 t d)))
def post1 (c : Dev nD) (t : Fin cfg1.N) : sProp 𝕄 :=
  iprop((dat1 m c).Φ t.succ ∗ (dat1 m c).owesAt () t.succ ∗ (dat1 m c).leavesExact 0 t ∗ (dat1 m c).leavesExact 1 t ∗ (dat1 m c).leavesExact 2 t ∗ (dat1 m c).leavesExact 3 t ∗ (dat1 m c).leavesExact 4 t ∗ (dat1 m c).leavesExact 5 t ∗ (dat1 m c).leavesExact 6 t ∗ (dat1 m c).leavesExact 7 t)

set_option maxHeartbeats 8000000 in
theorem sound1_A (c : Dev nD) (t : Fin cfg1.N) (h : t.val = 0) : pre1 m c t ⊢ wpc c (bodyAt1 t) (fun _ => post1 m c t) := by
  unfold pre1 post1
  simp only [before1_0, before1_1, before1_2, before1_3, before1_4, before1_5, before1_6]
  rw [show (dat1 m c).owesAt () t.succ = (dat1 m c).owesAt () t.castSucc from rfl]
  obtain rfl : t = t1_0 := Fin.ext h
  rw [show (dat1 m c).Φ t1_0.castSucc = phi1 m c 0 from rfl, show (dat1 m c).Φ t1_0.succ = phi1 m c 1 from rfl]
  unfold phi1
  rw [show (dat1 m c).leavesExact 0 t1_0 = owns (c : Thread nD τ) (st1_0 t1_0) fullShare ((dat1 m c).after 0 t1_0) from by unfold Dat.leavesExact; rw [live1_0 t1_0], after1_0]
  rw [show (dat1 m c).leavesExact 1 t1_0 = owns (c : Thread nD τ) (st1_1 t1_0) fullShare ((dat1 m c).after 1 t1_0) from by unfold Dat.leavesExact; rw [live1_1 t1_0], after1_1]
  rw [show (dat1 m c).leavesExact 2 t1_0 = owns (c : Thread nD τ) (st1_2 t1_0) fullShare ((dat1 m c).after 2 t1_0) from by unfold Dat.leavesExact; rw [live1_2 t1_0], after1_2]
  rw [show (dat1 m c).leavesExact 3 t1_0 = owns (c : Thread nD τ) (st1_3 t1_0) fullShare ((dat1 m c).after 3 t1_0) from by unfold Dat.leavesExact; rw [live1_3 t1_0], after1_3]
  rw [show (dat1 m c).leavesExact 4 t1_0 = owns (c : Thread nD τ) (st1_4 t1_0) fullShare ((dat1 m c).after 4 t1_0) from by unfold Dat.leavesExact; rw [live1_4 t1_0], after1_4]
  rw [show (dat1 m c).leavesExact 5 t1_0 = owns (c : Thread nD τ) (st1_5 t1_0) fullShare ((dat1 m c).after 5 t1_0) from by unfold Dat.leavesExact; rw [live1_5 t1_0], after1_5]
  rw [show (dat1 m c).leavesExact 6 t1_0 = owns (c : Thread nD τ) (st1_6 t1_0) fullShare ((dat1 m c).after 6 t1_0) from by unfold Dat.leavesExact; rw [live1_6 t1_0], after1_6]
  rw [show (dat1 m c).leavesExact 7 t1_0 = owns (c : Thread nD τ) (st1_7 t1_0) fullShare ((dat1 m c).after 7 t1_0) from by unfold Dat.leavesExact; rw [live1_7 t1_0], after1_7]
  rw [show acc1 m c t1_0.val = share1 (blk1 m c 0 t1_0) (blk1 m c 1 t1_0) (blk1 m c 2 t1_0) (blk1 m c 4 t1_0) (blk1 m c 5 t1_0) (blk1 m c 6 t1_0) (k1_pay7 (blk1 m c 0 t1_0) (blk1 m c 3 t1_0)) from rfl, show kr1 m c = k1_pay7 (blk1 m c 0 t1_0) (blk1 m c 3 t1_0) from rfl]
  iintro ⟨⟨HK, ⟨%xs, HX⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (step1_A c (grid1.coords t1_0) _ _ _ _ _ _ _ _ _ _ _ _ _ _ _ _ _ _  ((cond_first _).mpr h) ((cond_store _).mpr h) (fun e => (cond_add _).mp e h) (blk1 m c 0 t1_0) (blk1 m c 1 t1_0) (blk1 m c 2 t1_0) (blk1 m c 3 t1_0) (blk1 m c 4 t1_0) (blk1 m c 5 t1_0) (blk1 m c 6 t1_0) _ _ (fun _ => _))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iexact HX
  iintro ⟨H0, H1, H2, H3, H4, H5, H6, H7, HX⟩
  isplitl [HK HX Hg]
  · isplitl [HK]; · iexact HK
    isplitl [HX]; · iexact HX
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 8000000 in
theorem sound1_B (c : Dev nD) (t : Fin cfg1.N) (h : t.val ≠ 0) : pre1 m c t ⊢ wpc c (bodyAt1 t) (fun _ => post1 m c t) := by
  unfold pre1 post1
  simp only [before1_0, before1_1, before1_2, before1_3, before1_4, before1_5, before1_6]
  rw [show (dat1 m c).owesAt () t.succ = (dat1 m c).owesAt () t.castSucc from rfl]
  obtain ⟨n, hn⟩ : ∃ n, t.val = n + 1 := ⟨t.val - 1, by omega⟩
  simp only [before1_7 m c t h]
  rw [show (dat1 m c).Φ t.castSucc = phi1 m c t.val from rfl, show (dat1 m c).Φ t.succ = phi1 m c (t.val + 1) from rfl, hn]
  rw [show n + 1 - 1 = n from rfl]
  unfold phi1
  rw [show (dat1 m c).leavesExact 0 t = owns (c : Thread nD τ) (st1_0 t) fullShare ((dat1 m c).after 0 t) from by unfold Dat.leavesExact; rw [live1_0 t], after1_0]
  rw [show (dat1 m c).leavesExact 1 t = owns (c : Thread nD τ) (st1_1 t) fullShare ((dat1 m c).after 1 t) from by unfold Dat.leavesExact; rw [live1_1 t], after1_1]
  rw [show (dat1 m c).leavesExact 2 t = owns (c : Thread nD τ) (st1_2 t) fullShare ((dat1 m c).after 2 t) from by unfold Dat.leavesExact; rw [live1_2 t], after1_2]
  rw [show (dat1 m c).leavesExact 3 t = owns (c : Thread nD τ) (st1_3 t) fullShare ((dat1 m c).after 3 t) from by unfold Dat.leavesExact; rw [live1_3 t], after1_3]
  rw [show (dat1 m c).leavesExact 4 t = owns (c : Thread nD τ) (st1_4 t) fullShare ((dat1 m c).after 4 t) from by unfold Dat.leavesExact; rw [live1_4 t], after1_4]
  rw [show (dat1 m c).leavesExact 5 t = owns (c : Thread nD τ) (st1_5 t) fullShare ((dat1 m c).after 5 t) from by unfold Dat.leavesExact; rw [live1_5 t], after1_5]
  rw [show (dat1 m c).leavesExact 6 t = owns (c : Thread nD τ) (st1_6 t) fullShare ((dat1 m c).after 6 t) from by unfold Dat.leavesExact; rw [live1_6 t], after1_6]
  rw [show (dat1 m c).leavesExact 7 t = owns (c : Thread nD τ) (st1_7 t) fullShare ((dat1 m c).after 7 t) from by unfold Dat.leavesExact; rw [live1_7 t], after1_7]
  rw [hn, show acc1 m c (n + 1) = more1 (blk1 m c 0 t) (blk1 m c 1 t) (blk1 m c 2 t) (blk1 m c 4 t) (blk1 m c 5 t) (blk1 m c 6 t) (kr1 m c) (acc1 m c n) from by rw [acc1, ← hn, nth1_val]]
  iintro ⟨⟨HK, HX, Hg⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (step1_B c (grid1.coords t) _ _ _ _ _ _ _ _ _ _ _ _ _ _ _ _ _ _  (fun e => h ((cond_first _).mp e)) (fun e => h ((cond_store _).mp e)) ((cond_add _).mpr h) (blk1 m c 0 t) (blk1 m c 1 t) (blk1 m c 2 t) (blk1 m c 3 t) (blk1 m c 4 t) (blk1 m c 5 t) (blk1 m c 6 t) (acc1 m c n) (kr1 m c) (fun _ => _))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iexact HX
  iintro ⟨H0, H1, H2, H3, H4, H5, H6, H7, HX⟩
  isplitl [HK HX Hg]
  · isplitl [HK]; · iexact HK
    isplitl [HX]; · iexact HX
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem obl1 (c : Dev nD) : BodyObligation (dat1 m c) (defs₀ (F := F)) 𝒱₀ () Set.univ := fun t => by
  rw [bigSep_W1, bigSep_W1]
  unfold defs₀
  rw [Defs.onTc_tc]
  exact triple_restated (if h : t.val = 0 then sound1_A m c t h else sound1_B m c t h) rfl .rfl fun _ => .rfl

end KProof
-- ==== Proof.Segs.lean ====
module

public import proofs.«01_k».proof.Proof.Region1
public import Idealize.ShloMosaic.Lib.Pipeline.FrameBody
public import Idealize.ShloMosaic.Lib.Pipeline.RegionTalk
public import Idealize.ShloMosaic.Lib.Pipeline.ValueKit.Geometry
public import Idealize.ShloMosaic.Lib.VecWindow

/-! The two calls as stages of the whole program. -/

@[expose] public section

set_option maxRecDepth 16384

noncomputable section

namespace KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Cert.KernelIdeal Cert.KernelIdeal.Gen

variable {F : FTy → Type} [FloatOps F]
local notation "𝕄" => MT nD τ sig Unit (Elt F) ℕ UU ℕ

variable (m : (ℓ : Loc nD τ sig) → Buf (Elt F) ℓ)

def pdats : (p : Fin 2) → (c : Dev nD) → Dat τ (Elt F) Unit ℕ UU ℕ (cfgs p) c
  | ⟨0, _⟩ => dat0 m
  | ⟨1, _⟩ => dat1 m

/-- What a device's buffers hold once the attention is done, and at the end. -/
abbrev W3 (c : Dev nD) : Valuation τ sig (Elt F) := Function.update (W2 m c) main_v4 (acc1 m c 3)
abbrev W4 (c : Dev nD) : Valuation τ sig (Elt F) := StableHlo.after hostOps2 (W3 m c)

theorem W3_of (c : Dev nD) (r : Ref sig .tc) (h : r ∉ ([main_v4] : List (Ref sig .tc))) : W3 m c r = W2 m c r := by
  simp only [W3, Function.update_of_ne (StableHlo.devRef_ne_of_ne (List.ne_of_not_mem_cons h) : (Proc.devRef .tc r : DevRef τ sig) ≠ Proc.devRef .tc main_v4)]
theorem W4_of (c : Dev nD) (r : Ref sig .tc) (h : r ∉ hostOps2_W) : W4 m c r = W3 m c r :=
  StableHlo.after_of_writes_sub hostOps2 _ hostOps2_writes h
theorem W4_arg (c : Dev nD) (r : Ref sig .tc) (h0 : r ∉ hostOps0_W) (h2 : r ∉ ([main_v3_0, main_v3_1] : List (Ref sig .tc))) (h3 : r ∉ ([main_v4] : List (Ref sig .tc)))
    (h4 : r ∉ hostOps2_W) : W4 m c r = m ((c : Thread nD τ).loc r) :=
  (W4_of m c r h4).trans ((W3_of m c r h3).trans ((W2_of m c r h2).trans ((V1_of m c r h0).trans rfl)))

abbrev adm' : (p : Fin 2) → (pcfgs (F := F) p).Adm := adm

theorem kit0 : Pipeline.PLaunchFacts (nD := nD) (τ := τ) (pcfgs (F := F)) 0 where
  cellOf_inj a := by rw [Subsingleton.elim a adm]; exact cellOf_inj
  win := launch0.win
  pre := Pipeline.PreFacts.none _
  block_pos := launch0.block_pos
  arr_whole := launch0.arr_whole
  stage_whole := launch0.stage_whole
theorem kit1 : Pipeline.PLaunchFacts (nD := nD) (τ := τ) (pcfgs (F := F)) 1 where
  cellOf_inj a := by rw [Subsingleton.elim a adm]; exact cellOf_inj
  win := launch1.win
  pre := Pipeline.PreFacts.none _
  block_pos := launch1.block_pos
  arr_whole := launch1.arr_whole
  stage_whole := launch1.stage_whole

/-- The arrays of each call, and the other buffers. -/
abbrev arr0 : Finset (DevRef τ sig) := Pipeline.arrRefs (τ := τ) spec0
abbrev arr1 : Finset (DevRef τ sig) := Pipeline.arrRefs (τ := τ) spec1
abbrev oth0 : Finset (DevRef τ sig) := Pipeline.ucRefs τ sig \ arr0
abbrev oth1 : Finset (DevRef τ sig) := Pipeline.ucRefs τ sig \ arr1

theorem arr_mem0 (w : Fin cfg0.W) : (Proc.devRef .tc (Pipeline.arrRef spec0 w) : DevRef τ sig) ∈ arr0 := by
  revert w; decide
theorem arr_mem1 (w : Fin cfg1.W) : (Proc.devRef .tc (Pipeline.arrRef spec1 w) : DevRef τ sig) ∈ arr1 := by
  revert w; decide
theorem arr_sub0 : arr0 ⊆ Pipeline.ucRefs τ sig := by decide
theorem arr_sub1 : arr1 ⊆ Pipeline.ucRefs τ sig := by decide

theorem own_facts0 : Pipeline.OwnSemFacts spec0 osem0 := by decide

theorem held_none (c : Dev nD) (W : Valuation τ sig (Elt F)) : (StableHlo.held (c.tc : Thread nD τ) ∅ W : sProp 𝕄) = BI.emp := by
  unfold StableHlo.held; exact BI.bigSep_empty

theorem rest0 (c : Dev nD) : ∀ b ∈ oth0 \ ∅, W2 m c b = V1 m c b := by
  intro b hb
  rw [Finset.sdiff_empty] at hb
  have h := (Finset.mem_sdiff.mp hb).2
  have h0 : b ≠ Proc.devRef .tc main_v3_0 := fun e => h (e ▸ arr_mem0 4)
  have h1 : b ≠ Proc.devRef .tc main_v3_1 := fun e => h (e ▸ arr_mem0 5)
  simp only [W2, Function.update_of_ne h1, Function.update_of_ne h0]
theorem rest1 (c : Dev nD) : ∀ b ∈ oth1 \ ∅, W3 m c b = W2 m c b := by
  intro b hb
  rw [Finset.sdiff_empty] at hb
  have h := (Finset.mem_sdiff.mp hb).2
  have h0 : b ≠ Proc.devRef .tc main_v4 := fun e => h (e ▸ arr_mem1 7)
  simp only [W3, Function.update_of_ne h0]

theorem arrAt0_4 (c : Dev nD) : (dat0 m c).arrAt 4 cfg0.N = outK (insOf m) c :=
  Pipeline.Dat.arrAt_eq_of_after_last (dat0 m c) 4 t0_0 (by decide +kernel) _ (fun j => by rw [after0_4]; rfl)
theorem arrAt0_5 (c : Dev nD) : (dat0 m c).arrAt 5 cfg0.N = outV (insOf m) c :=
  Pipeline.Dat.arrAt_eq_of_after_last (dat0 m c) 5 t0_0 (by decide +kernel) _ (fun j => by rw [after0_5]; rfl)
theorem arrAt1_7 (c : Dev nD) : (dat1 m c).arrAt 7 cfg1.N = acc1 m c 3 :=
  Pipeline.Dat.arrAt_eq_of_after_last (dat1 m c) 7 t1_3 (by decide +kernel) _ (fun j => by rw [after1_7]; rfl)

theorem W2_v3_0 (c : Dev nD) : W2 m c main_v3_0 = outK (insOf m) c := by
  simp only [W2, Function.update_of_ne (StableHlo.devRef_ne_of_ne (by decide : main_v3_0 ≠ main_v3_1) : (Proc.devRef .tc main_v3_0 : DevRef τ sig) ≠ Proc.devRef .tc main_v3_1), Function.update_self]
theorem W2_v3_1 (c : Dev nD) : W2 m c main_v3_1 = outV (insOf m) c := by simp only [W2, Function.update_self]
theorem W3_v4 (c : Dev nD) : W3 m c main_v4 = acc1 m c 3 := by simp only [W3, Function.update_self]

theorem hW0 (c : Dev nD) (w : Fin cfg0.W) : (dat0 m c).arrAt w cfg0.N = W2 m c (Proc.devRef .tc (Pipeline.arrRef spec0 w)) := by
  have hin (w : Fin cfg0.W) (h : (cfg0.win w).isOut = false) (hr : Pipeline.arrRef spec0 w ∉ ([main_v3_0, main_v3_1] : List (Ref sig .tc))) :
      (dat0 m c).arrAt w cfg0.N = W2 m c (Proc.devRef .tc (Pipeline.arrRef spec0 w)) :=
    ((dat0 m c).arrAt_in w h _).trans ((A0_eq m c w).trans (W2_of m c _ hr).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact (arrAt0_4 m c).trans (W2_v3_0 m c).symm
  | ⟨5, _⟩ => exact (arrAt0_5 m c).trans (W2_v3_1 m c).symm
theorem hW1 (c : Dev nD) (w : Fin cfg1.W) : (dat1 m c).arrAt w cfg1.N = W3 m c (Proc.devRef .tc (Pipeline.arrRef spec1 w)) := by
  have hin (w : Fin cfg1.W) (h : (cfg1.win w).isOut = false) (hr : Pipeline.arrRef spec1 w ∉ ([main_v4] : List (Ref sig .tc))) :
      (dat1 m c).arrAt w cfg1.N = W3 m c (Proc.devRef .tc (Pipeline.arrRef spec1 w)) :=
    ((dat1 m c).arrAt_in w h _).trans ((A1_eq m c w).trans (W3_of m c _ hr).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact (arrAt1_7 m c).trans (W3_v4 m c).symm

abbrev Yk (c : Dev nD) : sProp 𝕄 := semVal (barCell c) 0

theorem hin0 (c : Dev nD) : iprop(Pipeline.scopedRest (Pipeline.pin (pcfgs (F := F)) adm 0).spec c ∗ (∃ r, prngReg c r) ∗ StableHlo.held (c.tc : Thread nD τ) ∅ (V1 m c) ∗ Xk (insOf m) c)
    ⊢ (pdats m 0 c).Φ 0 := by
  rw [show (pdats m 0 c).Φ 0 = iprop(Pipeline.scopedRest spec0 c ∗ (∃ r, prngReg c r) ∗ Xk (insOf m) c) from rfl]
  iintro ⟨Hs, Hp, -, HX⟩
  isplitl [Hs]; · iexact Hs
  isplitl [Hp]; · iexact Hp
  iexact HX
theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W2 m c) ∗ Pipeline.ownSems0 osem0 c ∗ Yk c) := by
  rw [show (pdats m 0 c).Φ (Fin.last _) = iprop(Pipeline.scopedRest spec0 c ∗ (∃ r, prngReg c r) ∗ Pipeline.ownSems0 osem0 c ∗ semVal (barCell c) 0) from rfl, held_none]
  iintro ⟨Hs, Hp, HO, HY⟩
  isplitl [Hs]; · iexact Hs
  isplitl [Hp]; · iexact Hp
  isplitr; · iempintro
  isplitl [HO]; · iexact HO
  iexact HY

theorem hι0 (c : Dev nD) (w : Fin cfg0.W) (s : Fin (cfg0.win w).nbuf) : lv ((c : Thread nD τ), .dma ((cfg0.win w).sem s)) () ≤ 0 := by
  have : ∀ (w : Fin cfg0.W) (s : Fin (cfg0.win w).nbuf), ((cfg0.win w).sem s).val < 6 := by decide
  have h := this w s
  show (if (dec ((cfg0.win w).sem s)).1 = 1 then _ else if (dec ((cfg0.win w).sem s)).1 = 3 then 9 else 0) ≤ 0
  have e : (dec ((cfg0.win w).sem s)).1 = 0 := by
    unfold dec
    rw [Nat.sub_eq_zero_of_le (Nat.le_of_lt h)]; rfl
  rw [e]; exact Nat.le_refl 0

set_option backward.isDefEq.respectTransparency.types false in
def seg_gather : Pipeline.RegionSeg (pcfgs (F := F)) adm (pdats m) () defs₀ 𝒱₀ L lv 0 :=
  Pipeline.RegionSeg.ofTalk (pcfgs (F := F)) adm (pdats m) () defs₀ 𝒱₀ L lv 0 osem0 own_facts0
    ∅ oth0 (Finset.empty_subset _) kit0 rfl (fun c => (obl0 m c).loose)
    (fun _ => 0) (fun c => Ow c 0) (fun c => (owed0_zero m c).trans (zero_add _).symm) (owed0_last m) (fun _ => rfl) (fun _ _ => ite_self _)
    (V1 m) (W2 m) (rest0 m)
    (Tk (insOf m)) Yk (Xk (insOf m)) Yk (hopen0 (insOf m)) (hin0 m) (hout0 m)
    (fun c => by iintro H; imodintro; iexact H)
    (fun _ => 0)
    ⟨fun c w s => by rw [L_tc]; exact Finset.mem_singleton_self _, fun c w s => hι0 c w s, fun c t g i h => by
      have e : (pdats m 0 c).owed t = if t.val = 0 then Ow c 0 else 0 := rfl
      rw [e] at h
      split at h
      · exact Ow_lv c 0 g i h
      · exact absurd h (Nat.lt_irrefl 0)⟩
    (fun _ => iprop(emp))
    (fun c w => A0_eq m c w) (fun c w => hW0 m c w)

theorem hin1 (c : Dev nD) : iprop(Pipeline.scopedRest (Pipeline.pin (pcfgs (F := F)) adm 1).spec c ∗ (∃ r, prngReg c r) ∗ StableHlo.held (c.tc : Thread nD τ) ∅ (W2 m c) ∗ emp)
    ⊢ (pdats m 1 c).Φ 0 := by
  rw [show (pdats m 1 c).Φ 0 = iprop(keep1 c ∗ (∃ x : Vec F S1024x32 .bf16, owns (c : Thread nD τ) krM fullShare x) ∗ ∃ r, prngReg c r) from rfl]
  iintro ⟨Hs, Hp, -, -⟩
  ihave Hs := (rest1_split (F := F) c) $$ Hs
  icases Hs with ⟨Hk, Hx⟩
  isplitl [Hk]; · iexact Hk
  isplitl [Hx]; · iexact Hx
  iexact Hp
theorem hout1 (c : Dev nD) : (pdats m 1 c).Φ (Fin.last (Pipeline.pin (pcfgs (F := F)) adm 1).N)
    ⊢ iprop(Pipeline.scopedRest (Pipeline.pin (pcfgs (F := F)) adm 1).spec c ∗ (∃ r, prngReg c r) ∗ StableHlo.held (c.tc : Thread nD τ) ∅ (W3 m c) ∗ Pipeline.ownSems0 (fun k : PEmpty => k.elim) c ∗ emp) := by
  rw [show (pdats m 1 c).Φ (Fin.last _) = iprop(keep1 c ∗ owns (c : Thread nD τ) krM fullShare (kr1 m c) ∗ ∃ r, prngReg c r) from rfl, held_none,
    show (Pipeline.ownSems0 (fun k : PEmpty => k.elim) c : sProp 𝕄) = BI.emp from by unfold Pipeline.ownSems0; exact BI.bigSep_empty]
  iintro ⟨Hk, Hx, Hp⟩
  isplitl [Hk Hx]
  · iapply (rest1_join c (kr1 m c)); isplitl [Hk]; · iexact Hk
    iexact Hx
  isplitl [Hp]; · iexact Hp
  isplitr; · iempintro
  isplitr <;> iempintro

set_option backward.isDefEq.respectTransparency.types false in
def seg_attend : Pipeline.RegionSeg (pcfgs (F := F)) adm (pdats m) () defs₀ 𝒱₀ L lv 1 :=
  Pipeline.RegionSeg.ofTalk (pcfgs (F := F)) adm (pdats m) () defs₀ 𝒱₀ L lv 1 (fun k : PEmpty => k.elim) (Pipeline.OwnSemFacts.none spec1)
    ∅ oth1 (Finset.empty_subset _) kit1 rfl (fun c => (obl1 m c).loose)
    (fun _ => 0) (fun _ => 0) (fun c => (zero_add _).symm) (fun c => rfl) (fun _ => rfl) (fun _ _ => ite_self _)
    (W2 m) (W3 m) (rest1 m)
    (fun _ => iprop(emp)) (fun _ => iprop(emp)) (fun _ => iprop(emp)) (fun _ => iprop(emp))
    (fun c => by iintro ⟨-, -, -⟩; imodintro; iempintro) (hin1 m) (hout1 m)
    (fun c => by iintro H; imodintro; iexact H)
    (fun _ => 100)
    ⟨fun c w s => by rw [L_tc]; exact Finset.mem_singleton_self _, fun c w s => by
      show (if _ = 1 then 2 + (_ : Fin 3).val else if _ = 3 then 9 else 0) ≤ 100
      split
      · have := Fin.isLt (dec ((cfg1.win w).sem s)).2.2; omega
      · split <;> decide, fun c t g i h => absurd h (Nat.lt_irrefl 0)⟩
    (fun c => Yk c)
    (fun c w => A1_eq m c w) (fun c w => hW1 m c w)

end KProof
-- ==== Proof.Launch.lean ====
module

public import proofs.«01_k».proof.Proof.Segs
public import Idealize.ShloMosaic.Lib.Pipeline.FrameBody
public import Idealize.ShloMosaic.Lib.Pipeline.RegionTalk
public import Idealize.ShloMosaic.Lib.VecWindow

/-! The launch: the records made and handed out, and the whole run. -/

@[expose] public section

set_option maxRecDepth 16384

noncomputable section

namespace KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Cert.KernelIdeal Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)

/-! ## What is owed at launch, and the credit for it -/

theorem bar_eq (c d : Dev nD) : barCell c = barCell d ↔ c = d := ⟨fun h => congrArg (fun g : GSem nD τ sig => g.1.1) h, fun h => h ▸ rfl⟩
theorem qn_eq (k k' : Fin 4) (t t' h h' : Fin 3) : qn k t h = qn k' t' h' ↔ (k = k' ∧ t = t' ∧ h = h') :=
  ⟨fun e => by
    have e' := congrArg dec e
    rw [dec_qn, dec_qn] at e'
    exact ⟨congrArg (fun x : Fin 4 × Fin 3 × Fin 3 => x.1) e', congrArg (fun x : Fin 4 × Fin 3 × Fin 3 => x.2.1) e', congrArg (fun x : Fin 4 × Fin 3 × Fin 3 => x.2.2) e'⟩,
    fun ⟨a, b, d⟩ => by rw [a, b, d]⟩
theorem q_eq (c d : Dev nD) (k k' : Fin 4) (t t' h h' : Fin 3) : qCell c k t h = qCell d k' t' h' ↔ (c = d ∧ k = k' ∧ t = t' ∧ h = h') :=
  ⟨fun e => ⟨congrArg (fun g : GSem nD τ sig => g.1.1) e, (qn_eq k k' t t' h h').mp (SemLoc.dma.inj (congrArg (fun g : GSem nD τ sig => g.2) e))⟩,
    fun ⟨a, b, d, e⟩ => by rw [a, b, d, e]⟩
theorem bar_ne_q (c d : Dev nD) (k : Fin 4) (t h : Fin 3) : (barCell c = qCell d k t h) = False :=
  eq_false fun e => nomatch congrArg (fun g : GSem nD τ sig => g.2) e
theorem q_ne_bar (c d : Dev nD) (k : Fin 4) (t h : Fin 3) : (qCell d k t h = barCell c) = False :=
  eq_false fun e => nomatch congrArg (fun g : GSem nD τ sig => g.2) e
theorem eq_lft (c d : Dev nD) : c = lft d ↔ d = rgt c := ⟨fun h => by rw [h, rgt_lft], fun h => by rw [h, lft_rgt]⟩
theorem eq_rgt (c d : Dev nD) : c = rgt d ↔ d = lft c := ⟨fun h => by rw [h, lft_rgt], fun h => by rw [h, rgt_lft]⟩
theorem eq_par (c d : Dev nD) : c = par d ↔ d = par c := ⟨fun h => by rw [h, par_par], fun h => by rw [h, par_par]⟩

theorem bar_lft (c d : Dev nD) : barCell c = barCell (lft d) ↔ d = rgt c := (bar_eq _ _).trans (eq_lft c d)
theorem bar_rgt (c d : Dev nD) : barCell c = barCell (rgt d) ↔ d = lft c := (bar_eq _ _).trans (eq_rgt c d)
theorem bar_par (c d : Dev nD) : barCell c = barCell (par d) ↔ d = par c := (bar_eq _ _).trans (eq_par c d)
theorem q_rgt (c d : Dev nD) (k k' : Fin 4) (t t' h h' : Fin 3) : qCell c k t h = qCell (rgt d) k' t' h' ↔ (d = lft c ∧ k = k' ∧ t = t' ∧ h = h') := by
  rw [q_eq, eq_rgt]
theorem q_par (c d : Dev nD) (k k' : Fin 4) (t t' h h' : Fin 3) : qCell c k t h = qCell (par d) k' t' h' ↔ (d = par c ∧ k = k' ∧ t = t' ∧ h = h') := by
  rw [q_eq, eq_par]

theorem owed_bar (d c : Dev nD) : Ow d 0 (barCell c) () = (if d = par c then 1 else 0) + (if d = lft c then 1 else 0) + (if d = rgt c then 1 else 0) := by
  simp only [Ow, owed, pays, List.drop_zero, List.foldr, Pi.add_apply, Finsupp.add_apply, tallyAt_apply, bar_lft, bar_rgt, bar_par, bar_ne_q, false_and, if_false, Pi.zero_apply,
    Finsupp.coe_zero, Nat.zero_add, Nat.add_zero, and_true]
theorem owed_q1 (d c : Dev nD) (t h : Fin 3) : Ow d 0 (qCell c 1 t h) () = if d = lft c then N else 0 := by
  have e : ∀ (t h : Fin 3), Ow d 0 (qCell c 1 t h) () = if d = lft c then N else 0 := by
    intro t h
    simp only [Ow, owed, pays, List.drop_zero, List.foldr, Pi.add_apply, Finsupp.add_apply, tallyAt_apply, q_rgt, q_par, q_ne_bar, false_and, if_false, Pi.zero_apply,
      Finsupp.coe_zero, Nat.zero_add, and_true]
    generalize hN : N = n
    fin_cases t <;> fin_cases h <;> simp
  exact e t h
theorem owed_q3 (d c : Dev nD) (t h : Fin 3) : Ow d 0 (qCell c 3 t h) () = if d = par c then N else 0 := by
  have e : ∀ (t h : Fin 3), Ow d 0 (qCell c 3 t h) () = if d = par c then N else 0 := by
    intro t h
    simp only [Ow, owed, pays, List.drop_zero, List.foldr, Pi.add_apply, Finsupp.add_apply, tallyAt_apply, q_rgt, q_par, q_ne_bar, false_and, if_false, Pi.zero_apply,
      Finsupp.coe_zero, Nat.zero_add, and_true]
    generalize hN : N = n
    fin_cases t <;> fin_cases h <;> simp
  exact e t h

abbrev O₀ (c : Dev nD) : CellTallies nD τ sig Unit := Ow c 0

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (par c) fun _ => 1, Finset.sum_ite_eq' Finset.univ (lft c) fun _ => 1, Finset.sum_ite_eq' Finset.univ (rgt c) fun _ => 1,
    if_pos (Finset.mem_univ _), if_pos (Finset.mem_univ _), if_pos (Finset.mem_univ _)]
theorem launch_q1 (c : Dev nD) (t h : Fin 3) :
    tallyOn (qCell c 1 t h) (launchCredit (Pipeline.owing O₀) 0 (qCell c 1 t h)) = (tallyAt (qCell c 1 t h) () N : CellTallies nD τ sig Unit) := by
  unfold tallyAt; refine congrArg _ (Finsupp.ext fun u => ?_); cases u
  rw [Pipeline.launchCredit_owing, Finsupp.single_eq_same, Finset.sum_congr rfl fun d _ => owed_q1 d c t h, Finset.sum_ite_eq' Finset.univ (lft c) fun _ => N,
    if_pos (Finset.mem_univ _)]
theorem launch_q3 (c : Dev nD) (t h : Fin 3) :
    tallyOn (qCell c 3 t h) (launchCredit (Pipeline.owing O₀) 0 (qCell c 3 t h)) = (tallyAt (qCell c 3 t h) () N : CellTallies nD τ sig Unit) := by
  unfold tallyAt; refine congrArg _ (Finsupp.ext fun u => ?_); cases u
  rw [Pipeline.launchCredit_owing, Finsupp.single_eq_same, Finset.sum_congr rfl fun d _ => owed_q3 d c t h, Finset.sum_ite_eq' Finset.univ (par c) fun _ => N,
    if_pos (Finset.mem_univ _)]

/-- The semaphores a device is paid at by others. -/
def inEmb : Bool × TH ↪ SemLoc sig := ⟨fun x => .dma (qn (if x.1 then 3 else 1) x.2.1 x.2.2), fun a b e => by
  obtain ⟨a1, a2, a3⟩ := a
  obtain ⟨b1, b2, b3⟩ := b
  obtain ⟨h1, h2, h3⟩ := (qn_eq _ _ _ _ _ _).mp (SemLoc.dma.inj e)
  dsimp only at h1 h2 h3
  subst h2 h3
  have hh : ∀ a b : Bool, (if a then (3 : Fin 4) else 1) = (if b then 3 else 1) → a = b := by decide
  have h := hh a1 b1 h1
  rw [h]⟩

theorem bools (Φ : Bool → sProp 𝕄) : bigSep Finset.univ Φ = iprop(Φ false ∗ Φ true) :=
  bigSep_univ_eq_bigSepL [false, true] (by decide) (by decide) Φ

theorem creds_launch (c : Dev nD) : (Pipeline.launchCred O₀ c : sProp 𝕄) ⊢ creds (F := F) c := by
  unfold Pipeline.launchCred creds
  rw [bigSep_univ_at _ (SemLoc.reg barrier0), launch_bar]
  refine sep_mono_right ?_
  have hsub : Finset.univ.map inEmb ⊆ Finset.univ.erase (SemLoc.reg barrier0) := fun x hx => by
    obtain ⟨p, -, rfl⟩ := Finset.mem_map.mp hx
    exact Finset.mem_erase.mpr ⟨(fun e => nomatch e), Finset.mem_univ _⟩
  refine (bigSep_subset hsub).trans ?_
  rw [bigSep_map, bigSep_univ_prod, bools]
  refine BI.sep_mono (bigSep_mono fun p _ => ?_) (bigSep_mono fun p _ => ?_)
  · exact Entails.of_eq (congrArg cred (launch_q1 c p.1 p.2))
  · exact Entails.of_eq (congrArg cred (launch_q3 c p.1 p.2))

/-! ## The cells and the rights to pay -/

def barEmb : Dev nD ↪ GSem nD τ sig := ⟨fun c => barCell c, fun _ _ h => (bar_eq _ _).mp h⟩
def qEmb : Dev nD × KK ↪ GSem nD τ sig := ⟨fun p => qCell p.1 p.2.1 p.2.2.1 p.2.2.2, fun a b e => by
  obtain ⟨a1, a2, a3, a4⟩ := a
  obtain ⟨b1, b2, b3, b4⟩ := b
  obtain ⟨h1, h2, h3, h4⟩ := (q_eq _ _ _ _ _ _ _ _).mp e
  dsimp only at h1 h2 h3 h4
  subst h1 h2 h3 h4
  rfl⟩
theorem barS_map : barS = Finset.univ.map barEmb := by unfold barS; rw [Finset.map_eq_image]; rfl
theorem qS_map : qS = Finset.univ.map qEmb := by unfold qS; rw [Finset.map_eq_image]; rfl
theorem cells_disjoint : Disjoint barS qS := by
  rw [barS_map, qS_map, Finset.disjoint_left]
  rintro g h₁ h₂
  obtain ⟨c, -, rfl⟩ := Finset.mem_map.mp h₁
  obtain ⟨p, -, h⟩ := Finset.mem_map.mp h₂
  exact nomatch congrArg (fun g : GSem nD τ sig => g.2) h

def barTok : Dev nD × D ↪ GSem nD τ sig × ℕ × D := ⟨fun p => (barCell p.1, 0, p.2), fun a b e =>
  Prod.ext ((bar_eq _ _).mp (congrArg (fun x : GSem nD τ sig × ℕ × D => x.1) e)) (congrArg (fun x : GSem nD τ sig × ℕ × D => x.2.2) e)⟩
def qTok : Dev nD × KK ↪ GSem nD τ sig × ℕ × D := ⟨fun p => (qEmb p, 0, 0), fun a b e =>
  qEmb.injective (congrArg (fun x : GSem nD τ sig × ℕ × D => x.1) e)⟩
@[irreducible] def allTok : Finset (GSem nD τ sig × ℕ × D) := Finset.univ.map barTok ∪ Finset.univ.map qTok
theorem tok_disjoint : Disjoint (Finset.univ.map barTok) (Finset.univ.map qTok) := by
  rw [Finset.disjoint_left]
  rintro g h₁ h₂
  obtain ⟨c, -, rfl⟩ := Finset.mem_map.mp h₁
  obtain ⟨p, -, h⟩ := Finset.mem_map.mp h₂
  exact nomatch congrArg (fun x : GSem nD τ sig × ℕ × D => x.1.2) h

theorem threes (Φ : D → sProp 𝕄) : bigSep Finset.univ Φ = iprop(Φ 0 ∗ Φ 1 ∗ Φ 2) :=
  bigSep_univ_eq_bigSepL [0, 1, 2] (by decide) (by decide) Φ

theorem toks_eq : bigSep allTok (fun x => (dutyTok ER x.1 x.2.1 x.2.2 : sProp 𝕄))
    = iprop((bigSep Finset.univ fun c : Dev nD => iprop(dutyTok ER (barCell c) 0 (0 : D) ∗ dutyTok ER (barCell c) 0 (1 : D) ∗ dutyTok ER (barCell c) 0 (2 : D)))
      ∗ bigSep Finset.univ fun c : Dev nD => iprop((bigSep Finset.univ fun p : TH => dutyTok ER (qCell c 0 p.1 p.2) 0 (0 : D))
        ∗ (bigSep Finset.univ fun p : TH => dutyTok ER (qCell c 1 p.1 p.2) 0 (0 : D))
        ∗ (bigSep Finset.univ fun p : TH => dutyTok ER (qCell c 2 p.1 p.2) 0 (0 : D))
        ∗ (bigSep Finset.univ fun p : TH => dutyTok ER (qCell c 3 p.1 p.2) 0 (0 : D)))) := by
  unfold allTok
  rw [bigSep_union tok_disjoint, bigSep_map, bigSep_map, bigSep_univ_prod, bigSep_univ_prod]
  refine congrArg₂ _ (bigSep_congr fun c _ => ?_) (bigSep_congr fun c _ => ?_)
  · rw [threes]; rfl
  · rw [byKind]; rfl

theorem sepD (Φ Ψ : Dev nD → sProp 𝕄) : (bigSep Finset.univ fun c => iprop(Φ c ∗ Ψ c)) = iprop(bigSep Finset.univ Φ ∗ bigSep Finset.univ Ψ) := bigSep_sep' _ Φ Ψ
theorem around (e : Dev nD ≃ Dev nD) (Φ : Dev nD → sProp 𝕄) : bigSep Finset.univ Φ ⊢ bigSep Finset.univ fun c => Φ (e c) :=
  Entails.of_eq (bigSep_univ_equiv e Φ)

/-- Every right handed to the device that pays with it. -/
theorem toks_around : bigSep allTok (fun x => (dutyTok ER x.1 x.2.1 x.2.2 : sProp 𝕄)) ⊢ bigSep Finset.univ fun c : Dev nD => toks (F := F) c := by
  rw [toks_eq]
  unfold toks
  rw [sepD, sepD, sepD, sepD, sepD]
  rw [sepD, sepD, sepD, sepD, sepD, sepD]
  refine BI.sep_mono (BI.sep_mono (around ringE.symm _) (BI.sep_mono (around ringE _) (around parE _))) (BI.sep_mono (fun _ h => h) (BI.sep_mono (around ringE _) (BI.sep_mono (fun _ h => h) (around parE _))))

/-- The launch element. -/
def u₀ : UU :=
  (initOf (Pipeline.cells (Pipeline.pin (pcfgs (F := F)) adm) cellOf_inj) (Pipeline.launchToks (Pipeline.pin (pcfgs (F := F)) adm) cellOf_inj),
    launchOf barS qS allTok)

/-- A resource all of which lies with device c₀. -/
def at1 (c₀ : Dev nD) (X : sProp 𝕄) (c : Dev nD) : sProp 𝕄 := if c = c₀ then X else iprop(emp)
theorem at1_all (c₀ : Dev nD) (X : sProp 𝕄) : bigSep Finset.univ (at1 c₀ X) = X := by
  rw [bigSep_univ_at _ c₀, bigSep_congr (s := Finset.univ.erase c₀) (Ψ := fun _ => (BI.emp : sProp 𝕄))
      fun c hc => by unfold at1; rw [if_neg (Finset.ne_of_mem_erase hc)]; rfl, BI.bigSep_emp_const]
  unfold at1; rw [if_pos rfl]
  exact BI.equiv_iff.mp sep_emp
def G : Dev nD → sProp 𝕄 := at1 0 (BI.own (ER (launchOf barS qS allTok)))

/-! ## Handing out -/

abbrev E0 (c : Dev nD) : sProp 𝕄 := iprop((∃ r, prngReg c r) ∗ Tk (insOf m) c ∗ ∃ W, owes (c : Thread nD τ) (Ow c 0) W)
abbrev E1 (c : Dev nD) : sProp 𝕄 := iprop((∃ r, prngReg c r) ∗ Yk (F := F) c ∗ ∃ W, owes (c : Thread nD τ) (0 : CellTallies nD τ sig Unit) W)

def records (κ : GSem nD τ sig → ℕ) : sProp 𝕄 := iprop(invAll (insOf m) κ ∗ reachedBar (F := F))
instance records_persistent (κ : GSem nD τ sig → ℕ) : BI.Persistent (records m κ) := by unfold records invAll reachedBar; infer_instance

/-- What is device c's own. -/
def own1 (c : Dev nD) : sProp 𝕄 :=
  iprop(atPos ER (barCell c) 0 ∅ 0 ∗ (bigSep Finset.univ fun p : KK => openTok ER (cellK c p)) ∗ toks (F := F) c)
def bundle (c : Dev nD) : sProp 𝕄 := iprop(creds (F := F) c ∗ owes (c : Thread nD τ) (O₀ c) ∅ ∗ ∃ r, prngReg c r)

theorem E0_intro (κ : GSem nD τ sig → ℕ) (c : Dev nD) : iprop(records m κ ∗ (own1 (F := F) c ∗ bundle (F := F) c)) ⊢ E0 m c := by
  unfold bundle own1 records E0 Tk
  iintro ⟨⟨#HI, #HR⟩, ⟨Ha, Ho, Ht⟩, Hc, HO, Hp⟩
  isplitl [Hp]; · iexact Hp
  isplitr [HO]
  · iexists κ
    isplitr; · iexact HI
    isplitr; · iexact HR
    isplitl [Ha]; · iexact Ha
    isplitl [Ho]; · iexact Ho
    isplitl [Ht]; · iexact Ht
    iexact Hc
  iexists ∅; iexact HO

theorem bar_sem (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

theorem init_core (c : Dev nD) : iprop(unscopedSems0 c ∗ owes (c : Thread nD τ) (O₀ c) ∅ ∗ Pipeline.launchCred O₀ c ∗ prngReg c (ρ c) ∗ G (F := F) c)
    ⊢ (iprop(bundle (F := F) c ∗ (semVal (barCell c) 0 ∗ G (F := F) c)) : sProp 𝕄) := by
  rw [bar_sem]
  unfold bundle
  iintro ⟨Hus, HO, Hcr, Hp, HG⟩
  ihave Hc := (creds_launch (F := F) c) $$ Hcr
  isplitl [Hc HO Hp]
  · isplitl [Hc]; · iexact Hc
    isplitl [HO]; · iexact HO
    iexists (ρ c); iexact Hp
  isplitl [Hus] <;> iassumption

theorem sems_map : bigSep Finset.univ (fun c : Dev nD => (semVal (barCell c) 0 : sProp 𝕄)) ⊢ bigSep barS (fun g => (semVal g 0 : sProp 𝕄)) := by
  rw [barS_map]
  exact Entails.of_eq (bigSep_map (s := Finset.univ) barEmb (Φ := fun g : GSem nD τ sig => (semVal g 0 : sProp 𝕄))).symm
theorem pos_map : bigSep barS (fun g => (atPos ER g 0 ∅ 0 : sProp 𝕄)) ⊢ bigSep Finset.univ (fun c : Dev nD => (atPos ER (barCell c) 0 ∅ 0 : sProp 𝕄)) := by
  rw [barS_map]
  exact Entails.of_eq (bigSep_map (s := Finset.univ) barEmb (Φ := fun g : GSem nD τ sig => (atPos ER g 0 ∅ 0 : sProp 𝕄)))
theorem open_map : bigSep qS (fun g => (openTok ER g : sProp 𝕄)) ⊢ bigSep Finset.univ (fun c : Dev nD => bigSep Finset.univ fun p : KK => (openTok ER (cellK c p) : sProp 𝕄)) := by
  rw [qS_map]
  refine Entails.of_eq ?_
  rw [bigSep_map, bigSep_univ_prod]
  rfl
theorem recs (κ : GSem nD τ sig → ℕ) : iprop((bigSep (barS ∪ qS) fun g => (cellInv ER (gatherRd (insOf m)) (κ g) g : sProp 𝕄)) ∗ bigSep barS fun g => reached ER g 0) ⊢ records m κ := by
  unfold records invAll reachedBar allS
  exact .rfl

theorem own_all : iprop((bigSep barS fun g => (atPos ER g 0 ∅ 0 : sProp 𝕄)) ∗ (bigSep qS fun g => (openTok ER g : sProp 𝕄)) ∗ bigSep allTok fun x => (dutyTok ER x.1 x.2.1 x.2.2 : sProp 𝕄))
    ⊢ bigSep Finset.univ fun c : Dev nD => own1 (F := F) c := by
  unfold own1
  rw [sepD, sepD]
  exact BI.sep_mono pos_map (BI.sep_mono open_map toks_around)

theorem init_E : iprop((bigSep Finset.univ fun c : Dev nD => iprop(unscopedSems0 c ∗ owes (c : Thread nD τ) (O₀ c) ∅ ∗ Pipeline.launchCred O₀ c ∗ prngReg c (ρ c) ∗ G (F := F) c)) ∗ levAts L lv)
      ⊢ (|={Set.univ}=> bigSep Finset.univ (E0 m) : sProp 𝕄) := by
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ G (F := F) c))
      ⊢ (bigSep Finset.univ fun c : Dev nD => iprop(bundle (F := F) c ∗ (semVal (barCell c) 0 ∗ G (F := F) c)) : sProp 𝕄) from bigSep_mono fun c _ => init_core ρ c) $$ H
  ihave H2 := (Entails.of_eq (sepD _ _)) $$ H'; icases H2 with ⟨HB, H3⟩
  ihave H4 := (Entails.of_eq (sepD _ _)) $$ H3; icases H4 with ⟨Hv, HG⟩
  ihave Hu := (show bigSep Finset.univ (G (F := F)) ⊢ BI.own (ER (launchOf barS qS allTok)) from
    Entails.of_eq (at1_all (F := F) 0 (BI.own (ER (launchOf barS qS allTok))))) $$ HG
  imod (Rounds.fund_launch ER (gatherRd (insOf m)) cells_disjoint (fun g _ h => h) allTok) $$ [Hv Hu] with ⟨%κ, -, #Hinv, #Hr, Hat, Hopen, Htok⟩
  · isplitl [Hv]
    · iapply (sems_map (F := F)) $$ Hv
    · iexact Hu
  imodintro
  iapply (bigSep_with_persistent (R := records m κ) (Φ := fun c => iprop(own1 (F := F) c ∗ bundle (F := F) c)) fun c _ => E0_intro m κ c)
  isplitr
  · iapply (recs m κ)
    isplitr; · iexact Hinv
    iexact Hr
  iapply (Entails.of_eq (sepD (fun c => own1 (F := F) c) (fun c => bundle (F := F) c)).symm)
  isplitr [HB]
  · iapply (own_all (F := F))
    isplitl [Hat]; · iexact Hat
    isplitl [Hopen]; · iexact Hopen
    iexact Htok
  · iexact HB

end KProof
-- ==== Proof.Run.lean ====
module

public import proofs.«01_k».proof.Proof.Launch
public import Idealize.ShloMosaic.Lib.Pipeline.FrameBody
public import Idealize.ShloMosaic.Lib.Pipeline.RegionTalk
public import Idealize.ShloMosaic.Lib.Pipeline.Regions
public import Idealize.ShloMosaic.Lib.VecWindow

/-! The whole run on the thirty-two devices. -/

@[expose] public section

set_option maxRecDepth 16384

noncomputable section

namespace KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Cert.KernelIdeal Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)

abbrev HS : Type _ := Pipeline.HostSeg (Ix := Unit) (Name := ℕ) (U := UU) (Lvl := ℕ) (pcfgs (F := F)) defs₀ 𝒱₀ L lv

def first : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E0 m)
def last : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) (E1 (F := F))

def segs : List (Pipeline.Seg (pcfgs (F := F)) adm (pdats m) () defs₀ 𝒱₀ L lv) :=
  [.host (first m), .region (seg_gather m), .region (seg_attend m), .host (last m)]

theorem pre_gather (c : Dev nD) : iprop(StableHlo.held (c : Thread nD τ) (Pipeline.ucRefs τ sig) (V1 m c) ∗ E0 m c) ⊢ (seg_gather m).pre c := by
  show _ ⊢ iprop(StableHlo.held (c.tc : Thread nD τ) arr0 (V1 m c) ∗ (∃ r, prngReg c r)
    ∗ (StableHlo.held (c.tc : Thread nD τ) oth0 (V1 m c) ∗ emp) ∗ Tk (insOf m) c ∗ ∃ Wd, owes (c : Thread nD τ) (0 + Ow c 0) Wd)
  rw [zero_add, StableHlo.held_sub_split (c : Thread nD τ) arr_sub0 (V1 m c)]
  unfold E0
  iintro ⟨⟨Ha, Hb⟩, Hp, HT, HO⟩
  isplitl [Ha]; · iexact Ha
  isplitl [Hp]; · iexact Hp
  isplitl [Hb]
  · isplitl [Hb]; · iexact Hb
    iempintro
  isplitl [HT]; · iexact HT
  iexact HO
theorem post_gather (c : Dev nD) : (seg_gather m).post c ⊢ iprop(StableHlo.held (c : Thread nD τ) (Pipeline.ucRefs τ sig) (W2 m c) ∗ E1 (F := F) c) := by
  show iprop(StableHlo.held (c.tc : Thread nD τ) arr0 (W2 m c) ∗ (∃ r, prngReg c r)
    ∗ (StableHlo.held (c.tc : Thread nD τ) oth0 (W2 m c) ∗ emp) ∗ Yk c ∗ ∃ Wd, owes (c : Thread nD τ) (0 : CellTallies nD τ sig Unit) Wd) ⊢ _
  rw [StableHlo.held_sub_split (c : Thread nD τ) arr_sub0 (W2 m c)]
  unfold E1
  iintro ⟨Ha, Hp, ⟨Hb, -⟩, HY, HO⟩
  isplitl [Ha Hb]
  · isplitl [Ha]; · iexact Ha
    iexact Hb
  isplitl [Hp]; · iexact Hp
  isplitl [HY]; · iexact HY
  iexact HO
theorem pre_attend (c : Dev nD) : iprop(StableHlo.held (c : Thread nD τ) (Pipeline.ucRefs τ sig) (W2 m c) ∗ E1 (F := F) c) ⊢ (seg_attend m).pre c := by
  show _ ⊢ iprop(StableHlo.held (c.tc : Thread nD τ) arr1 (W2 m c) ∗ (∃ r, prngReg c r)
    ∗ (StableHlo.held (c.tc : Thread nD τ) oth1 (W2 m c) ∗ Yk c) ∗ emp ∗ ∃ Wd, owes (c : Thread nD τ) (0 + 0) Wd)
  rw [zero_add, StableHlo.held_sub_split (c : Thread nD τ) arr_sub1 (W2 m c)]
  unfold E1
  iintro ⟨⟨Ha, Hb⟩, Hp, HY, HO⟩
  isplitl [Ha]; · iexact Ha
  isplitl [Hp]; · iexact Hp
  isplitl [Hb HY]
  · isplitl [Hb]; · iexact Hb
    iexact HY
  isplitr; · iempintro
  iexact HO
theorem post_attend (c : Dev nD) : (seg_attend m).post c ⊢ iprop(StableHlo.held (c : Thread nD τ) (Pipeline.ucRefs τ sig) (W3 m c) ∗ E1 (F := F) c) := by
  show iprop(StableHlo.held (c.tc : Thread nD τ) arr1 (W3 m c) ∗ (∃ r, prngReg c r)
    ∗ (StableHlo.held (c.tc : Thread nD τ) oth1 (W3 m c) ∗ Yk c) ∗ emp ∗ ∃ Wd, owes (c : Thread nD τ) (0 : CellTallies nD τ sig Unit) Wd) ⊢ _
  rw [StableHlo.held_sub_split (c : Thread nD τ) arr_sub1 (W3 m c)]
  unfold E1
  iintro ⟨Ha, Hp, ⟨Hb, HY⟩, -, HO⟩
  isplitl [Ha Hb]
  · isplitl [Ha]; · iexact Ha
    iexact Hb
  isplitl [Hp]; · iexact Hp
  isplitl [HY]; · iexact HY
  iexact HO

abbrev T₀ (c : Dev nD) : sProp 𝕄 := iprop(StableHlo.held (c : Thread nD τ) (Pipeline.ucRefs τ sig) (V0 m c) ∗ E0 m c)
abbrev Tₙ (c : Dev nD) : sProp 𝕄 := iprop(StableHlo.held (c : Thread nD τ) (Pipeline.ucRefs τ sig) (W4 m c) ∗ Yk (F := F) c)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have hsplit : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ G (F := F) c)) : sProp 𝕄) := by
    rw [← sepD]
    exact bigSep_mono fun c _ => by rw [← Pipeline.unscopedBufs_held (Ix := Unit) (Name := ℕ) (U := UU) (Lvl := ℕ) c (V0 m c)]; exact BI.Entails.refl _
  iintro ⟨H, Hla⟩
  ihave H' := hsplit $$ H
  icases H' with ⟨Hh, Hr⟩
  imod (init_E m ρ) $$ [Hr Hla] with HE
  · isplitl [Hr]; · iexact Hr
    iexact Hla
  imodintro
  unfold T₀
  iapply (Entails.of_eq (sepD (fun c => StableHlo.held (c : Thread nD τ) (Pipeline.ucRefs τ sig) (V0 m c)) (E0 m)).symm)
  isplitl [Hh]; · iexact Hh
  iexact HE

theorem unscoped_eq : ∀ sm : SemLoc sig, sm.isScoped .tc = false → sm = .reg barrier0 := by decide

/-- What a final state holds on device c. -/
def Ends (c : Dev nD) (s : MemSt nD τ sig (Elt F)) : Prop :=
  s.mem ((c.tc : Thread nD τ).loc main_arg0) = m ((c.tc : Thread nD τ).loc main_arg0) ∧
  s.mem ((c.tc : Thread nD τ).loc main_arg1) = m ((c.tc : Thread nD τ).loc main_arg1) ∧
  s.mem ((c.tc : Thread nD τ).loc main_arg2) = m ((c.tc : Thread nD τ).loc main_arg2) ∧
  s.mem ((c.tc : Thread nD τ).loc main_arg3) = m ((c.tc : Thread nD τ).loc main_arg3) ∧
  s.mem ((c.tc : Thread nD τ).loc main_arg4) = m ((c.tc : Thread nD τ).loc main_arg4) ∧
  s.mem ((c.tc : Thread nD τ).loc main_arg5) = m ((c.tc : Thread nD τ).loc main_arg5) ∧
  s.mem ((c.tc : Thread nD τ).loc main_arg6) = m ((c.tc : Thread nD τ).loc main_arg6) ∧
  s.mem ((c.tc : Thread nD τ).loc main_arg7) = m ((c.tc : Thread nD τ).loc main_arg7) ∧
  s.mem ((c.tc : Thread nD τ).loc main_v5) = W4 m c main_v5

theorem fin_state (c : Dev nD) (s' : Phys nD τ sig (Elt F)) :
    iprop(Tₙ m c ∗ SI s') ⊢ (|={Set.univ}=> iprop(⌜Ends m c s'.mem ∧ s'.mem.sem (barCell c) = 0⌝ ∗ SI s') : sProp 𝕄) := by
  dsimp only [Tₙ, Yk]
  unfold StableHlo.held
  iintro ⟨⟨Hh, Hb0⟩, HSI⟩
  icombine HSI Hb0 gives %hb
  ihave Hr := (pointsTo_read_all (Pipeline.ucRefs τ sig) (fun b => ((c : Thread nD τ).1, b)) (W4 m c) s') $$ [Hh HSI]
  · isplitl [Hh] <;> iassumption
  icases Hr with ⟨%h, HSI⟩
  imodintro
  isplitr
  · ipureintro
    have hm (r : Ref sig .tc) (hr : (Proc.devRef .tc r : DevRef τ sig) ∈ Pipeline.ucRefs τ sig) := h (Proc.devRef .tc r) hr
    exact ⟨⟨(hm main_arg0 (by decide)).trans (W4_arg m c main_arg0 (by decide) (by decide) (by decide) (by decide)),
      (hm main_arg1 (by decide)).trans (W4_arg m c main_arg1 (by decide) (by decide) (by decide) (by decide)),
      (hm main_arg2 (by decide)).trans (W4_arg m c main_arg2 (by decide) (by decide) (by decide) (by decide)),
      (hm main_arg3 (by decide)).trans (W4_arg m c main_arg3 (by decide) (by decide) (by decide) (by decide)),
      (hm main_arg4 (by decide)).trans (W4_arg m c main_arg4 (by decide) (by decide) (by decide) (by decide)),
      (hm main_arg5 (by decide)).trans (W4_arg m c main_arg5 (by decide) (by decide) (by decide) (by decide)),
      (hm main_arg6 (by decide)).trans (W4_arg m c main_arg6 (by decide) (by decide) (by decide) (by decide)),
      (hm main_arg7 (by decide)).trans (W4_arg m c main_arg7 (by decide) (by decide) (by decide) (by decide)),
      hm main_v5 (by decide)⟩, by simpa using hb⟩
  iexact HSI

set_option backward.isDefEq.respectTransparency.types false in
theorem run_main : θ_run defs (onTc (τ := τ) (main (F := F))) ⟨m, fun _ => 0, ρ⟩
    (fun r => (∀ c : Dev nD, Ends m c r.2) ∧ r.2.sem = fun _ => 0) :=
  Pipeline.θ_run_regions_kit_sems (pcfgs (F := F)) adm (pdats m) () cellOf_inj EP defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [at1_all]; iexact HX)
    (T₀ := T₀ m) (Tₙ := Tₙ m)
    (hch := by
      refine ⟨fun c => .rfl, fun c => pre_gather m c, fun c => (post_gather m c).trans (pre_attend m c), fun c => post_attend m c, fun c => ?_⟩
      show iprop(StableHlo.held (c : Thread nD τ) (Pipeline.ucRefs τ sig) (W4 m c) ∗ E1 (F := F) c)
        ⊢ iprop(Tₙ m c ∗ ∃ W, owes (c : Thread nD τ) (0 : CellTallies nD τ sig Unit) W)
      unfold E1
      iintro ⟨Hh, -, HY, HO⟩
      isplitr [HO]
      · isplitl [Hh] <;> iassumption
      · iexact HO)
    (hinit := init m ρ)
    (QY := fun c s => Ends m c s ∧ s.sem (barCell c) = 0)
    (hfin := fun c s' => fin_state m c s')
    (hQ := fun s h hs => ⟨fun c => (h c).1,
      sem_eq_zero hs fun c sm hsm => by
        obtain rfl := unscoped_eq sm hsm
        exact (h c).2⟩)

/-- The part of it that every value claim leaves aside: the arguments are untouched and the counters are at zero. -/
theorem frame_main : θ_run defs (onTc (τ := τ) (main (F := F))) ⟨m, fun _ => 0, ρ⟩
    (fun r => (∀ c : Dev nD, r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7)) ∧ r.2.sem = fun _ => 0) :=
  (θ_run defs _ _).mono
    (fun _ h => ⟨fun c => by
      obtain ⟨h0, h1, h2, h3, h4, h5, h6, h7, -⟩ := h.1 c
      exact ⟨h0, h1, h2, h3, h4, h5, h6, h7⟩, h.2⟩) (run_main m ρ)

end KProof
-- ==== Proof.BlockAt.lean ====
module

public import proofs.«01_k».proof.Proof.Segs
public import Idealize.ShloMosaic.Lib.Pointwise
public import Idealize.ShloMosaic.Lib.Pipeline.ValueKit
public import Idealize.ShloMosaic.Lib.StableHlo.ReadAt

/-! Each window's block, read at an index of the array it is cut from. -/

@[expose] public section

set_option maxRecDepth 16384

noncomputable section

namespace KProof

open Idealize.ShloMosaic Idealize.ShloMosaic.TcCoe Idealize.SL.Sem
open Cert.KernelIdeal Cert.KernelIdeal.Gen

variable (m : (ℓ : Loc nD τ sig) → Buf (Elt Ideal) ℓ)

theorem ix0_0 (t : Fin cfg0.N) : (cfg0.win 0).index t = ![0, 0] := by revert t; decide +kernel
theorem b0_0 (c : Dev nD) (t : Fin cfg0.N) (i : Fin 1024) (j : Fin 2048) : blk0 m c 0 t (ix2 i j) = V1 m c main_v2 (ix2 i j) := by
  blk_ext! [blk0, ix0_0 t]
theorem ix0_1 (t : Fin cfg0.N) : (cfg0.win 1).index t = ![0, 0] := by revert t; decide +kernel
theorem b0_1 (c : Dev nD) (t : Fin cfg0.N) (i : Fin 2048) (j : Fin 128) : blk0 m c 1 t (ix2 i j) = V1 m c main_arg1 (ix2 i j) := by
  blk_ext! [blk0, ix0_1 t]
theorem ix0_2 (t : Fin cfg0.N) : (cfg0.win 2).index t = ![0, 0] := by revert t; decide +kernel
theorem b0_2 (c : Dev nD) (t : Fin cfg0.N) (i : Fin 128) (j : Fin 2048) : blk0 m c 2 t (ix2 i j) = V1 m c main_arg2 (ix2 i j) := by
  blk_ext! [blk0, ix0_2 t]
theorem ix0_3 (t : Fin cfg0.N) : (cfg0.win 3).index t = ![0, 0] := by revert t; decide +kernel
theorem b0_3 (c : Dev nD) (t : Fin cfg0.N) (i : Fin 128) (j : Fin 2048) : blk0 m c 3 t (ix2 i j) = V1 m c main_arg3 (ix2 i j) := by
  blk_ext! [blk0, ix0_3 t]
theorem ix1_0 (t : Fin cfg1.N) : (cfg1.win 0).index t = ![0, 0] := by revert t; decide +kernel
theorem b1_0 (c : Dev nD) (t : Fin cfg1.N) (i : Fin 1024) (j : Fin 2048) : blk1 m c 0 t (ix2 i j) = W2 m c main_v1 (ix2 i j) := by
  blk_ext! [blk1, ix1_0 t]
theorem ix1_1 (t : Fin cfg1.N) : (cfg1.win 1).index t = ![0, t.val] := by revert t; decide +kernel
theorem b1_1 (c : Dev nD) (t : Fin cfg1.N) (i : Fin 2048) (j : Fin 512) (h : 512 * t.val + j.val < 2048) : blk1 m c 1 t (ix2 i j) = W2 m c main_arg4 (ix2 i ⟨512 * t.val + j.val, h⟩) := by
  blk_ext! [blk1, ix1_1 t]
theorem ix1_2 (t : Fin cfg1.N) : (cfg1.win 2).index t = ![0, t.val] := by revert t; decide +kernel
theorem b1_2 (c : Dev nD) (t : Fin cfg1.N) (i : Fin 2048) (j : Fin 128) (h : 128 * t.val + j.val < 512) : blk1 m c 2 t (ix2 i j) = W2 m c main_arg5 (ix2 i ⟨128 * t.val + j.val, h⟩) := by
  blk_ext! [blk1, ix1_2 t]
theorem ix1_3 (t : Fin cfg1.N) : (cfg1.win 3).index t = ![0, 0] := by revert t; decide +kernel
theorem b1_3 (c : Dev nD) (t : Fin cfg1.N) (i : Fin 2048) (j : Fin 32) : blk1 m c 3 t (ix2 i j) = W2 m c main_arg6 (ix2 i j) := by
  blk_ext! [blk1, ix1_3 t]
theorem ix1_4 (t : Fin cfg1.N) : (cfg1.win 4).index t = ![t.val, 0] := by revert t; decide +kernel
theorem b1_4 (c : Dev nD) (t : Fin cfg1.N) (i : Fin 512) (j : Fin 2048) (h : 512 * t.val + i.val < 2048) : blk1 m c 4 t (ix2 i j) = W2 m c main_arg7 (ix2 ⟨512 * t.val + i.val, h⟩ j) := by
  blk_ext! [blk1, ix1_4 t]
theorem ix1_5 (t : Fin cfg1.N) : (cfg1.win 5).index t = ![0, t.val] := by revert t; decide +kernel
theorem b1_5 (c : Dev nD) (t : Fin cfg1.N) (i : Fin 1024) (j : Fin 512) (h : 512 * t.val + j.val < 2048) : blk1 m c 5 t (ix2 i j) = W2 m c main_v3_0 (ix2 i ⟨512 * t.val + j.val, h⟩) := by
  blk_ext! [blk1, ix1_5 t]
theorem ix1_6 (t : Fin cfg1.N) : (cfg1.win 6).index t = ![0, t.val] := by revert t; decide +kernel
theorem b1_6 (c : Dev nD) (t : Fin cfg1.N) (i : Fin 1024) (j : Fin 512) (h : 512 * t.val + j.val < 2048) : blk1 m c 6 t (ix2 i j) = W2 m c main_v3_1 (ix2 i ⟨512 * t.val + j.val, h⟩) := by
  blk_ext! [blk1, ix1_6 t]

theorem V1_arg (c : Dev nD) (r : Ref sig .tc) (h0 : r ∉ hostOps0_W) : V1 m c r = m ((c.tc : Thread nD τ).loc r) := V1_of m c r h0
theorem V1_v1 (c : Dev nD) (s : Fin 1024) (i : Fin 2048) : V1 m c main_v1 (ix2 s i) = m ((c.tc : Thread nD τ).loc main_arg0) (ix3 0 s i) := by
  unfold V1 hostOps0
  after_reads_at
theorem V1_v2 (c : Dev nD) (s : Fin 1024) (i : Fin 2048) : V1 m c main_v2 (ix2 s i) = m ((c.tc : Thread nD τ).loc main_arg0) (ix3 0 s i) := by
  unfold V1 hostOps0
  after_reads_at
theorem W4_v5 (c : Dev nD) (s : Fin 1024) (n : Fin 2048) : W4 m c main_v5 (ix3 0 s n) = acc1 m c 3 (ix2 s n) := by
  rw [← W3_v4]
  unfold W4 hostOps2
  after_reads_at

end KProof
-- ==== Proof.Math.lean ====
module

public import Idealize.ShloMosaic.PureOps.Ideal.Laws
public import Idealize.ShloMosaic.Lib.IdealHost

/-! Sums of extended reals, and two ways to write a softmax. -/

@[expose] public section

noncomputable section

namespace KProof

open Idealize.ShloMosaic
open scoped BigOperators

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, mul_comm,
      EReal.left_distrib_of_nonneg_of_ne_top (EReal.coe_nonneg.mpr hr) (EReal.coe_ne_top r), mul_comm (r : EReal) (f a),
      mul_comm (r : EReal) (∑ i ∈ s, f i), ih]

/-- A softmax without its maximum, normalised last, is the softmax with any real number subtracted first. -/
theorem soft {n : ℕ} [NeZero n] (a : Fin n → ℝ) (M : ℝ) (V : Fin n → EReal) :
    (∑ t, Ideal.exp (a t : EReal) * V t) * Ideal.div 1 (∑ t, Ideal.exp (a t : EReal))
      = ∑ t, V t * Ideal.div (Ideal.exp ((a t : EReal) - (M : EReal))) (∑ t', Ideal.exp ((a t' : EReal) - (M : EReal))) := by
  have hs : 0 < ∑ t, Real.exp (a t) := Finset.sum_pos (fun t _ => Real.exp_pos _) ⟨0, Finset.mem_univ _⟩
  have hS : 0 < ∑ t, Real.exp (a t - M) := Finset.sum_pos (fun t _ => Real.exp_pos _) ⟨0, Finset.mem_univ _⟩
  simp only [← EReal.coe_sub, Ideal.exp_coe]
  rw [sum_coe, sum_coe, Ideal.div_coe hs.ne', one_mul, sum_mul_real _ _ _ (by positivity)]
  refine Finset.sum_congr rfl fun t _ => ?_
  rw [Ideal.div_coe hS.ne', mul_right_comm, mul_comm (V t), ← EReal.coe_mul, ← EReal.coe_mul]
  congr 2
  have e : ∑ t, Real.exp (a t - M) = (∑ t, Real.exp (a t)) * Real.exp (-M) := by
    rw [Finset.sum_mul]; exact Finset.sum_congr rfl fun t _ => by rw [← Real.exp_add]; rfl
  rw [e, show Real.exp (a t - M) = Real.exp (a t) * Real.exp (-M) by rw [← Real.exp_add]; rfl]
  have := (Real.exp_pos (-M)).ne'
  field_simp

/-- A value that is a real number. -/
def Re (v : EReal) : Prop := ∃ r : ℝ, v = (r : EReal)
theorem Re.mul {a b : EReal} (ha : Re a) (hb : Re b) : Re (a * b) := by
  obtain ⟨x, rfl⟩ := ha; obtain ⟨y, rfl⟩ := hb; exact ⟨x * y, (EReal.coe_mul x y).symm⟩
theorem Re.add {a b : EReal} (ha : Re a) (hb : Re b) : Re (a + b) := by
  obtain ⟨x, rfl⟩ := ha; obtain ⟨y, rfl⟩ := hb; exact ⟨x + y, (EReal.coe_add x y).symm⟩
theorem Re.sum {ι : Type} (s : Finset ι) {f : ι → EReal} (h : ∀ i ∈ s, Re (f i)) : Re (∑ i ∈ s, f i) := by
  classical
  induction s using Finset.induction_on with
  | empty => exact ⟨0, by simp⟩
  | insert a s ha ih =>
    rw [Finset.sum_insert ha]
    exact (h a (Finset.mem_insert_self ..)).add (ih fun i hi => h i (Finset.mem_insert_of_mem hi))
theorem Re.of_abs_lt {v : EReal} (h : max v (-v) < ⊤) : Re v := by
  induction v with
  | bot => simp at h
  | top => simp at h
  | coe r => exact ⟨r, rfl⟩
theorem Re.pick {ι : Type} {f : ι → EReal} (h : ∀ i, Re (f i)) : ∃ g : ι → ℝ, f = fun i => ((g i : ℝ) : EReal) :=
  ⟨fun i => (h i).choose, funext fun i => (h i).choose_spec⟩
theorem Re.sup {n : ℕ} [NeZero n] {f : Fin n → EReal} (h : ∀ i, Re (f i)) : Re (Finset.univ.sup f) := by
  obtain ⟨i, _, e⟩ := Finset.exists_mem_eq_sup (Finset.univ : Finset (Fin n)) ⟨0, Finset.mem_univ _⟩ f
  rw [e]; exact h i

/-- The scale commutes with the two products of the score. -/
theorem scaled {k m n : ℕ} (x : Fin k → EReal) (wq : Fin k → Fin m → EReal) (wr : Fin k → Fin n → EReal) (K : Fin m → EReal) (R : Fin n → EReal) (σ : EReal)
    (hx : ∀ i, Re (x i)) (hq : ∀ i d, Re (wq i d)) (hr : ∀ i d, Re (wr i d)) (hK : ∀ d, Re (K d)) (hR : ∀ d, Re (R d)) (hσ : Re σ) :
    ∑ d, (∑ i, x i * (wq i d * σ)) * K d + ∑ d, (∑ i, x i * (wr i d * σ)) * R d
      = (∑ d, (∑ i, x i * wq i d) * K d + ∑ d, (∑ i, x i * wr i d) * R d) * σ := by
  obtain ⟨x', rfl⟩ := Re.pick hx
  obtain ⟨K', rfl⟩ := Re.pick hK
  obtain ⟨R', rfl⟩ := Re.pick hR
  obtain ⟨σ', rfl⟩ := hσ
  obtain ⟨wq', hq'⟩ := Re.pick (f := fun p : Fin k × Fin m => wq p.1 p.2) fun p => hq p.1 p.2
  obtain ⟨wr', hr'⟩ := Re.pick (f := fun p : Fin k × Fin n => wr p.1 p.2) fun p => hr p.1 p.2
  have eq : ∀ i d, wq i d = ((wq' (i, d) : ℝ) : EReal) := fun i d => congrFun hq' (i, d)
  have er : ∀ i d, wr i d = ((wr' (i, d) : ℝ) : EReal) := fun i d => congrFun hr' (i, d)
  simp only [eq, er, ← EReal.coe_mul, sum_coe, ← EReal.coe_add]
  congr 1
  rw [add_mul, Finset.sum_mul, Finset.sum_mul]
  congr 1 <;>
  · refine Finset.sum_congr rfl fun d _ => ?_
    rw [Finset.sum_mul, Finset.sum_mul, Finset.sum_mul]
    exact Finset.sum_congr rfl fun i _ => by ring

/-- A sum of n·k terms, block after block. -/
theorem sum_blocks (n k N : ℕ) (hN : n * k = N) (f : ℕ → EReal) : ∑ i : Fin N, f i.val = ∑ a : Fin n, ∑ b : Fin k, f (k * a.val + b.val) := by
  subst hN
  rw [← Equiv.sum_comp finProdFinEquiv, Fintype.sum_prod_type]
  refine Finset.sum_congr rfl fun a _ => Finset.sum_congr rfl fun b _ => ?_
  congr 1
  show b.val + k * a.val = _
  omega

end KProof
-- ==== Proof.GatherAt.lean ====
module

public import proofs.«01_k».proof.Proof.Vals
public import proofs.«01_k».proof.Proof.Math
public import Idealize.ShloMosaic.Lib.Pointwise

/-! What the gather leaves on a device: the keys and values of the whole latent. -/

@[expose] public section

set_option maxRecDepth 16384

noncomputable section

namespace KProof

open Idealize.ShloMosaic Idealize.ShloMosaic.TcCoe Idealize.SL.Sem
open Cert.KernelIdeal Cert.KernelIdeal.Gen

section Dev
variable (c : Dev nD)
theorem z_1 : (lft^[1] c).val % 4 = (c.val % 4 + 3) % 4 := by revert c; decide +kernel
theorem p_1 : (lft^[1] c).val / 4 % 2 = c.val / 4 % 2 := by revert c; decide +kernel
theorem z_2 : (lft^[2] c).val % 4 = (c.val % 4 + 2) % 4 := by revert c; decide +kernel
theorem p_2 : (lft^[2] c).val / 4 % 2 = c.val / 4 % 2 := by revert c; decide +kernel
theorem z_3 : (lft^[3] c).val % 4 = (c.val % 4 + 1) % 4 := by revert c; decide +kernel
theorem p_3 : (lft^[3] c).val / 4 % 2 = c.val / 4 % 2 := by revert c; decide +kernel
theorem z_p : (par c).val % 4 = c.val % 4 := by revert c; decide +kernel
theorem p_p : (par c).val / 4 % 2 = 1 - c.val / 4 % 2 := by revert c; decide +kernel
end Dev

/-- One term of the long sum: latent column j against row j of the up-projection. -/
def term (X : Fin 1024 → Fin 2048 → EReal) (WD : Fin 2048 → ℕ → EReal) (W : ℕ → Fin 2048 → EReal) (s : Fin 1024) (n : Fin 2048) (j : ℕ) : EReal :=
  (∑ i, X s i * WD i j) * W j n
/-- The half of block z that devices of parity p send. -/
def half (X : Fin 1024 → Fin 2048 → EReal) (WD : Fin 2048 → ℕ → EReal) (W : ℕ → Fin 2048 → EReal) (s : Fin 1024) (n : Fin 2048) (z p : ℕ) : EReal :=
  ∑ j : Fin 64, term X WD W s n (128 * z + (64 * p + j.val))

theorem whole_sum (X : Fin 1024 → Fin 2048 → EReal) (WD : Fin 2048 → ℕ → EReal) (W : ℕ → Fin 2048 → EReal) (s : Fin 1024) (n : Fin 2048) :
    ∑ j : Fin 512, term X WD W s n j.val = ∑ z : Fin 4, ∑ p : Fin 2, half X WD W s n z.val p.val := by
  rw [sum_blocks 4 128 512 rfl]
  refine Finset.sum_congr rfl fun z _ => ?_
  exact sum_blocks 2 64 128 rfl fun j => term X WD W s n (128 * z.val + j)

/-- The inputs are these arrays' blocks. -/
structure Blocks (I : Ins Ideal) (X : Fin 1024 → Fin 2048 → EReal) (WD : Fin 2048 → ℕ → EReal) (WK WV : ℕ → Fin 2048 → EReal) : Prop where
  x : ∀ c s i, I.x c (ix2 s i) = X s i
  wd : ∀ c i (j : Fin 128), I.wd c (ix2 i j) = WD i (128 * (c.val % 4) + j.val)
  wk : ∀ c (j : Fin 128) n, I.wk c (ix2 j n) = WK (128 * (c.val % 4) + j.val) n
  wv : ∀ c (j : Fin 128) n, I.wv c (ix2 j n) = WV (128 * (c.val % 4) + j.val) n

section At
variable {I : Ins Ideal} {X : Fin 1024 → Fin 2048 → EReal} {WD : Fin 2048 → ℕ → EReal} {WK WV : ℕ → Fin 2048 → EReal} (B : Blocks I X WD WK WV)
include B

theorem halfC_at (c : Dev nD) (s : Fin 1024) (j : Fin 64) :
    halfC I c (ix3 0 s j) = ∑ i, X s i * WD i (128 * (c.val % 4) + (64 * (c.val / 4 % 2) + j.val)) := by
  unfold halfC
  split <;> rename_i hp
  · pointwise [k0_pay4, k0_pay1]
    simp only [B.x, B.wd, hp, Nat.mul_zero, Nat.zero_add]
  · pointwise [k0_pay7, k0_pay1]
    simp only [B.x, B.wd, show c.val / 4 % 2 = 1 by omega, Nat.mul_one]

theorem halfK_at (c : Dev nD) (j : Fin 64) (n : Fin 2048) :
    halfK I c (ix3 0 j n) = WK (128 * (c.val % 4) + (64 * (c.val / 4 % 2) + j.val)) n := by
  unfold halfK
  split <;> rename_i hp
  · pointwise [k0_pay5, k0_pay2, k0_pay3]
    simp only [B.wk, hp, Nat.mul_zero, Nat.zero_add]
  · pointwise [k0_pay8, k0_pay2, k0_pay3]
    simp only [B.wk, show c.val / 4 % 2 = 1 by omega, Nat.mul_one]

theorem gotK (c : Dev nD) (s : Fin 1024) (n : Fin 2048) :
    ∑ j, halfC I c (ix3 0 s j) * halfK I c (ix3 0 j n) = half X WD WK s n (c.val % 4) (c.val / 4 % 2) :=
  Finset.sum_congr rfl fun j _ => by rw [halfC_at B, halfK_at B]; rfl

theorem mineK (c : Dev nD) (s : Fin 1024) (n : Fin 2048) :
    ∑ j, (∑ i, I.x c (ix2 s i) * I.wd c (ix2 i j)) * I.wk c (ix2 j n) = half X WD WK s n (c.val % 4) 0 + half X WD WK s n (c.val % 4) 1 := by
  simp only [B.x, B.wd, B.wk]
  exact (sum_blocks 2 64 128 rfl fun j => term X WD WK s n (128 * (c.val % 4) + j)).trans (Fin.sum_univ_two _)

theorem halfV_at (c : Dev nD) (j : Fin 64) (n : Fin 2048) :
    halfV I c (ix3 0 j n) = WV (128 * (c.val % 4) + (64 * (c.val / 4 % 2) + j.val)) n := by
  unfold halfV
  split <;> rename_i hp
  · pointwise [k0_pay6, k0_pay2, k0_pay3]
    simp only [B.wv, hp, Nat.mul_zero, Nat.zero_add]
  · pointwise [k0_pay9, k0_pay2, k0_pay3]
    simp only [B.wv, show c.val / 4 % 2 = 1 by omega, Nat.mul_one]

theorem gotV (c : Dev nD) (s : Fin 1024) (n : Fin 2048) :
    ∑ j, halfC I c (ix3 0 s j) * halfV I c (ix3 0 j n) = half X WD WV s n (c.val % 4) (c.val / 4 % 2) :=
  Finset.sum_congr rfl fun j _ => by rw [halfC_at B, halfV_at B]; rfl

theorem mineV (c : Dev nD) (s : Fin 1024) (n : Fin 2048) :
    ∑ j, (∑ i, I.x c (ix2 s i) * I.wd c (ix2 i j)) * I.wv c (ix2 j n) = half X WD WV s n (c.val % 4) 0 + half X WD WV s n (c.val % 4) 1 := by
  simp only [B.x, B.wd, B.wv]
  exact (sum_blocks 2 64 128 rfl fun j => term X WD WV s n (128 * (c.val % 4) + j)).trans (Fin.sum_univ_two _)

theorem outK_at (c : Dev nD) (s : Fin 1024) (n : Fin 2048) : outK I c (ix2 s n) = ∑ j : Fin 512, term X WD WK s n j.val := by
  pointwise [outK, kA6, kA5, kA4, kA3, kA2, kA1, kA0, k0_pay29, k0_pay26, k0_pay23, k0_pay20, k0_pay18, k0_pay16, k0_pay15, k0_pay13, k0_pay12, k0_pay10, k0_pay2, k0_pay1]
  rw [mineK B, gotK B, gotK B, gotK B, gotK B, gotK B, gotK B]
  simp only [z_1, z_2, z_3, p_1, p_2, p_3, z_p, p_p, whole_sum, Fin.sum_univ_four, Fin.sum_univ_two]
  have hz : c.val % 4 = 0 ∨ c.val % 4 = 1 ∨ c.val % 4 = 2 ∨ c.val % 4 = 3 := by omega
  have hp : c.val / 4 % 2 = 0 ∨ c.val / 4 % 2 = 1 := by omega
  rcases hz with hz | hz | hz | hz <;> rcases hp with hp | hp <;> simp only [hz, hp] <;> norm_num <;> ac_rfl

theorem outV_at (c : Dev nD) (s : Fin 1024) (n : Fin 2048) : outV I c (ix2 s n) = ∑ j : Fin 512, term X WD WV s n j.val := by
  pointwise [outV, vA6, vA5, vA4, vA3, vA2, vA1, vA0, k0_pay30, k0_pay28, k0_pay27, k0_pay25, k0_pay24, k0_pay22, k0_pay21, k0_pay19, k0_pay17, k0_pay14, k0_pay11, k0_pay3, k0_pay1]
  rw [mineV B, gotV B, gotV B, gotV B, gotV B, gotV B, gotV B]
  simp only [z_1, z_2, z_3, p_1, p_2, p_3, z_p, p_p, whole_sum, Fin.sum_univ_four, Fin.sum_univ_two]
  have hz : c.val % 4 = 0 ∨ c.val % 4 = 1 ∨ c.val % 4 = 2 ∨ c.val % 4 = 3 := by omega
  have hp : c.val / 4 % 2 = 0 ∨ c.val / 4 % 2 = 1 := by omega
  rcases hz with hz | hz | hz | hz <;> rcases hp with hp | hp <;> simp only [hz, hp] <;> norm_num <;> ac_rfl

end At

end KProof
-- ==== Proof.AttendAt.lean ====
module

public import proofs.«01_k».proof.Proof.Step1
public import proofs.«01_k».proof.Proof.Math
public import Idealize.ShloMosaic.Lib.Pointwise

/-! One step of the attention call, read at an index: four heads, then the last product. -/

@[expose] public section

set_option maxRecDepth 16384

noncomputable section

namespace KProof

open Idealize.ShloMosaic Idealize.ShloMosaic.TcCoe Idealize.SL.Sem
open Cert.KernelIdeal Cert.KernelIdeal.Gen

/-- The scale the scores take. -/
abbrev sigma : EReal := Ideal.ofBits .bf16 15778#16

/-- A matrix read at a column named by a number. -/
def col {a b : ℕ} (w : ((⟨2, ![a, b]⟩ : Shape)).Idx → EReal) (i : Fin a) (j : ℕ) : EReal := if h : j < b then w (ix2 i ⟨j, h⟩) else 0
/-- A matrix read at a row named by a number. -/
def row {a b : ℕ} (w : ((⟨2, ![a, b]⟩ : Shape)).Idx → EReal) (i : ℕ) (j : Fin b) : EReal := if h : i < a then w (ix2 ⟨i, h⟩ j) else 0
theorem col_fin {a b : ℕ} (w : ((⟨2, ![a, b]⟩ : Shape)).Idx → EReal) (i : Fin a) (j : Fin b) : w (ix2 i j) = col w i j.val := by
  unfold col; rw [dif_pos j.isLt]
theorem row_fin {a b : ℕ} (w : ((⟨2, ![a, b]⟩ : Shape)).Idx → EReal) (i : Fin a) (j : Fin b) : w (ix2 i j) = row w i.val j := by
  unfold row; rw [dif_pos i.isLt]

/-- A head's score: its own columns start at o, its rotary columns at o'. -/
def score (X : Fin 1024 → Fin 2048 → EReal) (Q R : Fin 2048 → ℕ → EReal) (K : Fin 1024 → ℕ → EReal) (KR : Fin 1024 → Fin 32 → EReal) (o o' : ℕ) (s t : Fin 1024) : EReal :=
  ∑ d : Fin 128, (∑ i, X s i * (Q i (o + d.val) * sigma)) * K t (o + d.val) + ∑ d : Fin 32, (∑ i, X s i * (R i (o' + d.val) * sigma)) * KR t d
/-- A row of weights not yet normalised, against column e of the values, then normalised. -/
def mix (a : Fin 1024 → EReal) (V : Fin 1024 → ℕ → EReal) (e : ℕ) : EReal :=
  (∑ t, Ideal.exp (a t) * V t e) * Ideal.div 1 (∑ t, Ideal.exp (a t))

section Step
variable (x : Vec Ideal S1024x2048 .bf16) (wq : Vec Ideal S2048x512 .bf16) (wqr : Vec Ideal S2048x128 .bf16) (wo : Vec Ideal S512x2048 .bf16)
    (K V : Vec Ideal S1024x512 .bf16) (kr : Vec Ideal S1024x32 .bf16)

/-- The scores of the head whose columns start at o and o'. -/
abbrev sco (o o' : ℕ) (s t : Fin 1024) : EReal := score (fun s i => x (ix2 s i)) (col wq) (col wqr) (col K) (fun t d => kr (ix2 t d)) o o' s t
/-- That head's output. -/
abbrev hd (o o' : ℕ) (s : Fin 1024) (d : ℕ) : EReal := mix (sco x wq wqr K kr o o' s) (col V) (o + d)

theorem pay10_at (s t : Fin 1024) : k1_pay10 x wq wqr kr K (ix2 s t) = Ideal.exp (sco x wq wqr K kr 0 0 s t) := by
  pointwise [k1_pay10, k1_pay5, k1_pay6, k1_pay8, k1_pay3]
  simp only [sco, score, col_fin wq, col_fin wqr, col_fin K, Nat.zero_add]
theorem pay12_at (P : Vec Ideal S1024x1024 .bf16) (a : Fin 1024 → Fin 1024 → EReal) (hP : ∀ s t, P (ix2 s t) = Ideal.exp (a s t)) (s : Fin 1024) (d : Fin 128) :
    k1_pay12 P (k1_pay11 V) (constant S1024x129 .f32 0x00000000#32) (ix2 s d) = mix (a s) (col V) (0 + d.val) := by
  pointwise [k1_pay12, k1_pay11, k1_pay9]
  simp only [mix, hP, col_fin V, Nat.zero_add]
theorem pay13_at (s : Fin 1024) (d : Fin 128) :
    k1_pay13 (k1_pay5 x wq) (k1_pay6 x wqr) kr (k1_pay8 K) (k1_pay9 V) (ix2 s d) = hd x wq wqr K V kr 128 32 s d.val := by
  pointwise [k1_pay13, k1_pay5, k1_pay6, k1_pay8, k1_pay9, k1_pay3]
  simp only [hd, mix, sco, score, col_fin wq, col_fin wqr, col_fin K, col_fin V]
theorem pay14_at (s : Fin 1024) (d : Fin 128) :
    k1_pay14 (k1_pay5 x wq) (k1_pay6 x wqr) kr (k1_pay8 K) (k1_pay9 V) (ix2 s d) = hd x wq wqr K V kr 256 64 s d.val := by
  pointwise [k1_pay14, k1_pay5, k1_pay6, k1_pay8, k1_pay9, k1_pay3]
  simp only [hd, mix, sco, score, col_fin wq, col_fin wqr, col_fin K, col_fin V]

theorem pay1_at (p q r : FVec Ideal S1024x128 .bf16) (s : Fin 1024) (n : Fin 2048) :
    k1_pay1 (k1_pay4 wo) (k1_pay9 V) p q r (k1_pay15 (k1_pay5 x wq) (k1_pay6 x wqr)) (k1_pay16 kr (k1_pay8 K)) (ix2 s n)
      = ∑ e : Fin 512, (if e.val < 128 then col p s e.val else if e.val - 128 < 128 then col q s (e.val - 128)
          else if e.val - 128 - 128 < 128 then col r s (e.val - 128 - 128) else hd x wq wqr K V kr 384 96 s (e.val - 128 - 128 - 128)) * row wo e.val n := by
  pointwise [k1_pay1, k1_pay4, k1_pay15, k1_pay16, k1_pay5, k1_pay6, k1_pay8, k1_pay9, k1_pay3]
  refine Finset.sum_congr rfl fun e _ => ?_
  have he : e.val - 128 - 128 - 128 < 128 := by omega
  simp only [dif_pos he, hd, mix, sco, score, col_fin wq, col_fin wqr, col_fin K, col_fin V, col_fin p, col_fin q, col_fin r, row_fin wo, dite_eq_ite]

/-- The four heads' outputs against their rows of the last matrix. -/
abbrev four (s : Fin 1024) (n : Fin 2048) : EReal := ∑ i : Fin 4, ∑ d : Fin 128, hd x wq wqr K V kr (128 * i.val) (32 * i.val) s d.val * row wo (128 * i.val + d.val) n

theorem share1_at (s : Fin 1024) (n : Fin 2048) : share1 x wq wqr wo K V kr (ix2 s n) = four x wq wqr wo K V kr s n := by
  unfold share1
  rw [pay1_at]
  refine (sum_blocks 4 128 512 rfl fun e => (if e < 128 then col _ s e else if e - 128 < 128 then col _ s (e - 128)
    else if e - 128 - 128 < 128 then col _ s (e - 128 - 128) else hd x wq wqr K V kr 384 96 s (e - 128 - 128 - 128)) * row wo e n).trans ?_
  rw [Fin.sum_univ_four, four, Fin.sum_univ_four]
  congr 1
  · congr 1
    · congr 1
      · refine Finset.sum_congr rfl fun d _ => ?_
        have h1 : 128 * (0 : Fin 4).val + d.val = d.val := by simp
        rw [h1, if_pos d.isLt, ← col_fin, pay12_at V _ _ (pay10_at x wq wqr K kr)]
        rfl
      · refine Finset.sum_congr rfl fun d _ => ?_
        have h1 : 128 * (1 : Fin 4).val + d.val = 128 + d.val := by simp
        rw [h1, if_neg (by omega), if_pos (by omega), Nat.add_sub_cancel_left, ← col_fin, pay13_at]
        rfl
    · refine Finset.sum_congr rfl fun d _ => ?_
      have h1 : 128 * (2 : Fin 4).val + d.val = 128 + (128 + d.val) := by simp; omega
      rw [h1, if_neg (by omega), if_neg (by omega), if_pos (by omega), Nat.add_sub_cancel_left, Nat.add_sub_cancel_left, ← col_fin, pay14_at]
      rfl

theorem pay2_at (a : FVec Ideal S512x2048 .bf16) (b : FVec Ideal S1024x512 .bf16) (p q r : FVec Ideal S1024x128 .bf16) (y z : FVec Ideal S1024x160 .bf16)
    (o : Vec Ideal S1024x2048 .f32) (s : Fin 1024) (n : Fin 2048) : k1_pay2 a b p q r y z o (ix2 s n) = o (ix2 s n) + k1_pay1 a b p q r y z (ix2 s n) := by
  unfold k1_pay2
  generalize k1_pay1 a b p q r y z = w
  pointwise []

theorem more1_at (o : Vec Ideal S1024x2048 .f32) (s : Fin 1024) (n : Fin 2048) :
    more1 x wq wqr wo K V kr o (ix2 s n) = o (ix2 s n) + four x wq wqr wo K V kr s n := by
  rw [← share1_at]
  exact pay2_at ..

end Step

theorem pay7_at (x : Vec Ideal S1024x2048 .bf16) (w : Vec Ideal S2048x32 .bf16) (t : Fin 1024) (d : Fin 32) :
    k1_pay7 x w (ix2 t d) = ∑ i, x (ix2 t i) * w (ix2 i d) := by
  pointwise [k1_pay7, k1_pay3]

end KProof
-- ==== Proof.OutAt.lean ====
module

public import proofs.«01_k».proof.Proof.BlockAt
public import proofs.«01_k».proof.Proof.GatherAt
public import proofs.«01_k».proof.Proof.AttendAt

/-! The kernel's result on one device, read at an index, as a function of the whole arrays. -/

@[expose] public section

set_option maxRecDepth 16384

noncomputable section

namespace KProof

open Idealize.ShloMosaic Idealize.ShloMosaic.TcCoe Idealize.SL.Sem
open Cert.KernelIdeal Cert.KernelIdeal.Gen

theorem score_congr {X X' : Fin 1024 → Fin 2048 → EReal} {Q R Q' R' : Fin 2048 → ℕ → EReal} {K K' : Fin 1024 → ℕ → EReal} {KR KR' : Fin 1024 → Fin 32 → EReal}
    (o o' p p' : ℕ) {s t : Fin 1024} (hX : ∀ i, X s i = X' s i) (hQ : ∀ i (d : Fin 128), Q i (o + d.val) = Q' i (p + d.val))
    (hR : ∀ i (d : Fin 32), R i (o' + d.val) = R' i (p' + d.val)) (hK : ∀ d : Fin 128, K t (o + d.val) = K' t (p + d.val)) (hKR : ∀ d, KR t d = KR' t d) :
    score X Q R K KR o o' s t = score X' Q' R' K' KR' p p' s t := by
  simp only [score, hX, hQ, hR, hK, hKR]
theorem mix_congr {f f' : Fin 1024 → EReal} {V V' : Fin 1024 → ℕ → EReal} {e e' : ℕ} (hf : ∀ t, f t = f' t) (hV : ∀ t, V t e = V' t e') :
    mix f V e = mix f' V' e' := by
  simp only [mix, hf, hV]

/-- The whole arrays. -/
structure Whole where
  x : Vec Ideal S1x1024x2048 .bf16
  wd : Vec Ideal ⟨2, ![2048, 512]⟩ .bf16
  wk : Vec Ideal ⟨2, ![512, 2048]⟩ .bf16
  wv : Vec Ideal ⟨2, ![512, 2048]⟩ .bf16
  wq : Vec Ideal ⟨2, ![2048, 2048]⟩ .bf16
  wqr : Vec Ideal ⟨2, ![2048, 512]⟩ .bf16
  wkr : Vec Ideal ⟨2, ![2048, 32]⟩ .bf16
  wo : Vec Ideal ⟨2, ![2048, 2048]⟩ .bf16

namespace Whole
variable (a : Whole)
/-- The input. -/
def X (s : Fin 1024) (i : Fin 2048) : EReal := a.x (ix3 0 s i)
/-- All keys. -/
def K (t : Fin 1024) (j : ℕ) : EReal := if h : j < 2048 then ∑ k : Fin 512, term a.X (col a.wd) (row a.wk) t ⟨j, h⟩ k.val else 0
/-- All values. -/
def V (t : Fin 1024) (j : ℕ) : EReal := if h : j < 2048 then ∑ k : Fin 512, term a.X (col a.wd) (row a.wv) t ⟨j, h⟩ k.val else 0
/-- The rotary key. -/
def R (t : Fin 1024) (d : Fin 32) : EReal := ∑ i, a.X t i * a.wkr (ix2 i d)
/-- The score of head i of step g. -/
def S (g i : Fin 4) (s t : Fin 1024) : EReal := score a.X (col a.wq) (col a.wqr) a.K a.R (512 * g.val + 128 * i.val) (128 * g.val + 32 * i.val) s t
/-- Column d of that head's output. -/
def O (g i : Fin 4) (s : Fin 1024) (d : Fin 128) : EReal := mix (a.S g i s) a.V (512 * g.val + (128 * i.val + d.val))
end Whole

/-- The memory holds the arrays, or their blocks. -/
structure Holds (m : (ℓ : Loc nD τ sig) → Buf (Elt Ideal) ℓ) (a : Whole) : Prop where
  x : ∀ (c : Dev nD) s i, m ((c.tc : Thread nD τ).loc main_arg0) (ix3 0 s i) = a.x (ix3 0 s i)
  wd : ∀ (c : Dev nD) (i : Fin 2048) (j : Fin 128), m ((c.tc : Thread nD τ).loc main_arg1) (ix2 i j) = col a.wd i (128 * (c.val % 4) + j.val)
  wk : ∀ (c : Dev nD) (j : Fin 128) (n : Fin 2048), m ((c.tc : Thread nD τ).loc main_arg2) (ix2 j n) = row a.wk (128 * (c.val % 4) + j.val) n
  wv : ∀ (c : Dev nD) (j : Fin 128) (n : Fin 2048), m ((c.tc : Thread nD τ).loc main_arg3) (ix2 j n) = row a.wv (128 * (c.val % 4) + j.val) n
  wq : ∀ (c : Dev nD), m ((c.tc : Thread nD τ).loc main_arg4) = a.wq
  wqr : ∀ (c : Dev nD), m ((c.tc : Thread nD τ).loc main_arg5) = a.wqr
  wkr : ∀ (c : Dev nD), m ((c.tc : Thread nD τ).loc main_arg6) = a.wkr
  wo : ∀ (c : Dev nD), m ((c.tc : Thread nD τ).loc main_arg7) = a.wo

section At
variable {m : (ℓ : Loc nD τ sig) → Buf (Elt Ideal) ℓ} {a : Whole} (H : Holds m a)
include H

theorem blocks_of : Blocks (insOf m) a.X (col a.wd) (row a.wk) (row a.wv) where
  x c s i := (b0_0 m c t0_0 s i).trans ((V1_v2 m c s i).trans (H.x c s i))
  wd c i j := (b0_1 m c t0_0 i j).trans ((congrFun (V1_arg m c main_arg1 (by decide)) _).trans (H.wd c i j))
  wk c j n := (b0_2 m c t0_0 j n).trans ((congrFun (V1_arg m c main_arg2 (by decide)) _).trans (H.wk c j n))
  wv c j n := (b0_3 m c t0_0 j n).trans ((congrFun (V1_arg m c main_arg3 (by decide)) _).trans (H.wv c j n))

theorem W2_arg (c : Dev nD) (r : Ref sig .tc) (h0 : r ∉ hostOps0_W) (h2 : r ∉ ([main_v3_0, main_v3_1] : List (Ref sig .tc))) :
    W2 m c r = m ((c.tc : Thread nD τ).loc r) := (W2_of m c r h2).trans (V1_arg m c r h0)

theorem at_x (c : Dev nD) (t : Fin cfg1.N) (s : Fin 1024) (i : Fin 2048) : blk1 m c 0 t (ix2 s i) = a.X s i :=
  (b1_0 m c t s i).trans ((congrFun (W2_of m c main_v1 (by decide)) _).trans ((V1_v1 m c s i).trans (H.x c s i)))
theorem at_wq (c : Dev nD) (t : Fin cfg1.N) (i : Fin 2048) (j : ℕ) (hj : j < 512) : col (a := 2048) (b := 512) (blk1 m c 1 t) i j = col a.wq i (512 * t.val + j) := by
  have ht := (Nat.lt_of_lt_of_eq t.isLt (show cfg1.N = 4 from N_1))
  unfold col
  rw [dif_pos hj, dif_pos (by omega)]
  exact (b1_1 m c t i ⟨j, hj⟩ (by show 512 * t.val + j < _; omega)).trans ((congrFun (W2_arg H c main_arg4 (by decide) (by decide)) _).trans (congrFun (H.wq c) _))
theorem at_wqr (c : Dev nD) (t : Fin cfg1.N) (i : Fin 2048) (j : ℕ) (hj : j < 128) : col (a := 2048) (b := 128) (blk1 m c 2 t) i j = col a.wqr i (128 * t.val + j) := by
  have ht := (Nat.lt_of_lt_of_eq t.isLt (show cfg1.N = 4 from N_1))
  unfold col
  rw [dif_pos hj, dif_pos (by omega)]
  exact (b1_2 m c t i ⟨j, hj⟩ (by show 128 * t.val + j < _; omega)).trans ((congrFun (W2_arg H c main_arg5 (by decide) (by decide)) _).trans (congrFun (H.wqr c) _))
theorem at_wkr (c : Dev nD) (t : Fin cfg1.N) (i : Fin 2048) (d : Fin 32) : blk1 m c 3 t (ix2 i d) = a.wkr (ix2 i d) :=
  (b1_3 m c t i d).trans ((congrFun (W2_arg H c main_arg6 (by decide) (by decide)) _).trans (congrFun (H.wkr c) _))
theorem at_wo (c : Dev nD) (t : Fin cfg1.N) (j : ℕ) (hj : j < 512) (n : Fin 2048) : row (a := 512) (b := 2048) (blk1 m c 4 t) j n = row a.wo (512 * t.val + j) n := by
  have ht := (Nat.lt_of_lt_of_eq t.isLt (show cfg1.N = 4 from N_1))
  unfold row
  rw [dif_pos hj, dif_pos (by omega)]
  exact (b1_4 m c t ⟨j, hj⟩ n (by show 512 * t.val + j < _; omega)).trans ((congrFun (W2_arg H c main_arg7 (by decide) (by decide)) _).trans (congrFun (H.wo c) _))
theorem at_K (c : Dev nD) (t : Fin cfg1.N) (s : Fin 1024) (j : ℕ) (hj : j < 512) : col (a := 1024) (b := 512) (blk1 m c 5 t) s j = a.K s (512 * t.val + j) := by
  have ht := (Nat.lt_of_lt_of_eq t.isLt (show cfg1.N = 4 from N_1))
  unfold col Whole.K
  rw [dif_pos hj, dif_pos (by omega)]
  exact (b1_5 m c t s ⟨j, hj⟩ (by show 512 * t.val + j < _; omega)).trans ((congrFun (W2_v3_0 m c) _).trans (outK_at (blocks_of H) c s _))
theorem at_V (c : Dev nD) (t : Fin cfg1.N) (s : Fin 1024) (j : ℕ) (hj : j < 512) : col (a := 1024) (b := 512) (blk1 m c 6 t) s j = a.V s (512 * t.val + j) := by
  have ht := (Nat.lt_of_lt_of_eq t.isLt (show cfg1.N = 4 from N_1))
  unfold col Whole.V
  rw [dif_pos hj, dif_pos (by omega)]
  exact (b1_6 m c t s ⟨j, hj⟩ (by show 512 * t.val + j < _; omega)).trans ((congrFun (W2_v3_1 m c) _).trans (outV_at (blocks_of H) c s _))
theorem at_kr (c : Dev nD) (t : Fin 1024) (d : Fin 32) : kr1 m c (ix2 t d) = a.R t d := by
  unfold kr1
  rw [pay7_at]
  exact Finset.sum_congr rfl fun i _ => by rw [at_x H, at_wkr H]

theorem at_score (c : Dev nD) (g : Fin cfg1.N) (g' : Fin 4) (hg : g.val = g'.val) (i : Fin 4) (s t : Fin 1024) :
    sco (blk1 m c 0 g) (blk1 m c 1 g) (blk1 m c 2 g) (blk1 m c 5 g) (kr1 m c) (128 * i.val) (32 * i.val) s t = a.S g' i s t :=
  score_congr _ _ _ _ (fun k => at_x H c g s k)
    (fun k d => (at_wq H c g k _ (by omega)).trans (congrArg (col a.wq k) (by omega)))
    (fun k d => (at_wqr H c g k _ (by omega)).trans (congrArg (col a.wqr k) (by omega)))
    (fun d => (at_K H c g t _ (by omega)).trans (congrArg (a.K t) (by omega)))
    (fun d => at_kr H c t d)

theorem at_four (c : Dev nD) (g : Fin cfg1.N) (g' : Fin 4) (hg : g.val = g'.val) (s : Fin 1024) (n : Fin 2048) :
    four (blk1 m c 0 g) (blk1 m c 1 g) (blk1 m c 2 g) (blk1 m c 4 g) (blk1 m c 5 g) (blk1 m c 6 g) (kr1 m c) s n
      = ∑ i : Fin 4, ∑ d : Fin 128, a.O g' i s d * row a.wo (512 * g'.val + (128 * i.val + d.val)) n :=
  Finset.sum_congr rfl fun i _ => Finset.sum_congr rfl fun d _ => congrArg₂ (· * ·)
    (mix_congr (fun t => at_score H c g g' hg i s t) fun t => (at_V H c g t (128 * i.val + d.val) (by omega)).trans (congrArg (a.V t) (by omega)))
    ((at_wo H c g _ (by omega) n).trans (congrArg (row a.wo · n) (by omega)))

theorem out_at (c : Dev nD) (s : Fin 1024) (n : Fin 2048) :
    W4 m c main_v5 (ix3 0 s n) = ∑ g : Fin 4, ∑ i : Fin 4, ∑ d : Fin 128, a.O g i s d * row a.wo (512 * g.val + (128 * i.val + d.val)) n := by
  rw [W4_v5, Fin.sum_univ_four]
  unfold acc1
  rw [more1_at]
  unfold acc1
  rw [more1_at]
  unfold acc1
  rw [more1_at]
  unfold acc1
  rw [share1_at, at_four H c t1_0 0 rfl, at_four H c (nth1 (0 + 1)) 1 rfl, at_four H c (nth1 (0 + 1 + 1)) 2 rfl, at_four H c (nth1 (0 + 1 + 1 + 1)) 3 rfl]

end At

end KProof
-- ==== Proof.RefAt.lean ====
module

public import proofs.«01_k».proof.Proof.Gen.ReferenceIdeal.Run
public import Idealize.ShloMosaic.Lib.Pointwise

/-! The reference's result, read at an index. -/

@[expose] public section

set_option maxRecDepth 16384

noncomputable section

namespace KProof.Ref

open Idealize.ShloMosaic Idealize.ShloMosaic.TcCoe Idealize.SL.Sem
open Cert.ReferenceIdeal Cert.ReferenceIdeal.Gen Cert.ReferenceIdeal.Value

variable {F : FTy → Type} [FloatOps F]

/-- The latent. -/
def rC (x : FVec F S1x1024x2048 .bf16) (w : FVec F S2048x512 .bf16) : FVec F S1x1024x512 .bf16 :=
  truncf .bf16 (Host.dotGeneral dot_S1x1024x2048_S2048x512_S1x1024x512_2_0_01_1_n_n none x w) bitsLt_bf16_f32
/-- Keys, or values, of all heads. -/
def rK (c : FVec F S1x1024x512 .bf16) (w : FVec F S512x2048 .bf16) : FVec F S1x1024x16x128 .bf16 :=
  shapeCast _ (truncf .bf16 (Host.dotGeneral dot_S1x1024x512_S512x2048_S1x1024x2048_2_0_01_1_n_n none c w) bitsLt_bf16_f32) shapeCasts_S1x1024x2048_S1x1024x16x128
/-- Queries of all heads. -/
def rQ (x : FVec F S1x1024x2048 .bf16) (w : FVec F S2048x2048 .bf16) : FVec F S1x1024x16x128 .bf16 :=
  shapeCast _ (truncf .bf16 (Host.dotGeneral dot_S1x1024x2048_S2048x2048_S1x1024x2048_2_0_01_1_n_n none x w) bitsLt_bf16_f32) shapeCasts_S1x1024x2048_S1x1024x16x128
/-- Rotary queries of all heads. -/
def rQr (c : FVec F S1x1024x512 .bf16) : FVec F S1x1024x16x32 .bf16 :=
  shapeCast _ c shapeCasts_S1x1024x512_S1x1024x16x32
/-- The rotary key, shared by the heads. -/
def rKr (x : FVec F S1x1024x2048 .bf16) (w : FVec F S2048x32 .bf16) : FVec F S1x1024x16x32 .bf16 :=
  broadcastInDim S1x1024x16x32 ![0, 1, 2, 3] bcast_S1x1024x1x32_S1x1024x16x32_0_1_2_3
    (shapeCast S1x1024x1x32 (truncf .bf16 (Host.dotGeneral dot_S1x1024x2048_S2048x32_S1x1024x32_2_0_01_1_n_n none x w) bitsLt_bf16_f32) shapeCasts_S1x1024x32_S1x1024x1x32)
/-- The scaled scores. -/
def rS (q k : FVec F S1x1024x16x128 .bf16) (qr kr : FVec F S1x1024x16x32 .bf16) : FVec F S1x16x1024x1024 .bf16 :=
  mulf (addf (truncf .bf16 (Host.dotGeneral dot_S1x1024x16x128_S1x1024x16x128_S1x16x1024x1024_3_3_1_1_02_02 none q k) bitsLt_bf16_f32)
    (truncf .bf16 (Host.dotGeneral dot_S1x1024x16x32_S1x1024x16x32_S1x16x1024x1024_3_3_1_1_02_02 none qr kr) bitsLt_bf16_f32))
    (broadcastInDim S1x16x1024x1024 ![] bcast_S_S1x16x1024x1024 (constant S_ .bf16 0x3DA2#16))
/-- The greatest score of each row. -/
def rM (a : FVec F S1x16x1024x1024 .bf16) : FVec F S1x16x1024 .bf16 :=
  Host.reduce FloatOps.maximumf a (constant S_ .bf16 0xFF80#16) reducesTo_S1x16x1024x1024_S1x16x1024_d3 h_S_
/-- The exponentials. -/
def rP (a : FVec F S1x16x1024x1024 .bf16) (mx : FVec F S1x16x1024 .bf16) : FVec F S1x16x1024x1024 .bf16 :=
  Host.exp (subf a (broadcastInDim S1x16x1024x1024 ![0, 1, 2, 3] bcast_S1x16x1024x1_S1x16x1024x1024_0_1_2_3
    (broadcastInDim S1x16x1024x1 ![0, 1, 2] bcast_S1x16x1024_S1x16x1024x1_0_1_2 mx)))
/-- The weights. -/
def rW (p : FVec F S1x16x1024x1024 .bf16) : FVec F S1x16x1024x1024 .bf16 :=
  Host.divf p (broadcastInDim S1x16x1024x1024 ![0, 1, 2, 3] bcast_S1x16x1024x1_S1x16x1024x1024_0_1_2_3
    (truncf .bf16 (broadcastInDim S1x16x1024x1 ![0, 1, 2] bcast_S1x16x1024_S1x16x1024x1_0_1_2
      (Host.reduceAdd (extf .f32 p bitsLt_bf16_f32) (constant S_ .f32 0x00000000#32) reducesTo_S1x16x1024x1024_S1x16x1024_d3 h_S_)) bitsLt_bf16_f32))
/-- The heads' outputs, side by side. -/
def rO (v : FVec F S1x1024x16x128 .bf16) (w : FVec F S1x16x1024x1024 .bf16) : FVec F S1x1024x2048 .bf16 :=
  shapeCast _ (truncf .bf16 (transpose S1x1024x16x128 [0, 3, 1, 2] (Host.dotGeneral dot_S1x1024x16x128_S1x16x1024x1024_S1x16x128x1024_1_3_3_2_02_01 none v w)
    transposes_S1x16x128x1024_S1x1024x16x128_0_3_1_2) bitsLt_bf16_f32) shapeCasts_S1x1024x16x128_S1x1024x2048
/-- The last product. -/
def rR (o : FVec F S1x1024x2048 .bf16) (w : FVec F S2048x2048 .bf16) : FVec F S1x1024x2048 .f32 :=
  extf .f32 (truncf .bf16 (Host.dotGeneral dot_S1x1024x2048_S2048x2048_S1x1024x2048_2_0_01_1_n_n none o w) bitsLt_bf16_f32) bitsLt_bf16_f32

/-- The scores of the whole arrays. -/
def sc (x : FVec F S1x1024x2048 .bf16) (wd : FVec F S2048x512 .bf16) (wk : FVec F S512x2048 .bf16) (wq : FVec F S2048x2048 .bf16)
    (wqr : FVec F S2048x512 .bf16) (wkr : FVec F S2048x32 .bf16) : FVec F S1x16x1024x1024 .bf16 :=
  rS (rQ x wq) (rK (rC x wd) wk) (rQr (rC x wqr)) (rKr x wkr)
/-- The result of the whole arrays. -/
def whole (x : FVec F S1x1024x2048 .bf16) (wd : FVec F S2048x512 .bf16) (wk wv : FVec F S512x2048 .bf16) (wq : FVec F S2048x2048 .bf16)
    (wqr : FVec F S2048x512 .bf16) (wkr : FVec F S2048x32 .bf16) (wo : FVec F S2048x2048 .bf16) : FVec F S1x1024x2048 .f32 :=
  rR (rO (rK (rC x wd) wv) (rW (rP (sc x wd wk wq wqr wkr) (rM (sc x wd wk wq wqr wkr))))) wo

theorem res_eq (m : (ℓ : Loc nD τ sig) → Buf (Elt F) ℓ) (c : Dev nD) :
    res_main_v42 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

theorem rC_at (x : FVec Ideal S1x1024x2048 .bf16) (w : FVec Ideal S2048x512 .bf16) (s : Fin 1024) (j : Fin 512) :
    rC x w (ix3 0 s j) = ∑ k, x (ix3 0 s k) * w (ix2 k j) := by
  pointwise [rC]
theorem rK_at (x : FVec Ideal S1x1024x512 .bf16) (w : FVec Ideal S512x2048 .bf16) (s : Fin 1024) (h : Fin 16) (d : Fin 128) :
    rK x w (ix4 0 s h d) = ∑ k, x (ix3 0 s k) * w (ix2 k ⟨h.val * 128 + d.val, by omega⟩) := by
  pointwise [rK]
theorem rQ_at (x : FVec Ideal S1x1024x2048 .bf16) (w : FVec Ideal S2048x2048 .bf16) (s : Fin 1024) (h : Fin 16) (d : Fin 128) :
    rQ x w (ix4 0 s h d) = ∑ k, x (ix3 0 s k) * w (ix2 k ⟨h.val * 128 + d.val, by omega⟩) := by
  pointwise [rQ]
theorem rQr_at (x : FVec Ideal S1x1024x512 .bf16) (s : Fin 1024) (h : Fin 16) (d : Fin 32) :
    rQr x (ix4 0 s h d) = x (ix3 0 s ⟨h.val * 32 + d.val, by omega⟩) := by
  pointwise [rQr]
theorem rKr_at (x : FVec Ideal S1x1024x2048 .bf16) (w : FVec Ideal S2048x32 .bf16) (s : Fin 1024) (h : Fin 16) (d : Fin 32) :
    rKr x w (ix4 0 s h d) = ∑ k, x (ix3 0 s k) * w (ix2 k d) := by
  pointwise [rKr]
theorem rS_at (q k : FVec Ideal S1x1024x16x128 .bf16) (qr kr : FVec Ideal S1x1024x16x32 .bf16) (h : Fin 16) (s t : Fin 1024) :
    rS q k qr kr (ix4 0 h s t) = (∑ d, q (ix4 0 s h d) * k (ix4 0 t h d) + ∑ d, qr (ix4 0 s h d) * kr (ix4 0 t h d)) * Ideal.ofBits .bf16 0x3DA2#16 := by
  pointwise [rS]
theorem rM_at (a : FVec Ideal S1x16x1024x1024 .bf16) (h : Fin 16) (s : Fin 1024) :
    rM a (ix3 0 h s) = Finset.univ.sup fun t => a (ix4 0 h s t) := by
  pointwise [rM]
  rw [show Ideal.ofBits FTy.bf16 65408#16 = ⊥ by simp [Ideal.ofBits, Ideal.ieee]]
  rfl
theorem rP_at (a : FVec Ideal S1x16x1024x1024 .bf16) (mx : FVec Ideal S1x16x1024 .bf16) (h : Fin 16) (s t : Fin 1024) :
    rP a mx (ix4 0 h s t) = Ideal.exp (a (ix4 0 h s t) - mx (ix3 0 h s)) := by
  pointwise [rP]
theorem rW_at (p : FVec Ideal S1x16x1024x1024 .bf16) (h : Fin 16) (s t : Fin 1024) :
    rW p (ix4 0 h s t) = Ideal.div (p (ix4 0 h s t)) (∑ t', p (ix4 0 h s t')) := by
  pointwise [rW]
theorem rO_at (v : FVec Ideal S1x1024x16x128 .bf16) (w : FVec Ideal S1x16x1024x1024 .bf16) (s : Fin 1024) (e : Fin 2048) :
    rO v w (ix3 0 s e) = ∑ t, v (ix4 0 t ⟨e.val / 128, by omega⟩ ⟨e.val % 128, by omega⟩) * w (ix4 0 ⟨e.val / 128, by omega⟩ s t) := by
  pointwise [rO]
theorem rR_at (o : FVec Ideal S1x1024x2048 .bf16) (w : FVec Ideal S2048x2048 .bf16) (s : Fin 1024) (n : Fin 2048) :
    rR o w (ix3 0 s n) = ∑ e, o (ix3 0 s e) * w (ix2 e n) := by
  pointwise [rR]

end KProof.Ref
-- ==== Proof.Agree.lean ====
module

public import proofs.«01_k».proof.Proof.OutAt
public import proofs.«01_k».proof.Proof.RefAt

/-! The reference's result, read at an index, is the kernel's. -/

@[expose] public section

set_option maxRecDepth 16384

noncomputable section

namespace KProof

open Idealize.ShloMosaic Idealize.SL.Sem

/-- The arrays the scores are made of hold real numbers. -/
structure Finite (a : Whole) : Prop where
  x : ∀ s i, Re (a.x (ix3 0 s i))
  wd : ∀ i j, Re (a.wd (ix2 i j))
  wk : ∀ i j, Re (a.wk (ix2 i j))
  wq : ∀ i j, Re (a.wq (ix2 i j))
  wqr : ∀ i j, Re (a.wqr (ix2 i j))
  wkr : ∀ i j, Re (a.wkr (ix2 i j))

theorem Re.zero : Re 0 := ⟨0, by simp⟩
theorem Re.col {p q : ℕ} {w : ((⟨2, ![p, q]⟩ : Shape)).Idx → EReal} (h : ∀ i j, Re (w (ix2 i j))) (i : Fin p) (j : ℕ) : Re (KProof.col w i j) := by
  unfold KProof.col
  split
  · exact h _ _
  · exact Re.zero
theorem Re.row {p q : ℕ} {w : ((⟨2, ![p, q]⟩ : Shape)).Idx → EReal} (h : ∀ i j, Re (w (ix2 i j))) (i : ℕ) (j : Fin q) : Re (KProof.row w i j) := by
  unfold KProof.row
  split
  · exact h _ _
  · exact Re.zero
theorem Re.sigma : Re KProof.sigma := by
  simp only [KProof.sigma, Ideal.ofBits, Ideal.ieee]
  norm_num
  exact ⟨_, rfl⟩

section At
variable {a : Whole}

theorem Finite.K (h : Finite a) (t : Fin 1024) (j : ℕ) : Re (a.K t j) := by
  unfold Whole.K
  split
  · exact Re.sum _ fun k _ => (Re.sum _ fun i _ => (h.x t i).mul (Re.col h.wd i _)).mul (Re.row h.wk _ _)
  · exact Re.zero
theorem Finite.R (h : Finite a) (t : Fin 1024) (d : Fin 32) : Re (a.R t d) := Re.sum _ fun i _ => (h.x t i).mul (h.wkr i d)
theorem Finite.S (h : Finite a) (g i : Fin 4) (s t : Fin 1024) : Re (a.S g i s t) := by
  unfold Whole.S score
  exact (Re.sum _ fun d _ => (Re.sum _ fun k _ => (h.x s k).mul ((Re.col h.wq k _).mul Re.sigma)).mul (h.K t _)).add
    (Re.sum _ fun d _ => (Re.sum _ fun k _ => (h.x s k).mul ((Re.col h.wqr k _).mul Re.sigma)).mul (h.R t d))

/-- Head i of step g. -/
abbrev hh (g i : Fin 4) : Fin 16 := ⟨4 * g.val + i.val, by omega⟩

theorem refK (w : Vec Ideal ⟨2, ![512, 2048]⟩ .bf16) (t : Fin 1024) (g i : Fin 4) (d : Fin 128) (h : 512 * g.val + (128 * i.val + d.val) < 2048) :
    Ref.rK (F := Ideal) (Ref.rC a.x a.wd) w (ix4 0 t (hh g i) d) = ∑ k : Fin 512, term a.X (col a.wd) (row w) t ⟨512 * g.val + (128 * i.val + d.val), h⟩ k.val := by
  rw [Ref.rK_at]
  refine Finset.sum_congr rfl fun k _ => ?_
  rw [Ref.rC_at, row_fin w, term]
  refine congrArg₂ (· * ·) (Finset.sum_congr rfl fun j _ => by rw [col_fin a.wd]; rfl) (congrArg (row w k.val) (Fin.ext ?_))
  show (4 * g.val + i.val) * 128 + d.val = 512 * g.val + (128 * i.val + d.val)
  omega
theorem refK_K (t : Fin 1024) (g i : Fin 4) (d : Fin 128) : Ref.rK (F := Ideal) (Ref.rC a.x a.wd) a.wk (ix4 0 t (hh g i) d) = a.K t (512 * g.val + 128 * i.val + d.val) := by
  rw [refK _ t g i d (by omega), Whole.K, dif_pos (by omega)]
  simp only [Nat.add_assoc]
theorem refK_V (t : Fin 1024) (g i : Fin 4) (d : Fin 128) : Ref.rK (F := Ideal) (Ref.rC a.x a.wd) a.wv (ix4 0 t (hh g i) d) = a.V t (512 * g.val + (128 * i.val + d.val)) := by
  rw [refK _ t g i d (by omega), Whole.V, dif_pos (by omega)]

theorem ref_score (h : Finite a) (g i : Fin 4) (s t : Fin 1024) :
    Ref.sc (F := Ideal) a.x a.wd a.wk a.wq a.wqr a.wkr (ix4 0 (hh g i) s t) = a.S g i s t := by
  rw [Ref.sc, Ref.rS_at]
  unfold Whole.S score
  rw [scaled (a.X s) (fun k (d : Fin 128) => col a.wq k (512 * g.val + 128 * i.val + d.val)) (fun k (d : Fin 32) => col a.wqr k (128 * g.val + 32 * i.val + d.val))
    (fun d : Fin 128 => a.K t (512 * g.val + 128 * i.val + d.val)) (a.R t) sigma (h.x s) (fun k d => Re.col h.wq k _) (fun k d => Re.col h.wqr k _)
    (fun d => h.K t _) (h.R t) Re.sigma]
  refine congrArg (· * sigma) (congrArg₂ (· + ·) ?_ ?_)
  · refine Finset.sum_congr rfl fun d _ => ?_
    rw [refK_K, Ref.rQ_at]
    refine congrArg (· * _) (Finset.sum_congr rfl fun k _ => ?_)
    rw [col_fin a.wq]
    refine congrArg (_ * ·) (congrArg (col a.wq k) ?_)
    show (4 * g.val + i.val) * 128 + d.val = _
    omega
  · refine Finset.sum_congr rfl fun d _ => ?_
    rw [Ref.rQr_at, Ref.rKr_at, Ref.rC_at]
    refine congrArg₂ (· * ·) (Finset.sum_congr rfl fun k _ => ?_) rfl
    rw [col_fin a.wqr]
    refine congrArg (_ * ·) (congrArg (col a.wqr k) ?_)
    show (4 * g.val + i.val) * 32 + d.val = _
    omega

theorem ref_head (h : Finite a) (g i : Fin 4) (s : Fin 1024) (d : Fin 128) (e : Fin 2048) (he : e.val = 512 * g.val + (128 * i.val + d.val)) :
    Ref.rO (F := Ideal) (Ref.rK (Ref.rC a.x a.wd) a.wv) (Ref.rW (Ref.rP (Ref.sc (F := Ideal) a.x a.wd a.wk a.wq a.wqr a.wkr) (Ref.rM (Ref.sc (F := Ideal) a.x a.wd a.wk a.wq a.wqr a.wkr)))) (ix3 0 s e)
      = a.O g i s d := by
  rw [Ref.rO_at]
  have e1 : (⟨e.val / 128, by omega⟩ : Fin 16) = hh g i := Fin.ext (by show e.val / 128 = 4 * g.val + i.val; omega)
  have e2 : (⟨e.val % 128, by omega⟩ : Fin 128) = d := Fin.ext (by show e.val % 128 = d.val; omega)
  rw [e1, e2]
  obtain ⟨r, hr⟩ := Re.pick (f := fun t => a.S g i s t) fun t => h.S g i s t
  have hr' : ∀ t, a.S g i s t = (r t : EReal) := fun t => congrFun hr t
  obtain ⟨M, hM⟩ : Re (Ref.rM (F := Ideal) (Ref.sc (F := Ideal) a.x a.wd a.wk a.wq a.wqr a.wkr) (ix3 0 (hh g i) s)) := by
    rw [Ref.rM_at]
    exact Re.sup fun t => by rw [ref_score h]; exact h.S g i s t
  simp only [Ref.rW_at, Ref.rP_at, hM, ref_score h, refK_V, Whole.O, mix, hr']
  exact (soft r M fun t => a.V t (512 * g.val + (128 * i.val + d.val))).symm

theorem ref_at (h : Finite a) (s : Fin 1024) (n : Fin 2048) :
    Ref.whole (F := Ideal) a.x a.wd a.wk a.wv a.wq a.wqr a.wkr a.wo (ix3 0 s n)
      = ∑ g : Fin 4, ∑ i : Fin 4, ∑ d : Fin 128, a.O g i s d * row a.wo (512 * g.val + (128 * i.val + d.val)) n := by
  rw [Ref.whole, Ref.rR_at]
  generalize hq : Ref.rO (F := Ideal) (Ref.rK (Ref.rC a.x a.wd) a.wv) (Ref.rW (Ref.rP (Ref.sc (F := Ideal) a.x a.wd a.wk a.wq a.wqr a.wkr) (Ref.rM (Ref.sc (F := Ideal) a.x a.wd a.wk a.wq a.wqr a.wkr)))) = q
  have hO : ∀ (g i : Fin 4) (d : Fin 128) (e : Fin 2048), e.val = 512 * g.val + (128 * i.val + d.val) → q (ix3 0 s e) = a.O g i s d := fun g i d e he => by
    rw [← hq]; exact ref_head h g i s d e he
  have f : ∀ e : Fin 2048, q (ix3 0 s e) * a.wo (ix2 e n) = (fun j : ℕ => (if hj : j < 2048 then q (ix3 0 s ⟨j, hj⟩) else 0) * row a.wo j n) e.val := fun e => by
    show _ = (if hj : e.val < 2048 then q (ix3 0 s ⟨e.val, hj⟩) else 0) * row a.wo e.val n
    rw [dif_pos e.isLt, ← row_fin a.wo]
  refine (Finset.sum_congr rfl fun e _ => f e).trans ?_
  refine (sum_blocks 4 512 2048 rfl (fun j : ℕ => (if hj : j < 2048 then q (ix3 0 s ⟨j, hj⟩) else 0) * row a.wo j n)).trans ?_
  refine Finset.sum_congr rfl fun g _ => ?_
  refine (sum_blocks 4 128 512 rfl fun j => (if hj : 512 * g.val + j < 2048 then q (ix3 0 s ⟨512 * g.val + j, hj⟩) else 0) * row a.wo (512 * g.val + j) n).trans ?_
  refine Finset.sum_congr rfl fun i _ => Finset.sum_congr rfl fun d _ => ?_
  rw [dif_pos (by omega), hO g i d _ rfl]

end At

end KProof
-- ==== Proof.Final.lean ====
module

public import proofs.«01_k».proof.Proof.Agree
public import proofs.«01_k».proof.Proof.Run
public import proofs.«01_k».proof.Proof.Gen.ReferenceIdeal.Run
public import proofs.«01_k».proof.Defs
public import Idealize.ShloMosaic.Lib.Quiescent

/-! The claims on the reference, and the equality of the two results. -/

@[expose] public section

set_option maxRecDepth 100000

noncomputable section

namespace Cert.Proof

open Idealize.ShloMosaic Idealize.SL.Sem KProof

instance preK : Cert.Pre_real_KernelIdeal.Facts := ⟨by decide, by decide, by decide, by decide, by decide, by decide⟩
instance preR : Cert.Pre_real_ReferenceIdeal.Facts := by constructor <;> decide

/-- The reference declares no counter; its run leaves the arguments. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- An entry whose absolute value is below the infinity is a real number. -/
theorem re_of {S : Shape} {h : (⟨0, ![]⟩ : Shape).BroadcastsInDim S (![] : Fin 0 → Fin S.rank)} {v : FVec Ideal S .bf16}
    (e : cmpf .olt (Host.absf v) (broadcastInDim S ![] h (constant (F := Ideal) ⟨0, ![]⟩ .bf16 0x7F80#16)) = fun _ => 1#1) (i : S.Idx) : Re (v i) := by
  have htop : Ideal.ofBits .bf16 0x7F80#16 = ⊤ := by simp [Ideal.ofBits, Ideal.ieee]
  have e1 : Ideal.cmp .olt (max (v i : EReal) (-(v i : EReal))) (Ideal.ofBits .bf16 0x7F80#16) = 1#1 := congrFun e i
  rw [htop] at e1
  refine Re.of_abs_lt ?_
  by_contra hn
  unfold Ideal.cmp at e1
  simp [hn] at e1

/-- A block of columns, read in the whole. -/
theorem cut_col (v : (⟨2, ![2048, 512]⟩ : Shape).Idx → EReal) (c : Fin 32) (i : Fin 2048) (j : Fin 128) :
    Layout.blockN ⟨2, ![2048, 128]⟩ ⟨2, ![2048, 512]⟩ (Layout.meshBlock [2, 4, 4] ![[], [2]] c) v (by decide) (ix2 i j)
      = v (ix2 i ⟨128 * (c.val % 4) + j.val, by have := j.isLt; omega⟩) := by
  rw [Layout.blockN_apply]
  refine congrArg v (funext fun b => Fin.ext ?_)
  have hm : Layout.meshLin [2, 4, 4] c.val [2] = c.val % 4 := by revert c; decide
  match b with
  | ⟨0, _⟩ => show 0 * 2048 + i.val = i.val; omega
  | ⟨1, _⟩ => show Layout.meshLin [2, 4, 4] c.val [2] * 128 + j.val = 128 * (c.val % 4) + j.val; rw [hm]; omega
/-- A block of rows, read in the whole. -/
theorem cut_row (v : (⟨2, ![512, 2048]⟩ : Shape).Idx → EReal) (c : Fin 32) (i : Fin 128) (j : Fin 2048) :
    Layout.blockN ⟨2, ![128, 2048]⟩ ⟨2, ![512, 2048]⟩ (Layout.meshBlock [2, 4, 4] ![[2], []] c) v (by decide) (ix2 i j)
      = v (ix2 ⟨128 * (c.val % 4) + i.val, by have := i.isLt; omega⟩ j) := by
  rw [Layout.blockN_apply]
  refine congrArg v (funext fun b => Fin.ext ?_)
  have hm : Layout.meshLin [2, 4, 4] c.val [2] = c.val % 4 := by revert c; decide
  match b with
  | ⟨0, _⟩ => show Layout.meshLin [2, 4, 4] c.val [2] * 128 + i.val = 128 * (c.val % 4) + i.val; rw [hm]; omega
  | ⟨1, _⟩ => show 0 * 2048 + j.val = j.val; omega

/-- The reference's arrays. -/
def wholeOf (m' : (ℓ : Loc Cert.ReferenceIdeal.nD Cert.ReferenceIdeal.τ Cert.ReferenceIdeal.sig) → Buf (Elt Ideal) ℓ) : Whole where
  x := m' (((0 : Dev Cert.ReferenceIdeal.nD).tc : Thread Cert.ReferenceIdeal.nD Cert.ReferenceIdeal.τ).loc Cert.ReferenceIdeal.main_arg0)
  wd := m' (((0 : Dev Cert.ReferenceIdeal.nD).tc : Thread Cert.ReferenceIdeal.nD Cert.ReferenceIdeal.τ).loc Cert.ReferenceIdeal.main_arg1)
  wk := m' (((0 : Dev Cert.ReferenceIdeal.nD).tc : Thread Cert.ReferenceIdeal.nD Cert.ReferenceIdeal.τ).loc Cert.ReferenceIdeal.main_arg2)
  wv := m' (((0 : Dev Cert.ReferenceIdeal.nD).tc : Thread Cert.ReferenceIdeal.nD Cert.ReferenceIdeal.τ).loc Cert.ReferenceIdeal.main_arg3)
  wq := m' (((0 : Dev Cert.ReferenceIdeal.nD).tc : Thread Cert.ReferenceIdeal.nD Cert.ReferenceIdeal.τ).loc Cert.ReferenceIdeal.main_arg4)
  wqr := m' (((0 : Dev Cert.ReferenceIdeal.nD).tc : Thread Cert.ReferenceIdeal.nD Cert.ReferenceIdeal.τ).loc Cert.ReferenceIdeal.main_arg5)
  wkr := m' (((0 : Dev Cert.ReferenceIdeal.nD).tc : Thread Cert.ReferenceIdeal.nD Cert.ReferenceIdeal.τ).loc Cert.ReferenceIdeal.main_arg6)
  wo := m' (((0 : Dev Cert.ReferenceIdeal.nD).tc : Thread Cert.ReferenceIdeal.nD Cert.ReferenceIdeal.τ).loc Cert.ReferenceIdeal.main_arg7)

/-- Device j / 128 has block j / 128. -/
def blk (j : Fin 512) : Dev Cert.KernelIdeal.nD := (⟨j.val / 128, by have := j.isLt; omega⟩ : Fin 32)
theorem dev_of (j : Fin 512) : (blk j).val % 4 = j.val / 128 := by
  have := j.isLt; show j.val / 128 % 4 = j.val / 128; omega

theorem algebraic : Cert.algebraic_KernelIdeal_ReferenceIdeal_pre_real_KernelIdeal := by
  intro m g m' g' hpre hag
  have hH : Holds m (wholeOf m') := {
    x := fun c s i => congrFun (hag c).1 _
    wd := fun c i j => by
      refine (congrFun (hag c).2.1 (ix2 i j)).trans ((cut_col _ c i j).trans ?_)
      exact col_fin (wholeOf m').wd i ⟨128 * (c.val % 4) + j.val, by have := j.isLt; omega⟩
    wk := fun c i j => by
      refine (congrFun (hag c).2.2.1 (ix2 i j)).trans ((cut_row _ c i j).trans ?_)
      exact row_fin (wholeOf m').wk ⟨128 * (c.val % 4) + i.val, by have := i.isLt; omega⟩ j
    wv := fun c i j => by
      refine (congrFun (hag c).2.2.2.1 (ix2 i j)).trans ((cut_row _ c i j).trans ?_)
      exact row_fin (wholeOf m').wv ⟨128 * (c.val % 4) + i.val, by have := i.isLt; omega⟩ j
    wq := fun c => (hag c).2.2.2.2.1
    wqr := fun c => (hag c).2.2.2.2.2.1
    wkr := fun c => (hag c).2.2.2.2.2.2.1
    wo := fun c => (hag c).2.2.2.2.2.2.2 }
  have hF : Finite (wholeOf m') := {
    x := fun s i => hH.x 0 s i ▸ re_of (hpre 0).1 (ix3 0 s i)
    wd := fun i j => by
      have e := hH.wd (blk j) i ⟨j.val % 128, Nat.mod_lt _ (by decide)⟩
      have h := re_of (hpre (blk j)).2.1 (ix2 i ⟨j.val % 128, Nat.mod_lt _ (by decide)⟩)
      rw [dev_of, show 128 * (j.val / 128) + (⟨j.val % 128, Nat.mod_lt _ (by decide)⟩ : Fin 128).val = j.val from Nat.div_add_mod _ _, ← col_fin] at e
      exact e ▸ h
    wk := fun j n => by
      have e := hH.wk (blk j) ⟨j.val % 128, Nat.mod_lt _ (by decide)⟩ n
      have h := re_of (hpre (blk j)).2.2.1 (ix2 ⟨j.val % 128, Nat.mod_lt _ (by decide)⟩ n)
      rw [dev_of, show 128 * (j.val / 128) + (⟨j.val % 128, Nat.mod_lt _ (by decide)⟩ : Fin 128).val = j.val from Nat.div_add_mod _ _, ← row_fin] at e
      exact e ▸ h
    wq := fun i j => congrFun (hH.wq 0) (ix2 i j) ▸ re_of (hpre 0).2.2.2.1 (ix2 i j)
    wqr := fun i j => congrFun (hH.wqr 0) (ix2 i j) ▸ re_of (hpre 0).2.2.2.2.1 (ix2 i j)
    wkr := fun i j => congrFun (hH.wkr 0) (ix2 i j) ▸ re_of (hpre 0).2.2.2.2.2 (ix2 i j) }
  have hV : ∀ c : Dev Cert.KernelIdeal.nD, W4 m c (Proc.tc.devRef Cert.KernelIdeal.main_v5) = Cert.ReferenceIdeal.Value.res_main_v42 (F := Ideal) m' 0 := fun c => by
    rw [Ref.res_eq]
    refine funext fun (q : (⟨3, ![1, 1024, 2048]⟩ : Shape).Idx) => ?_
    have hq : q = ix3 0 (q 1) (q 2) := by
      refine (eq_ix3 q).trans ?_
      exact congrArg (fun z : Fin 1 => (ix3 z (q 1) (q 2) : (⟨3, ![1, 1024, 2048]⟩ : Shape).Idx)) (Subsingleton.elim (α := Fin 1) _ _)
    rw [hq]
    exact (out_at hH c (q 1) (q 2)).trans (ref_at hF (q 1) (q 2)).symm
  refine ⟨Cert.ReferenceIdeal.Value.res_main_v42 (F := Ideal) m' 0, ?_, ?_⟩
  · refine (θ_run Cert.KernelIdeal.defs _ _).mono (fun r h c => ?_) (KProof.run_main (F := Ideal) m g)
    have e := h.1 c
    obtain ⟨e0, e1, e2, e3, e4, e5, e6, e7, e8⟩ := e
    exact ⟨e8.trans (hV c), e0, e1, e2, e3, e4, e5, e6, e7⟩
  · exact (θ_run Cert.ReferenceIdeal.defs _ _).mono (fun r h => h 0) (Cert.ReferenceIdeal.Value.run (F := Ideal) m' g')

end Cert.Proof

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Run
public import proofs.«01_k».proof.Proof.Final
public import Idealize.ShloMosaic.Adequacy
public import Idealize.ShloMosaic.Init

@[expose] public section

set_option maxRecDepth 100000

noncomputable section

namespace Cert.Proof

open Idealize.ShloMosaic Idealize.SL.Sem

theorem frame_kernelIdeal : Cert.quiescent_KernelIdeal := fun m ρ _ => KProof.frame_main (F := Ideal) m ρ
set_option maxHeartbeats 4000000 in
/-- The two programs are one text. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl
  | ⟨1, _⟩, (t, s) => rfl
theorem defs_eq : Cert.Kernel.defs (F := Bits) = Cert.KernelIdeal.defs (F := Bits) := congrArg (Pipeline.defs (Cert.KernelIdeal.pcfgs (F := Bits))) bodies_eq

theorem frame_kernel : Cert.quiescent_Kernel := fun m ρ _ => by
  rw [defs_eq]
  exact KProof.frame_main (F := Bits) m ρ

theorem claim : Cert.Claim :=
  ⟨Cert.Kernel.Gen.facts, Cert.KernelIdeal.Gen.facts, Cert.ReferenceIdeal.Gen.facts, preK, preR, frame_kernel, frame_kernelIdeal,
    fun m g _ => frame_kernelIdeal m g trivial, frame_referenceIdeal, fun m g _ => frame_referenceIdeal m g trivial, trivial, algebraic⟩

end Cert.Proof

end
